-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  IdealRules.named_const.Statement Cert.KernelIdeal.κ "scale2" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "mask" .f32 0xF149F2CA#32 ⊥
  ∧ IdealRules.named_const.Statement Cert.Kernel11Ideal.κ "scale2" .f32 0x3E16C740#32 (((3424635 / 33554432) * (Real.log 2)⁻¹ : ℝ) : EReal)
  ∧ IdealRules.named_const.Statement Cert.Kernel11Ideal.κ "log2e" .f32 0x3FB8AA3B#32 (((Real.log 2)⁻¹ : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥
  ∧ IdealRules.named_const.Statement Cert.Kernel12Ideal.κ "scale2" .f32 0x3E0293EE#32 (((11863283 / 134217728) * (Real.log 2)⁻¹ : ℝ) : EReal)
  ∧ IdealRules.named_const.Statement Cert.Kernel12Ideal.κ "log2e" .f32 0x3FB8AA3B#32 (((Real.log 2)⁻¹ : ℝ) : EReal)

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_arg2 : FVec F S1x8192x8x64 .f32) (main_arg3 : FVec F S1x8192x512 .f32) (main_v12 : IVec S_ 1) (main_v14 : IVec S1x8192x8x64 1) (main_v15 : FVec F S1x8192x8x64 .f32) : IVec S_ 1 :=
  let main_v16 : IVec S1x8192x8x64 1 := cmpf .olt main_arg2 main_v15
  let main_v17 : IVec S1x8192x8x64 1 := andi main_v14 main_v16
  let main_c_6 : IVec S_ 1 := constantI S_ 1 1#1
  let main_v18 : IVec S_ 1 := (fun x v => Host.reduce IntOp.andi x v reducesTo_S1x8192x8x64_S_d0_1_2_3 h_S_) main_v17 main_c_6
  let main_v19 : IVec S_ 1 := andi main_v12 main_v18
  let main_cst_7 : FVec F S_ .f32 := constant S_ .f32 0xFF800000#32
  let main_v20 : FVec F S1x8192x512 .f32 := broadcastInDim S1x8192x512 ![] bcast_S_S1x8192x512 main_cst_7
  let main_v21 : IVec S1x8192x512 1 := cmpf .ogt main_arg3 main_v20
  let main_cst_8 : FVec F S_ .f32 := constant S_ .f32 0x7F800000#32
  let main_v22 : FVec F S1x8192x512 .f32 := broadcastInDim S1x8192x512 ![] bcast_S_S1x8192x512 main_cst_8
  let main_v23 : IVec S1x8192x512 1 := cmpf .olt main_arg3 main_v22
  let main_v24 : IVec S1x8192x512 1 := andi main_v21 main_v23
  let main_c_9 : IVec S_ 1 := constantI S_ 1 1#1
  let main_v25 : IVec S_ 1 := (fun x v => Host.reduce IntOp.andi x v reducesTo_S1x8192x512_S_d0_1_2 h_S_) main_v24 main_c_9
  let main_v26 : IVec S_ 1 := andi main_v19 main_v25
  main_v26

def fn {F : FTy → Type} [FloatOps F] (main_arg0 : FVec F S1x8192x8x96 .f32) (main_arg1 : FVec F S1x8192x8x96 .f32) (main_arg2 : FVec F S1x8192x8x64 .f32) (main_arg3 : FVec F S1x8192x512 .f32) : IVec S_ 1 :=
  let main_cst : FVec F S_ .f32 := constant S_ .f32 0xFF800000#32
  let main_v0 : FVec F S1x8192x8x96 .f32 := broadcastInDim S1x8192x8x96 ![] bcast_S_S1x8192x8x96 main_cst
  let main_v1 : IVec S1x8192x8x96 1 := cmpf .ogt main_arg0 main_v0
  let main_cst_0 : FVec F S_ .f32 := constant S_ .f32 0x7F800000#32
  let main_v2 : FVec F S1x8192x8x96 .f32 := broadcastInDim S1x8192x8x96 ![] bcast_S_S1x8192x8x96 main_cst_0
  let main_v3 : IVec S1x8192x8x96 1 := cmpf .olt main_arg0 main_v2
  let main_v4 : IVec S1x8192x8x96 1 := andi main_v1 main_v3
  let main_c : IVec S_ 1 := constantI S_ 1 1#1
  let main_v5 : IVec S_ 1 := (fun x v => Host.reduce IntOp.andi x v reducesTo_S1x8192x8x96_S_d0_1_2_3 h_S_) main_v4 main_c
  let main_cst_1 : FVec F S_ .f32 := constant S_ .f32 0xFF800000#32
  let main_v6 : FVec F S1x8192x8x96 .f32 := broadcastInDim S1x8192x8x96 ![] bcast_S_S1x8192x8x96 main_cst_1
  let main_v7 : IVec S1x8192x8x96 1 := cmpf .ogt main_arg1 main_v6
  let main_cst_2 : FVec F S_ .f32 := constant S_ .f32 0x7F800000#32
  let main_v8 : FVec F S1x8192x8x96 .f32 := broadcastInDim S1x8192x8x96 ![] bcast_S_S1x8192x8x96 main_cst_2
  let main_v9 : IVec S1x8192x8x96 1 := cmpf .olt main_arg1 main_v8
  let main_v10 : IVec S1x8192x8x96 1 := andi main_v7 main_v9
  let main_c_3 : IVec S_ 1 := constantI S_ 1 1#1
  let main_v11 : IVec S_ 1 := (fun x v => Host.reduce IntOp.andi x v reducesTo_S1x8192x8x96_S_d0_1_2_3 h_S_) main_v10 main_c_3
  let main_v12 : IVec S_ 1 := andi main_v5 main_v11
  let main_cst_4 : FVec F S_ .f32 := constant S_ .f32 0xFF800000#32
  let main_v13 : FVec F S1x8192x8x64 .f32 := broadcastInDim S1x8192x8x64 ![] bcast_S_S1x8192x8x64 main_cst_4
  let main_v14 : IVec S1x8192x8x64 1 := cmpf .ogt main_arg2 main_v13
  let main_cst_5 : FVec F S_ .f32 := constant S_ .f32 0x7F800000#32
  let main_v15 : FVec F S1x8192x8x64 .f32 := broadcastInDim S1x8192x8x64 ![] bcast_S_S1x8192x8x64 main_cst_5
  fn_part1 (F := F) main_arg2 main_arg3 main_v12 main_v14 main_v15
-- ==== Pre_finite11.lean ====
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn_part1 {F : FTy → Type} [FloatOps F] (main_arg2 : FVec F S1x8192x8x64 .f32) (main_v12 : IVec S_ 1) (main_v14 : IVec S1x8192x8x64 1) (main_v15 : FVec F S1x8192x8x64 .f32) : IVec S_ 1 :=
  let main_v16 : IVec S1x8192x8x64 1 := cmpf .olt main_arg2 main_v15
  let main_v17 : IVec S1x8192x8x64 1 := andi main_v14 main_v16
  let main_c_6 : IVec S_ 1 := constantI S_ 1 1#1
  let main_v18 : IVec S_ 1 := (fun x v => Host.reduce IntOp.andi x v reducesTo_S1x8192x8x64_S_d0_1_2_3 h_S_) main_v17 main_c_6
  let main_v19 : IVec S_ 1 := andi main_v12 main_v18
  main_v19

def fn {F : FTy → Type} [FloatOps F] (main_arg0 : FVec F S1x8192x8x96 .f32) (main_arg1 : FVec F S1x8192x8x96 .f32) (main_arg2 : FVec F S1x8192x8x64 .f32) : IVec S_ 1 :=
  let main_cst : FVec F S_ .f32 := constant S_ .f32 0xFF800000#32
  let main_v0 : FVec F S1x8192x8x96 .f32 := broadcastInDim S1x8192x8x96 ![] bcast_S_S1x8192x8x96 main_cst
  let main_v1 : IVec S1x8192x8x96 1 := cmpf .ogt main_arg0 main_v0
  let main_cst_0 : FVec F S_ .f32 := constant S_ .f32 0x7F800000#32
  let main_v2 : FVec F S1x8192x8x96 .f32 := broadcastInDim S1x8192x8x96 ![] bcast_S_S1x8192x8x96 main_cst_0
  let main_v3 : IVec S1x8192x8x96 1 := cmpf .olt main_arg0 main_v2
  let main_v4 : IVec S1x8192x8x96 1 := andi main_v1 main_v3
  let main_c : IVec S_ 1 := constantI S_ 1 1#1
  let main_v5 : IVec S_ 1 := (fun x v => Host.reduce IntOp.andi x v reducesTo_S1x8192x8x96_S_d0_1_2_3 h_S_) main_v4 main_c
  let main_cst_1 : FVec F S_ .f32 := constant S_ .f32 0xFF800000#32
  let main_v6 : FVec F S1x8192x8x96 .f32 := broadcastInDim S1x8192x8x96 ![] bcast_S_S1x8192x8x96 main_cst_1
  let main_v7 : IVec S1x8192x8x96 1 := cmpf .ogt main_arg1 main_v6
  let main_cst_2 : FVec F S_ .f32 := constant S_ .f32 0x7F800000#32
  let main_v8 : FVec F S1x8192x8x96 .f32 := broadcastInDim S1x8192x8x96 ![] bcast_S_S1x8192x8x96 main_cst_2
  let main_v9 : IVec S1x8192x8x96 1 := cmpf .olt main_arg1 main_v8
  let main_v10 : IVec S1x8192x8x96 1 := andi main_v7 main_v9
  let main_c_3 : IVec S_ 1 := constantI S_ 1 1#1
  let main_v11 : IVec S_ 1 := (fun x v => Host.reduce IntOp.andi x v reducesTo_S1x8192x8x96_S_d0_1_2_3 h_S_) main_v10 main_c_3
  let main_v12 : IVec S_ 1 := andi main_v5 main_v11
  let main_cst_4 : FVec F S_ .f32 := constant S_ .f32 0xFF800000#32
  let main_v13 : FVec F S1x8192x8x64 .f32 := broadcastInDim S1x8192x8x64 ![] bcast_S_S1x8192x8x64 main_cst_4
  let main_v14 : IVec S1x8192x8x64 1 := cmpf .ogt main_arg2 main_v13
  let main_cst_5 : FVec F S_ .f32 := constant S_ .f32 0x7F800000#32
  let main_v15 : FVec F S1x8192x8x64 .f32 := broadcastInDim S1x8192x8x64 ![] bcast_S_S1x8192x8x64 main_cst_5
  fn_part1 (F := F) main_arg2 main_v12 main_v14 main_v15
-- ==== Pre_finite12.lean ====
abbrev S1x8192x4x128 : Shape := ⟨4, ![1, 8192, 4, 128]⟩
abbrev S1x256x4x128 : Shape := ⟨4, ![1, 256, 4, 128]⟩
abbrev S1x256x1024 : Shape := ⟨3, ![1, 256, 1024]⟩
abbrev S_ : Shape := ⟨0, ![]⟩

class Facts : Prop where
  bcast_S_S1x8192x4x128 : S_.BroadcastsInDim S1x8192x4x128 (![] : Fin 0 → Fin S1x8192x4x128.rank)
  reducesTo_S1x8192x4x128_S_d0_1_2_3 : S1x8192x4x128.ReducesTo [0, 1, 2, 3] S_
  h_S_ : 0 < S_.numel
  bcast_S_S1x256x4x128 : S_.BroadcastsInDim S1x256x4x128 (![] : Fin 0 → Fin S1x256x4x128.rank)
  reducesTo_S1x256x4x128_S_d0_1_2_3 : S1x256x4x128.ReducesTo [0, 1, 2, 3] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part1 {F : FTy → Type} [FloatOps F] (main_arg2 : FVec F S1x256x1024 .f32) (main_v12 : IVec S_ 1) (main_v14 : IVec S1x256x1024 1) (main_v15 : FVec F S1x256x1024 .f32) : IVec S_ 1 :=
  let main_v16 : IVec S1x256x1024 1 := cmpf .olt main_arg2 main_v15
  let main_v17 : IVec S1x256x1024 1 := andi main_v14 main_v16
  let main_c_6 : IVec S_ 1 := constantI S_ 1 1#1
  let main_v18 : IVec S_ 1 := (fun x v => Host.reduce IntOp.andi x v reducesTo_S1x256x1024_S_d0_1_2 h_S_) main_v17 main_c_6
  let main_v19 : IVec S_ 1 := andi main_v12 main_v18
  main_v19

def fn {F : FTy → Type} [FloatOps F] (main_arg0 : FVec F S1x8192x4x128 .f32) (main_arg1 : FVec F S1x256x4x128 .f32) (main_arg2 : FVec F S1x256x1024 .f32) : IVec S_ 1 :=
  let main_cst : FVec F S_ .f32 := constant S_ .f32 0xFF800000#32
  let main_v0 : FVec F S1x8192x4x128 .f32 := broadcastInDim S1x8192x4x128 ![] bcast_S_S1x8192x4x128 main_cst
  let main_v1 : IVec S1x8192x4x128 1 := cmpf .ogt main_arg0 main_v0
  let main_cst_0 : FVec F S_ .f32 := constant S_ .f32 0x7F800000#32
  let main_v2 : FVec F S1x8192x4x128 .f32 := broadcastInDim S1x8192x4x128 ![] bcast_S_S1x8192x4x128 main_cst_0
  let main_v3 : IVec S1x8192x4x128 1 := cmpf .olt main_arg0 main_v2
  let main_v4 : IVec S1x8192x4x128 1 := andi main_v1 main_v3
  let main_c : IVec S_ 1 := constantI S_ 1 1#1
  let main_v5 : IVec S_ 1 := (fun x v => Host.reduce IntOp.andi x v reducesTo_S1x8192x4x128_S_d0_1_2_3 h_S_) main_v4 main_c
  let main_cst_1 : FVec F S_ .f32 := constant S_ .f32 0xFF800000#32
  let main_v6 : FVec F S1x256x4x128 .f32 := broadcastInDim S1x256x4x128 ![] bcast_S_S1x256x4x128 main_cst_1
  let main_v7 : IVec S1x256x4x128 1 := cmpf .ogt main_arg1 main_v6
  let main_cst_2 : FVec F S_ .f32 := constant S_ .f32 0x7F800000#32
  let main_v8 : FVec F S1x256x4x128 .f32 := broadcastInDim S1x256x4x128 ![] bcast_S_S1x256x4x128 main_cst_2
  let main_v9 : IVec S1x256x4x128 1 := cmpf .olt main_arg1 main_v8
  let main_v10 : IVec S1x256x4x128 1 := andi main_v7 main_v9
  let main_c_3 : IVec S_ 1 := constantI S_ 1 1#1
  let main_v11 : IVec S_ 1 := (fun x v => Host.reduce IntOp.andi x v reducesTo_S1x256x4x128_S_d0_1_2_3 h_S_) main_v10 main_c_3
  let main_v12 : IVec S_ 1 := andi main_v5 main_v11
  let main_cst_4 : FVec F S_ .f32 := constant S_ .f32 0xFF800000#32
  let main_v13 : FVec F S1x256x1024 .f32 := broadcastInDim S1x256x1024 ![] bcast_S_S1x256x1024 main_cst_4
  let main_v14 : IVec S1x256x1024 1 := cmpf .ogt main_arg2 main_v13
  let main_cst_5 : FVec F S_ .f32 := constant S_ .f32 0x7F800000#32
  let main_v15 : FVec F S1x256x1024 .f32 := broadcastInDim S1x256x1024 ![] bcast_S_S1x256x1024 main_cst_5
  fn_part1 (F := F) main_arg2 main_v12 main_v14 main_v15
-- ==== Kernel.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S36 : Shape := ⟨1, ![36]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x1x8192 : Shape := ⟨3, ![8, 1, 8192]⟩
abbrev S8192x8x64 : Shape := ⟨3, ![8192, 8, 64]⟩
abbrev S8192x8 : Shape := ⟨2, ![8192, 8]⟩
abbrev S8x8192 : Shape := ⟨2, ![8, 8192]⟩
abbrev S8192x8x96 : Shape := ⟨3, ![8192, 8, 96]⟩
abbrev S8192x8x128 : Shape := ⟨3, ![8192, 8, 128]⟩
abbrev S8192x1024 : Shape := ⟨2, ![8192, 1024]⟩
abbrev S1024x8192 : Shape := ⟨2, ![1024, 8192]⟩
abbrev S8x8x128x1024 : Shape := ⟨4, ![8, 8, 128, 1024]⟩
abbrev S1024x128 : Shape := ⟨2, ![1024, 128]⟩
abbrev S1 : Shape := ⟨1, ![1]⟩
abbrev S128x1024 : Shape := ⟨2, ![128, 1024]⟩
abbrev S1x1x1024 : Shape := ⟨3, ![1, 1, 1024]⟩
abbrev S1x8x128x1024 : Shape := ⟨4, ![1, 8, 128, 1024]⟩
abbrev S1024x1024 : Shape := ⟨2, ![1024, 1024]⟩
abbrev S1x1024 : Shape := ⟨2, ![1, 1024]⟩
abbrev S1x1x128x1024 : Shape := ⟨4, ![1, 1, 128, 1024]⟩

abbrev nBuf : Space → Nat
  | .hbm => 64
  | .vmem => 20
  | .smem => 2
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x512, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S1x8x8192x8192, .i32⟩
  | .hbm, ⟨9, _⟩ => ⟨S1x8x8192x8192, .i32⟩
  | .hbm, ⟨10, _⟩ => ⟨S1x8x8192x8192, .i1⟩
  | .hbm, ⟨11, _⟩ => ⟨S_, .f32⟩
  | .hbm, ⟨12, _⟩ => ⟨S1x8x8192x8192, .f32⟩
  | .hbm, ⟨13, _⟩ => ⟨S1x8x8192x8192, .f32⟩
  | .hbm, ⟨14, _⟩ => ⟨S_, .f32⟩
  | .hbm, ⟨15, _⟩ => ⟨S1x8x8192, .f32⟩
  | .hbm, ⟨16, _⟩ => ⟨S1x8x8192x1, .f32⟩
  | .hbm, ⟨17, _⟩ => ⟨S1x8x8192x8192, .f32⟩
  | .hbm, ⟨18, _⟩ => ⟨S1x8x8192x8192, .f32⟩
  | .hbm, ⟨19, _⟩ => ⟨S1x8x8192x8192, .f32⟩
  | .hbm, ⟨20, _⟩ => ⟨S_, .f32⟩
  | .hbm, ⟨21, _⟩ => ⟨S1x8x8192, .f32⟩
  | .hbm, ⟨22, _⟩ => ⟨S1x8x8192x1, .f32⟩
  | .hbm, ⟨23, _⟩ => ⟨S1x8x8192x8192, .f32⟩
  | .hbm, ⟨24, _⟩ => ⟨S1x8x8192x8192, .f32⟩
  | .hbm, ⟨25, _⟩ => ⟨S1x8x64x8192, .f32⟩
  | .hbm, ⟨26, _⟩ => ⟨S1x8192x8x64, .f32⟩
  | .hbm, ⟨27, _⟩ => ⟨S1x8x8192x1, .f32⟩
  | .hbm, ⟨28, _⟩ => ⟨S1x8x8192x1, .f32⟩
  | .hbm, ⟨29, _⟩ => ⟨S_, .f32⟩
  | .hbm, ⟨30, _⟩ => ⟨S_, .f32⟩
  | .hbm, ⟨31, _⟩ => ⟨S1x8x8192x1, .f32⟩
  | .hbm, ⟨32, _⟩ => ⟨S1x8x8192x1, .f32⟩
  | .hbm, ⟨33, _⟩ => ⟨S8x1x8192, .f32⟩
  | .hbm, ⟨34, _⟩ => ⟨S8192x8x64, .f32⟩
  | .hbm, ⟨35, _⟩ => ⟨S8192x8x64, .f32⟩
  | .hbm, ⟨36, _⟩ => ⟨S8192x8x64, .f32⟩
  | .hbm, ⟨37, _⟩ => ⟨S_, .f32⟩
  | .hbm, ⟨38, _⟩ => ⟨S8192x8, .f32⟩
  | .hbm, ⟨39, _⟩ => ⟨S8x8192, .f32⟩
  | .hbm, ⟨40, _⟩ => ⟨S8x1x8192, .f32⟩
  | .hbm, ⟨41, _⟩ => ⟨S8192x8x96, .f32⟩
  | .hbm, ⟨42, _⟩ => ⟨S_, .f32⟩
  | .hbm, ⟨43, _⟩ => ⟨S8192x8x128, .f32⟩
  | .hbm, ⟨44, _⟩ => ⟨S8192x1024, .f32⟩
  | .hbm, ⟨45, _⟩ => ⟨S8192x1024, .bf16⟩
  | .hbm, ⟨46, _⟩ => ⟨S8192x8x96, .f32⟩
  | .hbm, ⟨47, _⟩ => ⟨S_, .f32⟩
  | .hbm, ⟨48, _⟩ => ⟨S8192x8x128, .f32⟩
  | .hbm, ⟨49, _⟩ => ⟨S8192x1024, .f32⟩
  | .hbm, ⟨50, _⟩ => ⟨S8192x1024, .bf16⟩
  | .hbm, ⟨51, _⟩ => ⟨S8192x8x64, .f32⟩
  | .hbm, ⟨52, _⟩ => ⟨S_, .f32⟩
  | .hbm, ⟨53, _⟩ => ⟨S8192x8x128, .f32⟩
  | .hbm, ⟨54, _⟩ => ⟨S8192x1024, .f32⟩
  | .hbm, ⟨55, _⟩ => ⟨S8192x1024, .bf16⟩
  | .hbm, ⟨56, _⟩ => ⟨S_, .f32⟩
  | .hbm, ⟨57, _⟩ => ⟨S8192x8x128, .f32⟩
  | .hbm, ⟨58, _⟩ => ⟨S8192x1024, .f32⟩
  | .hbm, ⟨59, _⟩ => ⟨S8192x1024, .bf16⟩
  | .hbm, ⟨60, _⟩ => ⟨S1024x8192, .bf16⟩
  | .hbm, ⟨61, _⟩ => ⟨S8x8x128x1024, .f32⟩
  | .hbm, ⟨62, _⟩ => ⟨S8192x1024, .f32⟩
  | .hbm, ⟨63, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x8x128x1024, .f32⟩
  | .local _ .vmem, ⟨15, _⟩ => ⟨S1x8x128x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .smem, ⟨0, _⟩ => ⟨S36, .i32⟩
  | .local _ .smem, ⟨1, _⟩ => ⟨S36, .i32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v1 : BitVec 32) : Fin 4 → Nat :=
  let c0_40 : Index := 0#32
  let v74 : Index := Scalar.indexCast v1
  let c0_41 : Index := 0#32
  let c0_42 : Index := 0#32
  ![0, v74.toNat, 0, 0]
def k0_cond3 (v1 : BitVec 32) (v3 : BitVec 32) : BitVec 1 :=
  let c1024_i32_8 : BitVec 32 := 1024#32
  let v28 : BitVec 32 := Scalar.muli v3 c1024_i32_8
  let c1024_i32_9 : BitVec 32 := 1024#32
  let v29 : BitVec 32 := Scalar.addi v28 c1024_i32_9
  let c1_i32_10 : BitVec 32 := 1#32
  let v30 : BitVec 32 := Scalar.subi v29 c1_i32_10
  let c1024_i32_11 : BitVec 32 := 1024#32
  let v31 : BitVec 32 := Scalar.muli v1 c1024_i32_11
  let v32 : BitVec 1 := Scalar.cmpi .sle v30 v31
  let v33 : BitVec 32 := Scalar.extui v32
  let c0_i32_12 : BitVec 32 := 0#32
  let v34 : BitVec 1 := Scalar.cmpi .ne v33 c0_i32_12
  v34

def k0_off3 (v1 : BitVec 32) : Fin 4 → Nat :=
  let c0_43 : Index := 0#32
  let v85 : Index := Scalar.indexCast v1
  let c0_44 : Index := 0#32
  let c0_45 : Index := 0#32
  ![0, v85.toNat, 0, 0]
def k0_cond4 (v1 : BitVec 32) (v3 : BitVec 32) : BitVec 1 :=
  let c1024_i32_8 : BitVec 32 := 1024#32
  let v28 : BitVec 32 := Scalar.muli v3 c1024_i32_8
  let c1024_i32_9 : BitVec 32 := 1024#32
  let v29 : BitVec 32 := Scalar.addi v28 c1024_i32_9
  let c1_i32_10 : BitVec 32 := 1#32
  let v30 : BitVec 32 := Scalar.subi v29 c1_i32_10
  let c1024_i32_11 : BitVec 32 := 1024#32
  let v31 : BitVec 32 := Scalar.muli v1 c1024_i32_11
  let v32 : BitVec 1 := Scalar.cmpi .sle v30 v31
  let v_true : BitVec 1 := 1#1
  let v35 : BitVec 1 := Scalar.xori v32 v_true
  let v36 : BitVec 32 := Scalar.extui v35
  let c0_i32_13 : BitVec 32 := 0#32
  let v37 : BitVec 1 := Scalar.cmpi .ne v36 c0_i32_13
  v37

def k0_chk1 (v1 : BitVec 32) (v3 : BitVec 32) : Prop :=
  (∀ (k0_h3 : k0_cond3 v1 v3 = 1#1), ∀ a, (k0_off2 v1) a + S1x1x128x1024.size a ≤ S1x8x128x1024.size a) ∧
  (∀ (k0_h4 : k0_cond4 v1 v3 = 1#1), ∀ a, (k0_off3 v1) a + S1x1x128x1024.size a ≤ S1x8x128x1024.size a)
theorem k0_off2_inb : ∀ (v1 : BitVec 32) (v3 : BitVec 32) (k0_hw1 : k0_chk1 v1 v3), ∀ (k0_h3 : k0_cond3 v1 v3 = 1#1), ∀ a, (k0_off2 v1) a + S1x1x128x1024.size a ≤ S1x8x128x1024.size a := fun v1 v3 k0_hw1 k0_h3 => k0_hw1.1 k0_h3
theorem k0_off3_inb : ∀ (v1 : BitVec 32) (v3 : BitVec 32) (k0_hw1 : k0_chk1 v1 v3), ∀ (k0_h4 : k0_cond4 v1 v3 = 1#1), ∀ a, (k0_off3 v1) a + S1x1x128x1024.size a ≤ S1x8x128x1024.size a := fun v1 v3 k0_hw1 k0_h4 => k0_hw1.2 k0_h4

def k0_cond1 (i : grid0.Coords) : BitVec 1 :=
  let arg1 : BitVec 32 := BitVec.ofNat 32 (i 1).val
  let c0_i32_5 : BitVec 32 := 0#32
  let v22 : BitVec 1 := Scalar.cmpi .eq arg1 c0_i32_5
  let v23 : BitVec 32 := Scalar.extui v22
  let c0_i32_6 : BitVec 32 := 0#32
  let v24 : BitVec 1 := Scalar.cmpi .ne v23 c0_i32_6
  v24

def k0_cond2 (v1 : BitVec 32) (v3 : BitVec 32) : BitVec 1 :=
  let c1024_i32 : BitVec 32 := 1024#32
  let v4 : BitVec 32 := Scalar.muli v3 c1024_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c1024_i32_0 : BitVec 32 := 1024#32
  let c0_i32_2 : BitVec 32 := 0#32
  let v11 : BitVec 1 := Scalar.cmpi .sgt c1024_i32_0 c0_i32_2
  let v12 : BitVec 32 := Scalar.extui v11
  let c0_i32_3 : BitVec 32 := 0#32
  let v13 : BitVec 1 := Scalar.cmpi .slt c1024_i32_0 c0_i32_3
  let v14 : BitVec 32 := Scalar.extui v13
  let v15 : BitVec 32 := Scalar.subi v12 v14
  let v16 : BitVec 1 := Scalar.cmpi .ne v10 v15
  let v17 : BitVec 32 := Scalar.remsi v4 c1024_i32_0
  let c0_i32_4 : BitVec 32 := 0#32
  let v18 : BitVec 1 := Scalar.cmpi .ne v17 c0_i32_4
  let v19 : BitVec 1 := Scalar.andi v16 v18
  let v5 : BitVec 32 := Scalar.divsi v4 c1024_i32_0
  let c1_i32 : BitVec 32 := 1#32
  let v20 : BitVec 32 := Scalar.subi v5 c1_i32
  let v21 : BitVec 32 := Scalar.select v19 v20 v5
  let v25 : BitVec 1 := Scalar.cmpi .eq v1 v21
  let v26 : BitVec 32 := Scalar.extui v25
  let c0_i32_7 : BitVec 32 := 0#32
  let v27 : BitVec 1 := Scalar.cmpi .ne v26 c0_i32_7
  v27

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast arg1
  let v2 : BitVec 32 := pf.at 1 (Rect.unit (s := S36) ![v1.toNat] S1.size (k0_off1_inb i)) numel1_S1
  let c0_i32_0 : BitVec 32 := 0#32
  ![v0.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | "scale2" => some (((3424635 / 33554432) * (Real.log 2)⁻¹ : ℝ) : EReal)
  | _ => none
-- ==== ReferenceIdeal.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x96 : Shape := ⟨4, ![1, 8, 8192, 96]⟩
abbrev S8192x8x96 : Shape := ⟨3, ![8192, 8, 96]⟩
abbrev S8192x8x128 : Shape := ⟨3, ![8192, 8, 128]⟩
abbrev S8192x8x64 : Shape := ⟨3, ![8192, 8, 64]⟩
abbrev S8x1024x8x128 : Shape := ⟨4, ![8, 1024, 8, 128]⟩
abbrev S8x8x128x1024 : Shape := ⟨4, ![8, 8, 128, 1024]⟩
abbrev S8192x1024 : Shape := ⟨2, ![8192, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x512, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S1x8x8192x8192, .i32⟩
  | .hbm, ⟨9, _⟩ => ⟨S1x8x8192x8192, .i32⟩
  | .hbm, ⟨10, _⟩ => ⟨S1x8x8192x8192, .i1⟩
  | .hbm, ⟨11, _⟩ => ⟨S_, .f32⟩
  | .hbm, ⟨12, _⟩ => ⟨S1x8x8192x8192, .f32⟩
  | .hbm, ⟨13, _⟩ => ⟨S1x8x8192x8192, .f32⟩
  | .hbm, ⟨14, _⟩ => ⟨S_, .f32⟩
  | .hbm, ⟨15, _⟩ => ⟨S1x8x8192x8192, .f32⟩
  | .hbm, ⟨16, _⟩ => ⟨S_, .f32⟩
  | .hbm, ⟨17, _⟩ => ⟨S1x8x8192, .f32⟩
  | .hbm, ⟨18, _⟩ => ⟨S1x8x8192x1, .f32⟩
  | .hbm, ⟨19, _⟩ => ⟨S1x8x8192x8192, .f32⟩
  | .hbm, ⟨20, _⟩ => ⟨S1x8x8192x8192, .i1⟩
  | .hbm, ⟨21, _⟩ => ⟨S1x8x8192x8192, .f32⟩
  | .hbm, ⟨22, _⟩ => ⟨S_, .f32⟩
  | .hbm, ⟨23, _⟩ => ⟨S1x8x8192, .f32⟩
  | .hbm, ⟨24, _⟩ => ⟨S_, .f32⟩
  | .hbm, ⟨25, _⟩ => ⟨S1x8x8192, .f32⟩
  | .hbm, ⟨26, _⟩ => ⟨S1x8x8192, .f32⟩
  | .hbm, ⟨27, _⟩ => ⟨S_, .f32⟩
  | .hbm, ⟨28, _⟩ => ⟨S1x8x8192, .f32⟩
  | .hbm, ⟨29, _⟩ => ⟨S1x8x8192, .i1⟩
  | .hbm, ⟨30, _⟩ => ⟨S_, .f32⟩
  | .hbm, ⟨31, _⟩ => ⟨S1x8x8192, .f32⟩
  | .hbm, ⟨32, _⟩ => ⟨S1x8x8192, .i1⟩
  | .hbm, ⟨33, _⟩ => ⟨S_, .f32⟩
  | .hbm, ⟨34, _⟩ => ⟨S1x8x8192, .f32⟩
  | .hbm, ⟨35, _⟩ => ⟨S_, .f32⟩
  | .hbm, ⟨36, _⟩ => ⟨S1x8x8192, .f32⟩
  | .hbm, ⟨37, _⟩ => ⟨S_, .f32⟩
  | .hbm, ⟨38, _⟩ => ⟨S1x8x8192, .f32⟩
  | .hbm, ⟨39, _⟩ => ⟨S1x8x8192, .f32⟩
  | .hbm, ⟨40, _⟩ => ⟨S1x8x8192, .f32⟩
  | .hbm, ⟨41, _⟩ => ⟨S1x8x8192x1, .f32⟩
  | .hbm, ⟨42, _⟩ => ⟨S1x8x8192x8192, .f32⟩
  | .hbm, ⟨43, _⟩ => ⟨S1x8x8192x8192, .f32⟩
  | .hbm, ⟨44, _⟩ => ⟨S1x8x8192x8192, .f32⟩
  | .hbm, ⟨45, _⟩ => ⟨S_, .f32⟩
  | .hbm, ⟨46, _⟩ => ⟨S1x8x8192, .f32⟩
  | .hbm, ⟨47, _⟩ => ⟨S1x8x8192x1, .f32⟩
  | .hbm, ⟨48, _⟩ => ⟨S1x8x8192x8192, .f32⟩
  | .hbm, ⟨49, _⟩ => ⟨S1x8x8192x8192, .f32⟩
  | .hbm, ⟨50, _⟩ => ⟨S1x8x8192x1, .f32⟩
  | .hbm, ⟨51, _⟩ => ⟨S_, .f32⟩
  | .hbm, ⟨52, _⟩ => ⟨S1x8x8192x1, .f32⟩
  | .hbm, ⟨53, _⟩ => ⟨S1x8x8192x1, .f32⟩
  | .hbm, ⟨54, _⟩ => ⟨S1x8x64x8192, .f32⟩
  | .hbm, ⟨55, _⟩ => ⟨S1x8192x8x64, .f32⟩
  | .hbm, ⟨56, _⟩ => ⟨S1x8192x512, .f32⟩
  | .hbm, ⟨57, _⟩ => ⟨S1x8192x8x64, .f32⟩
  | .hbm, ⟨58, _⟩ => ⟨S1x8x64x8192, .f32⟩
  | .hbm, ⟨59, _⟩ => ⟨S1x8x8192x8192, .f32⟩
  | .hbm, ⟨60, _⟩ => ⟨S1x8x64x8192, .f32⟩
  | .hbm, ⟨61, _⟩ => ⟨S1x8192x8x64, .f32⟩
  | .hbm, ⟨62, _⟩ => ⟨S1x8x8192x8192, .f32⟩
  | .hbm, ⟨63, _⟩ => ⟨S1x8x8192x8192, .f32⟩
  | .hbm, ⟨64, _⟩ => ⟨S1x8x8192x8192, .f32⟩
  | .hbm, ⟨65, _⟩ => ⟨S_, .f32⟩
  | .hbm, ⟨66, _⟩ => ⟨S1x8x8192, .f32⟩
  | .hbm, ⟨67, _⟩ => ⟨S1x8x8192x1, .f32⟩
  | .hbm, ⟨68, _⟩ => ⟨S1x8x8192x1, .f32⟩
  | .hbm, ⟨69, _⟩ => ⟨S1x8x8192x8192, .f32⟩
  | .hbm, ⟨70, _⟩ => ⟨S1x8x8192x8192, .f32⟩
  | .hbm, ⟨71, _⟩ => ⟨S_, .f32⟩
  | .hbm, ⟨72, _⟩ => ⟨S8x8192, .f32⟩
  | .hbm, ⟨73, _⟩ => ⟨S1x8x8192, .f32⟩
  | .hbm, ⟨74, _⟩ => ⟨S1x8x8192x8192, .f32⟩
  | .hbm, ⟨75, _⟩ => ⟨S1x8x8192x8192, .f32⟩
  | .hbm, ⟨76, _⟩ => ⟨S1x8x8192x8192, .f32⟩
  | .hbm, ⟨77, _⟩ => ⟨S_, .f32⟩
  | .hbm, ⟨78, _⟩ => ⟨S1x8x8192x8192, .f32⟩
  | .hbm, ⟨79, _⟩ => ⟨S1x8x8192x8192, .f32⟩
  | .hbm, ⟨80, _⟩ => ⟨S_, .f32⟩
  | .hbm, ⟨81, _⟩ => ⟨S1x8x8192x8192, .f32⟩
  | .hbm, ⟨82, _⟩ => ⟨S1x8x8192x8192, .f32⟩
  | .hbm, ⟨83, _⟩ => ⟨S1x8x8192x96, .f32⟩
  | .hbm, ⟨84, _⟩ => ⟨S1x8192x8x96, .f32⟩
  | .hbm, ⟨85, _⟩ => ⟨S1x8x8192x96, .f32⟩
  | .hbm, ⟨86, _⟩ => ⟨S1x8192x8x96, .f32⟩
  | .hbm, ⟨87, _⟩ => ⟨S8192x8x96, .f32⟩
  | .hbm, ⟨88, _⟩ => ⟨S_, .f32⟩
  | .hbm, ⟨89, _⟩ => ⟨S8192x8x128, .f32⟩
  | .hbm, ⟨90, _⟩ => ⟨S8192x8x96, .f32⟩
  | .hbm, ⟨91, _⟩ => ⟨S_, .f32⟩
  | .hbm, ⟨92, _⟩ => ⟨S8192x8x128, .f32⟩
  | .hbm, ⟨93, _⟩ => ⟨S8192x8x64, .f32⟩
  | .hbm, ⟨94, _⟩ => ⟨S_, .f32⟩
  | .hbm, ⟨95, _⟩ => ⟨S8192x8x128, .f32⟩
  | .hbm, ⟨96, _⟩ => ⟨S8x1024x8x128, .f32⟩
  | .hbm, ⟨97, _⟩ => ⟨S8x8x128x1024, .f32⟩
  | .hbm, ⟨98, _⟩ => ⟨S8192x1024, .f32⟩
  | .hbm, ⟨99, _⟩ => ⟨S8192x1024, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_16 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_cst_18 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel2.lean ====
abbrev S8192x5632 : Shape := ⟨2, ![8192, 5632]⟩
abbrev S1024x5632 : Shape := ⟨2, ![1024, 5632]⟩
abbrev S8192x2816 : Shape := ⟨2, ![8192, 2816]⟩
abbrev S1024x2816 : Shape := ⟨2, ![1024, 2816]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x5632, .bf16⟩
  | .hbm, ⟨3, _⟩ => ⟨S1024x5632, .bf16⟩
  | .hbm, ⟨4, _⟩ => ⟨S8192x2816, .bf16⟩
  | .hbm, ⟨5, _⟩ => ⟨S1024x2816, .bf16⟩
  | .hbm, ⟨6, _⟩ => ⟨S8192x2816, .bf16⟩
  | .hbm, ⟨7, _⟩ => ⟨S1024x2816, .bf16⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S_, .f32⟩
  | .hbm, ⟨3, _⟩ => ⟨S8192x1024, .f32⟩
  | .hbm, ⟨4, _⟩ => ⟨S8192x5632, .f32⟩
  | .hbm, ⟨5, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x2816 : Shape := ⟨2, ![1024, 2816]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x1024, .bf16⟩
  | .hbm, ⟨3, _⟩ => ⟨S2816x1024, .bf16⟩
  | .hbm, ⟨4, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x768 : Shape := ⟨2, ![8192, 768]⟩
abbrev S1024x768 : Shape := ⟨2, ![1024, 768]⟩
abbrev S8192x512 : Shape := ⟨2, ![8192, 512]⟩
abbrev S1024x512 : Shape := ⟨2, ![1024, 512]⟩
abbrev S8192x3072 : Shape := ⟨2, ![8192, 3072]⟩
abbrev S1024x3072 : Shape := ⟨2, ![1024, 3072]⟩
abbrev S8192x1024 : Shape := ⟨2, ![8192, 1024]⟩
abbrev S512x768 : Shape := ⟨2, ![512, 768]⟩
abbrev S512x512 : Shape := ⟨2, ![512, 512]⟩
abbrev S512x3072 : Shape := ⟨2, ![512, 3072]⟩
abbrev S512x1024 : Shape := ⟨2, ![512, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S1024x768, .f32⟩
  | .hbm, ⟨2, _⟩ => ⟨S8192x512, .f32⟩
  | .hbm, ⟨3, _⟩ => ⟨S1024x512, .f32⟩
  | .hbm, ⟨4, _⟩ => ⟨S8192x512, .f32⟩
  | .hbm, ⟨5, _⟩ => ⟨S1024x512, .f32⟩
  | .hbm, ⟨6, _⟩ => ⟨S8192x3072, .f32⟩
  | .hbm, ⟨7, _⟩ => ⟨S1024x3072, .f32⟩
  | .hbm, ⟨8, _⟩ => ⟨S8192x768, .bf16⟩
  | .hbm, ⟨9, _⟩ => ⟨S1024x768, .bf16⟩
  | .hbm, ⟨10, _⟩ => ⟨S8192x512, .bf16⟩
  | .hbm, ⟨11, _⟩ => ⟨S1024x512, .bf16⟩
  | .hbm, ⟨12, _⟩ => ⟨S8192x512, .bf16⟩
  | .hbm, ⟨13, _⟩ => ⟨S1024x512, .bf16⟩
  | .hbm, ⟨14, _⟩ => ⟨S8192x3072, .bf16⟩
  | .hbm, ⟨15, _⟩ => ⟨S1024x3072, .bf16⟩
  | .hbm, ⟨16, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x512, .bf16⟩
  | .local _ .vmem, ⟨4, _⟩ => ⟨S512x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S512x3072, .bf16⟩
  | .local _ .vmem, ⟨10, _⟩ => ⟨S512x3072, .bf16⟩
  | .local _ .vmem, ⟨11, _⟩ => ⟨S1024x3072, .bf16⟩
  | .local _ .vmem, ⟨12, _⟩ => ⟨S512x1024, .f32⟩
  | .local _ .vmem, ⟨13, _⟩ => ⟨S512x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x768 : Shape := ⟨2, ![8192, 768]⟩
abbrev S1024x768 : Shape := ⟨2, ![1024, 768]⟩
abbrev S8192x512 : Shape := ⟨2, ![8192, 512]⟩
abbrev S1024x512 : Shape := ⟨2, ![1024, 512]⟩
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S1024x768, .f32⟩
  | .hbm, ⟨2, _⟩ => ⟨S8192x512, .f32⟩
  | .hbm, ⟨3, _⟩ => ⟨S1024x512, .f32⟩
  | .hbm, ⟨4, _⟩ => ⟨S8192x512, .f32⟩
  | .hbm, ⟨5, _⟩ => ⟨S1024x512, .f32⟩
  | .hbm, ⟨6, _⟩ => ⟨S8192x3072, .f32⟩
  | .hbm, ⟨7, _⟩ => ⟨S1024x3072, .f32⟩
  | .hbm, ⟨8, _⟩ => ⟨S_, .f32⟩
  | .hbm, ⟨9, _⟩ => ⟨S8192x1024, .f32⟩
  | .hbm, ⟨10, _⟩ => ⟨S8192x768, .f32⟩
  | .hbm, ⟨11, _⟩ => ⟨S8192x512, .f32⟩
  | .hbm, ⟨12, _⟩ => ⟨S8192x512, .f32⟩
  | .hbm, ⟨13, _⟩ => ⟨S8192x3072, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S1024x3072 : Shape := ⟨2, ![1024, 3072]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x1024 : Shape := ⟨2, ![8192, 1024]⟩
abbrev S8192x2816 : Shape := ⟨2, ![8192, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x1024, .bf16⟩
  | .hbm, ⟨3, _⟩ => ⟨S1024x3072, .bf16⟩
  | .hbm, ⟨4, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S1x8192x8x96 : Shape := ⟨4, ![1, 8192, 8, 96]⟩
abbrev S1x8192x8x64 : Shape := ⟨4, ![1, 8192, 8, 64]⟩
abbrev S36 : Shape := ⟨1, ![36]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8192x8x64 : Shape := ⟨3, ![8192, 8, 64]⟩
abbrev S1024x8192 : Shape := ⟨2, ![1024, 8192]⟩
abbrev S8x1x8192 : Shape := ⟨3, ![8, 1, 8192]⟩
abbrev S1024x128 : Shape := ⟨2, ![1024, 128]⟩
abbrev S1 : Shape := ⟨1, ![1]⟩
abbrev S128x1024 : Shape := ⟨2, ![128, 1024]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 21
  | .vmem => 13
  | .smem => 2
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S8192x8x96, .f32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S8192x1024, .bf16⟩
  | .hbm, ⟨8, _⟩ => ⟨S8192x8x96, .f32⟩
  | .hbm, ⟨9, _⟩ => ⟨S_, .f32⟩
  | .hbm, ⟨10, _⟩ => ⟨S8192x8x128, .f32⟩
  | .hbm, ⟨11, _⟩ => ⟨S8192x1024, .f32⟩
  | .hbm, ⟨12, _⟩ => ⟨S8192x1024, .bf16⟩
  | .hbm, ⟨13, _⟩ => ⟨S8192x8x64, .f32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S1024x8192, .bf16⟩
  | .hbm, ⟨19, _⟩ => ⟨S8192x1024, .bf16⟩
  | .hbm, ⟨20, _⟩ => ⟨S8x1x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S128x1024, .bf16⟩
  | .local _ .vmem, ⟨5, _⟩ => ⟨S128x1024, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .smem, ⟨0, _⟩ => ⟨S36, .i32⟩
  | .local _ .smem, ⟨1, _⟩ => ⟨S36, .i32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c7_i32 : BitVec 32 := 7#32
  let c1024_i32 : BitVec 32 := 1024#32
  let v4 : BitVec 32 := Scalar.muli v1 c1024_i32
  let c1024_i32_0 : BitVec 32 := 1024#32
  let v5 : BitVec 32 := Scalar.addi v4 c1024_i32_0
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c1024_i32_1 : BitVec 32 := 1024#32
  let c0_i32_3 : BitVec 32 := 0#32
  let v13 : BitVec 1 := Scalar.cmpi .sgt c1024_i32_1 c0_i32_3
  let v14 : BitVec 32 := Scalar.extui v13
  let c0_i32_4 : BitVec 32 := 0#32
  let v15 : BitVec 1 := Scalar.cmpi .slt c1024_i32_1 c0_i32_4
  let v16 : BitVec 32 := Scalar.extui v15
  let v17 : BitVec 32 := Scalar.subi v14 v16
  let v18 : BitVec 1 := Scalar.cmpi .ne v12 v17
  let v19 : BitVec 32 := Scalar.remsi v6 c1024_i32_1
  let c0_i32_5 : BitVec 32 := 0#32
  let v20 : BitVec 1 := Scalar.cmpi .ne v19 c0_i32_5
  let v21 : BitVec 1 := Scalar.andi v18 v20
  let v7 : BitVec 32 := Scalar.divsi v6 c1024_i32_1
  let c1_i32_6 : BitVec 32 := 1#32
  let v22 : BitVec 32 := Scalar.subi v7 c1_i32_6
  let v23 : BitVec 32 := Scalar.select v21 v22 v7
  let v24 : BitVec 32 := Scalar.minsi c7_i32 v23
  let v38 : BitVec 1 := Scalar.cmpi .eq v3 v24
  let v39 : BitVec 32 := Scalar.extui v38
  let c0_i32_15 : BitVec 32 := 0#32
  let v40 : BitVec 1 := Scalar.cmpi .ne v39 c0_i32_15
  v40

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast arg1
  let v2 : BitVec 32 := pf.at 1 (Rect.unit (s := S36) ![v1.toNat] S1.size (k0_off1_inb i)) numel1_S1
  let c0_i32_0 : BitVec 32 := 0#32
  ![v0.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel11Ideal.lean ====
variable {F : FTy → Type} [FloatOps F] [Named F]
def κ : String → Option EReal := fun
  | "log2e" => some (((Real.log 2)⁻¹ : ℝ) : EReal)
  | "mask" => some ⊥
  | "scale2" => some (((3424635 / 33554432) * (Real.log 2)⁻¹ : ℝ) : EReal)
  | _ => none
-- ==== Reference11Ideal.lean ====
abbrev S1x8192x8x96 : Shape := ⟨4, ![1, 8192, 8, 96]⟩
abbrev S1x8192x8x64 : Shape := ⟨4, ![1, 8192, 8, 64]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x512 : Shape := ⟨3, ![1, 8192, 512]⟩
abbrev S8192x8x64 : Shape := ⟨3, ![8192, 8, 64]⟩
abbrev S8192x8x128 : Shape := ⟨3, ![8192, 8, 128]⟩
abbrev S8192x1024 : Shape := ⟨2, ![8192, 1024]⟩
abbrev S8x1x8192 : Shape := ⟨3, ![8, 1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8x8192x8192, .f32⟩
  | .hbm, ⟨4, _⟩ => ⟨S_, .f32⟩
  | .hbm, ⟨5, _⟩ => ⟨S1x8x8192x8192, .f32⟩
  | .hbm, ⟨6, _⟩ => ⟨S1x8x8192x8192, .f32⟩
  | .hbm, ⟨7, _⟩ => ⟨S1x8x8192x8192, .i32⟩
  | .hbm, ⟨8, _⟩ => ⟨S1x8x8192x8192, .i32⟩
  | .hbm, ⟨9, _⟩ => ⟨S1x8x8192x8192, .i1⟩
  | .hbm, ⟨10, _⟩ => ⟨S_, .f32⟩
  | .hbm, ⟨11, _⟩ => ⟨S1x8x8192x8192, .f32⟩
  | .hbm, ⟨12, _⟩ => ⟨S1x8x8192x8192, .f32⟩
  | .hbm, ⟨13, _⟩ => ⟨S_, .f32⟩
  | .hbm, ⟨14, _⟩ => ⟨S1x8x8192, .f32⟩
  | .hbm, ⟨15, _⟩ => ⟨S_, .f32⟩
  | .hbm, ⟨16, _⟩ => ⟨S1x8x8192, .f32⟩
  | .hbm, ⟨17, _⟩ => ⟨S1x8x8192, .f32⟩
  | .hbm, ⟨18, _⟩ => ⟨S1x8x8192x1, .f32⟩
  | .hbm, ⟨19, _⟩ => ⟨S1x8x8192x8192, .f32⟩
  | .hbm, ⟨20, _⟩ => ⟨S1x8x8192x8192, .f32⟩
  | .hbm, ⟨21, _⟩ => ⟨S1x8x8192x8192, .f32⟩
  | .hbm, ⟨22, _⟩ => ⟨S_, .f32⟩
  | .hbm, ⟨23, _⟩ => ⟨S1x8x8192, .f32⟩
  | .hbm, ⟨24, _⟩ => ⟨S1x8x8192x1, .f32⟩
  | .hbm, ⟨25, _⟩ => ⟨S1x8x8192x8192, .f32⟩
  | .hbm, ⟨26, _⟩ => ⟨S1x8x8192x8192, .f32⟩
  | .hbm, ⟨27, _⟩ => ⟨S1x8x64x8192, .f32⟩
  | .hbm, ⟨28, _⟩ => ⟨S1x8192x8x64, .f32⟩
  | .hbm, ⟨29, _⟩ => ⟨S1x8192x512, .f32⟩
  | .hbm, ⟨30, _⟩ => ⟨S8192x8x64, .f32⟩
  | .hbm, ⟨31, _⟩ => ⟨S_, .f32⟩
  | .hbm, ⟨32, _⟩ => ⟨S8192x8x128, .f32⟩
  | .hbm, ⟨33, _⟩ => ⟨S1x8x8192x8192, .f32⟩
  | .hbm, ⟨34, _⟩ => ⟨S_, .f32⟩
  | .hbm, ⟨35, _⟩ => ⟨S1x8x8192x8192, .f32⟩
  | .hbm, ⟨36, _⟩ => ⟨S1x8x8192x8192, .f32⟩
  | .hbm, ⟨37, _⟩ => ⟨S1x8x8192x8192, .i32⟩
  | .hbm, ⟨38, _⟩ => ⟨S1x8x8192x8192, .i32⟩
  | .hbm, ⟨39, _⟩ => ⟨S1x8x8192x8192, .i1⟩
  | .hbm, ⟨40, _⟩ => ⟨S_, .f32⟩
  | .hbm, ⟨41, _⟩ => ⟨S1x8x8192x8192, .f32⟩
  | .hbm, ⟨42, _⟩ => ⟨S1x8x8192x8192, .f32⟩
  | .hbm, ⟨43, _⟩ => ⟨S_, .f32⟩
  | .hbm, ⟨44, _⟩ => ⟨S1x8x8192, .f32⟩
  | .hbm, ⟨45, _⟩ => ⟨S1x8x8192x1, .f32⟩
  | .hbm, ⟨46, _⟩ => ⟨S1x8x8192x8192, .f32⟩
  | .hbm, ⟨47, _⟩ => ⟨S1x8x8192x8192, .f32⟩
  | .hbm, ⟨48, _⟩ => ⟨S1x8x8192x8192, .f32⟩
  | .hbm, ⟨49, _⟩ => ⟨S_, .f32⟩
  | .hbm, ⟨50, _⟩ => ⟨S1x8x8192, .f32⟩
  | .hbm, ⟨51, _⟩ => ⟨S1x8x8192x1, .f32⟩
  | .hbm, ⟨52, _⟩ => ⟨S1x8x8192x1, .f32⟩
  | .hbm, ⟨53, _⟩ => ⟨S1x8x8192x1, .f32⟩
  | .hbm, ⟨54, _⟩ => ⟨S_, .f32⟩
  | .hbm, ⟨55, _⟩ => ⟨S_, .f32⟩
  | .hbm, ⟨56, _⟩ => ⟨S1x8x8192x1, .f32⟩
  | .hbm, ⟨57, _⟩ => ⟨S1x8x8192x1, .f32⟩
  | .hbm, ⟨58, _⟩ => ⟨S8192x1024, .f32⟩
  | .hbm, ⟨59, _⟩ => ⟨S8192x1024, .bf16⟩
  | .hbm, ⟨60, _⟩ => ⟨S8x1x8192, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel12.lean ====
abbrev S1x8192x4x128 : Shape := ⟨4, ![1, 8192, 4, 128]⟩
abbrev S1x256x4x128 : Shape := ⟨4, ![1, 256, 4, 128]⟩
abbrev S1x256x1024 : Shape := ⟨3, ![1, 256, 1024]⟩
abbrev S8 : Shape := ⟨1, ![8]⟩
abbrev S1x256x512 : Shape := ⟨3, ![1, 256, 512]⟩
abbrev S256x512 : Shape := ⟨2, ![256, 512]⟩
abbrev S512x256 : Shape := ⟨2, ![512, 256]⟩
abbrev S8192x512 : Shape := ⟨2, ![8192, 512]⟩
abbrev S4x1x8192 : Shape := ⟨3, ![4, 1, 8192]⟩
abbrev S1024x128 : Shape := ⟨2, ![1024, 128]⟩
abbrev S1 : Shape := ⟨1, ![1]⟩
abbrev S256x128 : Shape := ⟨2, ![256, 128]⟩
abbrev S128x256 : Shape := ⟨2, ![128, 256]⟩
abbrev S1x1x1024 : Shape := ⟨3, ![1, 1, 1024]⟩
abbrev S1x1024 : Shape := ⟨2, ![1, 1024]⟩
abbrev S128x1024 : Shape := ⟨2, ![128, 1024]⟩
abbrev S256x1024 : Shape := ⟨2, ![256, 1024]⟩
abbrev S1024 : Shape := ⟨1, ![1024]⟩

abbrev nBuf : Space → Nat
  | .hbm => 13
  | .vmem => 13
  | .smem => 2
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x1024, .f32⟩
  | .hbm, ⟨3, _⟩ => ⟨S1x256x512, .f32⟩
  | .hbm, ⟨4, _⟩ => ⟨S256x512, .f32⟩
  | .hbm, ⟨5, _⟩ => ⟨S512x256, .f32⟩
  | .hbm, ⟨6, _⟩ => ⟨S512x256, .bf16⟩
  | .hbm, ⟨7, _⟩ => ⟨S8192x512, .f32⟩
  | .hbm, ⟨8, _⟩ => ⟨S8192x512, .bf16⟩
  | .hbm, ⟨9, _⟩ => ⟨S256x512, .f32⟩
  | .hbm, ⟨10, _⟩ => ⟨S256x512, .bf16⟩
  | .hbm, ⟨11, _⟩ => ⟨S8192x512, .bf16⟩
  | .hbm, ⟨12, _⟩ => ⟨S4x1x8192, .f32⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .smem, ⟨0, _⟩ => ⟨S8, .i32⟩
  | .local _ .smem, ⟨1, _⟩ => ⟨S8, .i32⟩
  | _, _ => ⟨S1x8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) : BitVec 1 :=
  let c0_i32_22 : BitVec 32 := 0#32
  let v43 : BitVec 1 := Scalar.cmpi .eq v1 c0_i32_22
  let v44 : BitVec 32 := Scalar.extui v43
  let c0_i32_23 : BitVec 32 := 0#32
  let v45 : BitVec 1 := Scalar.cmpi .ne v44 c0_i32_23
  v45

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S8) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_2 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let v1 : Index := Scalar.indexCast arg1
  let v2 : BitVec 32 := pf.at 1 (Rect.unit (s := S8) ![v1.toNat] S1.size (k0_off1_inb i)) numel1_S1
  let c0_i32_0 : BitVec 32 := 0#32
  ![v0.toNat, v2.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel12Ideal.lean ====
variable {F : FTy → Type} [FloatOps F] [Named F]
def κ : String → Option EReal := fun
  | "log2e" => some (((Real.log 2)⁻¹ : ℝ) : EReal)
  | "mask" => some ⊥
  | "scale2" => some (((11863283 / 134217728) * (Real.log 2)⁻¹ : ℝ) : EReal)
  | _ => none
-- ==== Reference12Ideal.lean ====
abbrev S1x8192x4x128 : Shape := ⟨4, ![1, 8192, 4, 128]⟩
abbrev S1x256x4x128 : Shape := ⟨4, ![1, 256, 4, 128]⟩
abbrev S1x256x1024 : Shape := ⟨3, ![1, 256, 1024]⟩
abbrev S1x256x512 : Shape := ⟨3, ![1, 256, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩
abbrev S8192x512 : Shape := ⟨2, ![8192, 512]⟩
abbrev S4x1x8192 : Shape := ⟨3, ![4, 1, 8192]⟩

abbrev nBuf : Space → Nat
  | .hbm => 48
  | .vmem => 0
  | .smem => 0
  | _ => 0

abbrev bufTy : (tb : Table) → Fin (tcTables nBuf tb) → BufTy
  | .hbm, ⟨0, _⟩ => ⟨S1x8192x4x128, .f32⟩
  | .hbm, ⟨1, _⟩ => ⟨S1x256x4x128, .f32⟩
  | .hbm, ⟨2, _⟩ => ⟨S1x256x1024, .f32⟩
  | .hbm, ⟨3, _⟩ => ⟨S1x256x512, .f32⟩
  | .hbm, ⟨4, _⟩ => ⟨S1x256x4x128, .f32⟩
  | .hbm, ⟨5, _⟩ => ⟨S1x4x8192x256, .f32⟩
  | .hbm, ⟨6, _⟩ => ⟨S_, .f32⟩
  | .hbm, ⟨7, _⟩ => ⟨S1x4x8192x256, .f32⟩
  | .hbm, ⟨8, _⟩ => ⟨S1x4x8192x256, .f32⟩
  | .hbm, ⟨9, _⟩ => ⟨S_, .f32⟩
  | .hbm, ⟨10, _⟩ => ⟨S1x4x8192, .f32⟩
  | .hbm, ⟨11, _⟩ => ⟨S1x4x8192x1, .f32⟩
  | .hbm, ⟨12, _⟩ => ⟨S1x4x8192x256, .f32⟩
  | .hbm, ⟨13, _⟩ => ⟨S1x4x8192x256, .f32⟩
  | .hbm, ⟨14, _⟩ => ⟨S1x4x8192x256, .f32⟩
  | .hbm, ⟨15, _⟩ => ⟨S_, .f32⟩
  | .hbm, ⟨16, _⟩ => ⟨S1x4x8192, .f32⟩
  | .hbm, ⟨17, _⟩ => ⟨S1x4x8192x1, .f32⟩
  | .hbm, ⟨18, _⟩ => ⟨S1x4x8192x1, .f32⟩
  | .hbm, ⟨19, _⟩ => ⟨S1x4x8192x1, .f32⟩
  | .hbm, ⟨20, _⟩ => ⟨S_, .f32⟩
  | .hbm, ⟨21, _⟩ => ⟨S_, .f32⟩
  | .hbm, ⟨22, _⟩ => ⟨S1x4x8192x1, .f32⟩
  | .hbm, ⟨23, _⟩ => ⟨S1x4x8192x1, .f32⟩
  | .hbm, ⟨24, _⟩ => ⟨S1x4x8192x256, .f32⟩
  | .hbm, ⟨25, _⟩ => ⟨S_, .f32⟩
  | .hbm, ⟨26, _⟩ => ⟨S1x4x8192x256, .f32⟩
  | .hbm, ⟨27, _⟩ => ⟨S1x4x8192x256, .f32⟩
  | .hbm, ⟨28, _⟩ => ⟨S_, .f32⟩
  | .hbm, ⟨29, _⟩ => ⟨S1x4x8192, .f32⟩
  | .hbm, ⟨30, _⟩ => ⟨S_, .f32⟩
  | .hbm, ⟨31, _⟩ => ⟨S1x4x8192, .f32⟩
  | .hbm, ⟨32, _⟩ => ⟨S1x4x8192, .f32⟩
  | .hbm, ⟨33, _⟩ => ⟨S1x4x8192x1, .f32⟩
  | .hbm, ⟨34, _⟩ => ⟨S1x4x8192x256, .f32⟩
  | .hbm, ⟨35, _⟩ => ⟨S1x4x8192x256, .f32⟩
  | .hbm, ⟨36, _⟩ => ⟨S1x4x8192x256, .f32⟩
  | .hbm, ⟨37, _⟩ => ⟨S_, .f32⟩
  | .hbm, ⟨38, _⟩ => ⟨S1x4x8192, .f32⟩
  | .hbm, ⟨39, _⟩ => ⟨S1x4x8192x1, .f32⟩
  | .hbm, ⟨40, _⟩ => ⟨S1x4x8192x256, .f32⟩
  | .hbm, ⟨41, _⟩ => ⟨S1x4x8192x256, .f32⟩
  | .hbm, ⟨42, _⟩ => ⟨S1x4x128x8192, .f32⟩
  | .hbm, ⟨43, _⟩ => ⟨S1x8192x4x128, .f32⟩
  | .hbm, ⟨44, _⟩ => ⟨S1x8192x512, .f32⟩
  | .hbm, ⟨45, _⟩ => ⟨S8192x512, .f32⟩
  | .hbm, ⟨46, _⟩ => ⟨S8192x512, .bf16⟩
  | .hbm, ⟨47, _⟩ => ⟨S4x1x8192, .f32⟩
  | _, _ => ⟨S1x8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S8192x1024 : Shape := ⟨2, ![8192, 1024]⟩
abbrev S8192x512 : Shape := ⟨2, ![8192, 512]⟩
abbrev S1024x512 : Shape := ⟨2, ![1024, 512]⟩
abbrev S2048x512 : Shape := ⟨2, ![2048, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x512, .f32⟩
  | .hbm, ⟨5, _⟩ => ⟨S512x1024, .f32⟩
  | .hbm, ⟨6, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x1024 : Shape := ⟨2, ![8192, 1024]⟩
abbrev S8192x768 : Shape := ⟨2, ![8192, 768]⟩
abbrev S1024x768 : Shape := ⟨2, ![1024, 768]⟩
abbrev S2048x512 : Shape := ⟨2, ![2048, 512]⟩
abbrev S2048x768 : Shape := ⟨2, ![2048, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S8192x1024, .bf16⟩
  | .hbm, ⟨3, _⟩ => ⟨S8192x768, .bf16⟩
  | .hbm, ⟨4, _⟩ => ⟨S1024x768, .f32⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x768 : Shape := ⟨2, ![8192, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x768, .f32⟩
  | .hbm, ⟨2, _⟩ => ⟨S_, .f32⟩
  | .hbm, ⟨3, _⟩ => ⟨S1024x768, .f32⟩
  | .hbm, ⟨4, _⟩ => ⟨S8192x768, .f32⟩
  | .hbm, ⟨5, _⟩ => ⟨S768x1024, .f32⟩
  | .hbm, ⟨6, _⟩ => ⟨S1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8192x1024 : Shape := ⟨2, ![8192, 1024]⟩
abbrev S1024x768 : Shape := ⟨2, ![1024, 768]⟩
abbrev S8192x768 : Shape := ⟨2, ![8192, 768]⟩
abbrev S1024x1024 : Shape := ⟨2, ![1024, 1024]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x1024, .bf16⟩
  | .hbm, ⟨3, _⟩ => ⟨S1024x768, .bf16⟩
  | .hbm, ⟨4, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S8192x1024 : Shape := ⟨2, ![8192, 1024]⟩
abbrev S1024x768 : Shape := ⟨2, ![1024, 768]⟩
abbrev S8192x768 : Shape := ⟨2, ![8192, 768]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x768, .f32⟩
  | .hbm, ⟨2, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x1024, .bf16⟩
  | .hbm, ⟨3, _⟩ => ⟨S512x1024, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x1024, .bf16⟩
  | .hbm, ⟨3, _⟩ => ⟨S512x1024, .bf16⟩
  | .hbm, ⟨4, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | .hbm, ⟨6, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8192x384 : Shape := ⟨2, ![8192, 384]⟩
abbrev S384x1024 : Shape := ⟨2, ![384, 1024]⟩
abbrev S8192x1024 : Shape := ⟨2, ![8192, 1024]⟩
abbrev S1024x384 : Shape := ⟨2, ![1024, 384]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x384, .bf16⟩
  | .hbm, ⟨3, _⟩ => ⟨S384x1024, .bf16⟩
  | .hbm, ⟨4, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S8192x384 : Shape := ⟨2, ![8192, 384]⟩
abbrev S384x1024 : Shape := ⟨2, ![384, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1024, .f32⟩
  | .hbm, ⟨2, _⟩ => ⟨S8192x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x1024 : Shape := ⟨2, ![8192, 1024]⟩
abbrev S384x1024 : Shape := ⟨2, ![384, 1024]⟩
abbrev S8192x384 : Shape := ⟨2, ![8192, 384]⟩
abbrev S1024x1024 : Shape := ⟨2, ![1024, 1024]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S8192x1024, .bf16⟩
  | .hbm, ⟨3, _⟩ => ⟨S384x1024, .bf16⟩
  | .hbm, ⟨4, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference27Ideal.lean ====
abbrev S8192x1024 : Shape := ⟨2, ![8192, 1024]⟩
abbrev S384x1024 : Shape := ⟨2, ![384, 1024]⟩
abbrev S_ : Shape := ⟨0, ![]⟩
abbrev S8192x384 : Shape := ⟨2, ![8192, 384]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S384x1024, .f32⟩
  | .hbm, ⟨2, _⟩ => ⟨S_, .f32⟩
  | .hbm, ⟨3, _⟩ => ⟨S8192x384, .f32⟩
  | .hbm, ⟨4, _⟩ => ⟨S8192x1024, .f32⟩
  | .hbm, ⟨5, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel28.lean ====
abbrev S8192x384 : Shape := ⟨2, ![8192, 384]⟩
abbrev S8192x1024 : Shape := ⟨2, ![8192, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S8192x384, .bf16⟩
  | .hbm, ⟨3, _⟩ => ⟨S8192x1024, .bf16⟩
  | .hbm, ⟨4, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 7
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x1024, .f32⟩
  | .hbm, ⟨2, _⟩ => ⟨S_, .f32⟩
  | .hbm, ⟨3, _⟩ => ⟨S384x1024, .f32⟩
  | .hbm, ⟨4, _⟩ => ⟨S8192x1024, .f32⟩
  | .hbm, ⟨5, _⟩ => ⟨S1024x384, .f32⟩
  | .hbm, ⟨6, _⟩ => ⟨S384x1024, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel29.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .bf16⟩
  | .hbm, ⟨3, _⟩ => ⟨S512x512, .bf16⟩
  | .hbm, ⟨4, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S8192x512 : Shape := ⟨2, ![8192, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .bf16⟩
  | .hbm, ⟨3, _⟩ => ⟨S512x512, .bf16⟩
  | .hbm, ⟨4, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S8192x512 : Shape := ⟨2, ![8192, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S_, .f32⟩
  | .hbm, ⟨3, _⟩ => ⟨S8192x512, .f32⟩
  | .hbm, ⟨4, _⟩ => ⟨S8192x512, .f32⟩
  | .hbm, ⟨5, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel31.lean ====
abbrev S8192x512 : Shape := ⟨2, ![8192, 512]⟩
abbrev S512x512 : Shape := ⟨2, ![512, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S8192x512 : Shape := ⟨2, ![8192, 512]⟩
abbrev S_ : Shape := ⟨0, ![]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S512x512, .f32⟩
  | .hbm, ⟨6, _⟩ => ⟨S512x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel32.lean ====
abbrev S8192x1024 : Shape := ⟨2, ![8192, 1024]⟩
abbrev S256x1024 : Shape := ⟨2, ![256, 1024]⟩
abbrev S8192x256 : Shape := ⟨2, ![8192, 256]⟩
abbrev S1024x1024 : Shape := ⟨2, ![1024, 1024]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .f32⟩
  | .hbm, ⟨3, _⟩ => ⟨S256x1024, .f32⟩
  | .hbm, ⟨4, _⟩ => ⟨S8192x1024, .bf16⟩
  | .hbm, ⟨5, _⟩ => ⟨S256x1024, .bf16⟩
  | .hbm, ⟨6, _⟩ => ⟨S256x1024, .bf16⟩
  | .hbm, ⟨7, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S256x1024, .bf16⟩
  | .local _ .vmem, ⟨6, _⟩ => ⟨S1024x256, .f32⟩
  | .local _ .vmem, ⟨7, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference32Ideal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S8192x1024, .f32⟩
  | .hbm, ⟨3, _⟩ => ⟨S256x1024, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.KI.Tables.lean ====
/- The two prefetched tables of the gradient kernel: entry `n` of the first is the block of queries that step `n` of a
   head visits, entry `n` of the second the block of keys. This module reads the index maps and the kernel's branch conditions
   off them. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Attn

open Gen
open Idealize.ShloMosaic TcCoe Tactic
open Pipeline (Dat Cfg Window BodyObligation cellOf)

variable {F : FTy → Type} [FloatOps F] [Named F]

/-- The block of queries step `n` of a head visits. -/
abbrev qb (n : Fin 36) : Fin 8 :=
  ![0, 1, 2, 3, 4, 5, 6, 7, 1, 2, 3, 4, 5, 6, 7, 2, 3, 4, 5, 6, 7, 3, 4, 5, 6, 7, 4, 5, 6, 7, 5, 6, 7, 6, 7, 7] n

/-- The block of keys step `n` of a head visits. -/
abbrev kb (n : Fin 36) : Fin 8 :=
  ![0, 0, 0, 0, 0, 0, 0, 0, 1, 1, 1, 1, 1, 1, 1, 2, 2, 2, 2, 2, 2, 3, 3, 3, 3, 3, 4, 4, 4, 4, 5, 5, 5, 6, 6, 7] n

theorem lit0_toNat (n : Fin 36) : (lit0 n).toNat = (qb n).val := by
  revert n; decide +kernel

theorem lit1_toNat (n : Fin 36) : (lit1 n).toNat = (kb n).val := by
  revert n; decide +kernel

/-- A step zeroes the gradients of the keys and values exactly when it visits a block of keys with the queries of the same block: -/
theorem cond2_iff (n : Fin 36) : k0_cond2 (lit0 n) (lit1 n) = 1#1 ↔ qb n = kb n := by
  revert n; decide +kernel

/-- it takes the branch without a mask when the queries lie past the keys, -/
theorem cond3_iff (n : Fin 36) : k0_cond3 (lit0 n) (lit1 n) = 1#1 ↔ ¬ qb n = kb n := by
  revert n; decide +kernel

/-- and the branch with the mask on the diagonal. -/
theorem cond4_iff (n : Fin 36) : k0_cond4 (lit0 n) (lit1 n) = 1#1 ↔ qb n = kb n := by
  revert n; decide +kernel

theorem chk1 (n : Fin 36) : k0_chk1 (lit0 n) (lit1 n) := by
  revert n; decide +kernel

/-- The tables' contents. -/
def tabs : pre0.Contents (Elt F) := fun k => match k with
  | ⟨0, _⟩ => fun i => lit0 (S36.rowMajor i)
  | ⟨1, _⟩ => fun i => lit1 (S36.rowMajor i)

end Cert.KernelIdeal.Attn

end
-- ==== Proof.KI.Maps.lean ====
/- The index maps of the gradient kernel's windows at its tables, and the admissibility of the tables. -/
module

public import proofs.«01_k».proof.Proof.KI.Tables

@[expose] public section

set_option maxRecDepth 16384

noncomputable section

namespace Cert.KernelIdeal.Attn

open Gen
open Idealize.ShloMosaic TcCoe Tactic
open Pipeline (Dat Cfg Window BodyObligation cellOf)

variable {F : FTy → Type} [FloatOps F] [Named F]

/-- A step's number within its head. -/
abbrev stepOf (i : grid0.Coords) : Fin 36 := i 1

/-- Its head. -/
abbrev headOf (i : grid0.Coords) : Fin 8 := i 0

theorem off1_eq (i : grid0.Coords) : k0_off1 i = ![(stepOf i).val] := by
  have h : (i 1).val < 36 := (i 1).isLt
  unfold k0_off1
  simp only [Scalar.indexCast, BitVec.toNat_ofNat]
  rw [Nat.mod_eq_of_lt (by omega)]

theorem word_head (i : grid0.Coords) : (BitVec.ofNat 32 (i 0).val).toNat = (headOf i).val := by
  have h : (i 0).val < 8 := (i 0).isLt
  simp only [BitVec.toNat_ofNat]
  exact Nat.mod_eq_of_lt (by omega)

theorem lit0_at {y : S36.Idx} {n : Fin 36} (h : (y 0).val = n.val) : lit0 (S36.rowMajor y) = lit0 n := by
  have e : S36.rowMajor y = n := Fin.ext ((Shape.rowMajor_val_one y).trans h)
  exact congrArg lit0 e

theorem lit1_at {y : S36.Idx} {n : Fin 36} (h : (y 0).val = n.val) : lit1 (S36.rowMajor y) = lit1 n := by
  have e : S36.rowMajor y = n := Fin.ext ((Shape.rowMajor_val_one y).trans h)
  exact congrArg lit1 e

theorem off1_zero (i : grid0.Coords) : k0_off1 i 0 = (stepOf i).val := by
  rw [off1_eq]; rfl

theorem emb_zero (i : grid0.Coords) : ((Rect.unit (s := S36) (k0_off1 i) S1.size (k0_off1_inb i)).emb
    (Shape.Idx.first (numel1_S1.symm ▸ Nat.one_pos)) 0).val = (stepOf i).val := by
  show k0_off1 i 0 + 1 * 0 = _
  rw [off1_zero]; omega

/-- A read of the first table at a step: its block of queries. -/
theorem tabs_at0 (i : grid0.Coords) : (tabs (F := F)).at 0 (Rect.unit (s := S36) (k0_off1 i) S1.size (k0_off1_inb i)) numel1_S1 = lit0 (stepOf i) :=
  lit0_at (emb_zero i)

/-- A read of the second: its block of keys. -/
theorem tabs_at1 (i : grid0.Coords) : (tabs (F := F)).at 1 (Rect.unit (s := S36) (k0_off1 i) S1.size (k0_off1_inb i)) numel1_S1 = lit1 (stepOf i) :=
  lit1_at (emb_zero i)

theorem tabs_atD0 (i : grid0.Coords) : (tabs (F := F)).atD 0 (k0_off1 i) = lit0 (stepOf i) := by
  have h : ∀ a, k0_off1 i a + 1 ≤ (pre0.ref 0).ty.shape.size a := fun | ⟨0, _⟩ => k0_off1_inb i 0
  refine (dif_pos h).trans ?_
  exact lit0_at (off1_zero i)

theorem tabs_atD1 (i : grid0.Coords) : (tabs (F := F)).atD 1 (k0_off1 i) = lit1 (stepOf i) := by
  have h : ∀ a, k0_off1 i a + 1 ≤ (pre0.ref 1).ty.shape.size a := fun | ⟨0, _⟩ => k0_off1_inb i 0
  refine (dif_pos h).trans ?_
  exact lit1_at (off1_zero i)

theorem map0 (i : grid0.Coords) : cc0_transform_0 k0_off1_inb numel1_S1 (tabs (F := F)) i = ![(qb (stepOf i)).val, (headOf i).val] := by
  show ![((tabs (F := F)).at 0 (Rect.unit (s := S36) (k0_off1 i) S1.size (k0_off1_inb i)) numel1_S1).toNat, (0#32 + BitVec.ofNat 32 (i 0).val).toNat] = _
  rw [tabs_at0, lit0_toNat, BitVec.zero_add, word_head]

theorem map1 (i : grid0.Coords) : cc0_transform_1 k0_off1_inb numel1_S1 (tabs (F := F)) i = ![(kb (stepOf i)).val, (headOf i).val] := by
  show ![((tabs (F := F)).at 1 (Rect.unit (s := S36) (k0_off1 i) S1.size (k0_off1_inb i)) numel1_S1).toNat, (0#32 + BitVec.ofNat 32 (i 0).val).toNat] = _
  rw [tabs_at1, lit1_toNat, BitVec.zero_add, word_head]

theorem map2 (i : grid0.Coords) : cc0_transform_2 k0_off1_inb numel1_S1 (tabs (F := F)) i = ![(headOf i).val, (kb (stepOf i)).val] := by
  show ![(0#32 + BitVec.ofNat 32 (i 0).val).toNat, ((tabs (F := F)).at 1 (Rect.unit (s := S36) (k0_off1 i) S1.size (k0_off1_inb i)) numel1_S1).toNat] = _
  rw [tabs_at1, lit1_toNat, BitVec.zero_add, word_head]

theorem map3 (i : grid0.Coords) : cc0_transform_3 k0_off1_inb numel1_S1 (tabs (F := F)) i = ![(kb (stepOf i)).val, (headOf i).val] := by
  show ![((tabs (F := F)).at 1 (Rect.unit (s := S36) (k0_off1 i) S1.size (k0_off1_inb i)) numel1_S1).toNat, (0#32 + BitVec.ofNat 32 (i 0).val).toNat] = _
  rw [tabs_at1, lit1_toNat, BitVec.zero_add, word_head]

theorem map4 (i : grid0.Coords) : cc0_transform_4 k0_off1_inb numel1_S1 (tabs (F := F)) i = ![(qb (stepOf i)).val, (headOf i).val] := by
  show ![((tabs (F := F)).at 0 (Rect.unit (s := S36) (k0_off1 i) S1.size (k0_off1_inb i)) numel1_S1).toNat, (0#32 + BitVec.ofNat 32 (i 0).val).toNat] = _
  rw [tabs_at0, lit0_toNat, BitVec.zero_add, word_head]

theorem map5 (i : grid0.Coords) : cc0_transform_5 k0_off1_inb numel1_S1 (tabs (F := F)) i = ![(headOf i).val, 0, (qb (stepOf i)).val] := by
  show ![(BitVec.ofNat 32 (i 0).val).toNat, (0#32 : BitVec 32).toNat, ((tabs (F := F)).at 0 (Rect.unit (s := S36) (k0_off1 i) S1.size (k0_off1_inb i)) numel1_S1).toNat] = _
  rw [tabs_at0, lit0_toNat, word_head]
  rfl

theorem map6 (i : grid0.Coords) : cc0_transform_6 k0_off1_inb numel1_S1 (tabs (F := F)) i = ![(headOf i).val, 0, (qb (stepOf i)).val] := by
  show ![(BitVec.ofNat 32 (i 0).val).toNat, (0#32 : BitVec 32).toNat, ((tabs (F := F)).at 0 (Rect.unit (s := S36) (k0_off1 i) S1.size (k0_off1_inb i)) numel1_S1).toNat] = _
  rw [tabs_at0, lit0_toNat, word_head]
  rfl

theorem map7 (i : grid0.Coords) : cc0_transform_7 i = ![(headOf i).val, 0, 0, 0] := by
  show ![(BitVec.ofNat 32 (i 0).val).toNat, (0#32 : BitVec 32).toNat, (0#32 : BitVec 32).toNat, (0#32 : BitVec 32).toNat] = _
  rw [word_head]
  rfl

theorem map8 (i : grid0.Coords) : cc0_transform_8 k0_off1_inb numel1_S1 (tabs (F := F)) i = ![(kb (stepOf i)).val, (headOf i).val] := by
  show ![((tabs (F := F)).at 1 (Rect.unit (s := S36) (k0_off1 i) S1.size (k0_off1_inb i)) numel1_S1).toNat, (BitVec.ofNat 32 (i 0).val).toNat] = _
  rw [tabs_at1, lit1_toNat, word_head]

theorem map9 (i : grid0.Coords) : cc0_transform_9 k0_off1_inb numel1_S1 (tabs (F := F)) i = ![(kb (stepOf i)).val, (headOf i).val] := by
  show ![((tabs (F := F)).at 1 (Rect.unit (s := S36) (k0_off1 i) S1.size (k0_off1_inb i)) numel1_S1).toNat, (BitVec.ofNat 32 (i 0).val).toNat] = _
  rw [tabs_at1, lit1_toNat, word_head]

theorem in_rows (x y : Fin 8) : ∃ h : (∀ a, ((![x.val, y.val] : Fin 2 → ℕ) a + 1) * S1024x128.size a ≤ S8192x1024.size a),
    EltTy.bits .bf16 = 32 ∨ (Rect.block (s := S8192x1024) S1024x128.size ![x.val, y.val] h).WholeWords (EltTy.packing .bf16) := by
  revert x y; decide +kernel

theorem in_cols (x y : Fin 8) : ∃ h : (∀ a, ((![x.val, y.val] : Fin 2 → ℕ) a + 1) * S128x1024.size a ≤ S1024x8192.size a),
    EltTy.bits .bf16 = 32 ∨ (Rect.block (s := S1024x8192) S128x1024.size ![x.val, y.val] h).WholeWords (EltTy.packing .bf16) := by
  revert x y; decide +kernel

theorem in_rows32 (x y : Fin 8) : ∃ h : (∀ a, ((![x.val, y.val] : Fin 2 → ℕ) a + 1) * S1024x128.size a ≤ S8192x1024.size a),
    EltTy.bits .f32 = 32 ∨ (Rect.block (s := S8192x1024) S1024x128.size ![x.val, y.val] h).WholeWords (EltTy.packing .f32) := by
  refine ⟨?_, .inl rfl⟩; revert x y; decide +kernel

theorem in_line (x y : Fin 8) : ∃ h : (∀ a, ((![x.val, 0, y.val] : Fin 3 → ℕ) a + 1) * S1x1x1024.size a ≤ S8x1x8192.size a),
    EltTy.bits .f32 = 32 ∨ (Rect.block (s := S8x1x8192) S1x1x1024.size ![x.val, 0, y.val] h).WholeWords (EltTy.packing .f32) := by
  refine ⟨?_, .inl rfl⟩; revert x y; decide +kernel

/-- The tables are admissible: every block they name lies inside its array, in whole words. -/
theorem ok_tabs : ok0 (tabs (F := F)) := by
  unfold ok0
  refine ⟨?_, ?_, ?_, ?_, ?_, ?_, ?_, ?_, ?_⟩ <;> intro i
  · rw [map0]; exact in_rows (qb (stepOf i)) (headOf i)
  · rw [map1]; exact in_rows (kb (stepOf i)) (headOf i)
  · rw [map2]; exact in_cols (headOf i) (kb (stepOf i))
  · rw [map3]; exact in_rows (kb (stepOf i)) (headOf i)
  · rw [map4]; exact in_rows (qb (stepOf i)) (headOf i)
  · rw [map5]; exact in_line (headOf i) (qb (stepOf i))
  · rw [map6]; exact in_line (headOf i) (qb (stepOf i))
  · rw [map8]; exact in_rows32 (kb (stepOf i)) (headOf i)
  · rw [map9]; exact in_rows32 (kb (stepOf i)) (headOf i)

/-- The region's admissible tables. -/
abbrev adm : (p : Fin 1) → (pcfgs (F := F) p).Adm := fun _ => ⟨tabs, ok_tabs⟩

/-- The region at its tables. -/
abbrev cfgA : Pipeline.Cfg sig Λ₀ := cfg0 (F := F) (adm 0)

/-- A point of the grid. -/
abbrev Pt (F : FTy → Type) [FloatOps F] [Named F] := Fin (cfgA (F := F)).N

/-- No step leaves an output alone: it takes one of the two branches, and both store into each. -/
theorem idle_none (w : Fin 10) (i : grid0.Coords) : idle0 (tabs (F := F)) w i = false := by
  have h : (!(k0_cond3 ((tabs (F := F)).atD 0 (k0_off1 i)) ((tabs (F := F)).atD 1 (k0_off1 i)) == 1#1) &&
      !(k0_cond4 ((tabs (F := F)).atD 0 (k0_off1 i)) ((tabs (F := F)).atD 1 (k0_off1 i)) == 1#1)) = false := by
    rw [tabs_atD0, tabs_atD1]
    by_cases e : qb (stepOf i) = kb (stepOf i)
    · rw [(cond4_iff _).2 e]; simp
    · rw [(cond3_iff _).2 e]; simp
  match w with
  | 0 => rfl | 1 => rfl | 2 => rfl | 3 => rfl | 4 => rfl | 5 => rfl | 6 => rfl
  | 7 => exact (Bool.and_assoc _ _ _).trans ((congrArg _ h).trans (Bool.and_false _))
  | 8 => exact (Bool.and_assoc _ _ _).trans ((congrArg _ h).trans (Bool.and_false _))
  | 9 => exact (Bool.and_assoc _ _ _).trans ((congrArg _ h).trans (Bool.and_false _))
  | ⟨_ + 10, h⟩ => exact absurd h (Nat.not_lt.2 (Nat.le_add_left _ _))

end Cert.KernelIdeal.Attn

end
-- ==== Proof.KI.Steps.lean ====
/- What a step of the gradient kernel leaves in its three outputs. -/
module

public import proofs.«01_k».proof.Proof.KI.Maps
public import Idealize.ShloMosaic.Lib.VecWindow
public import Idealize.ShloMosaic.Lib.WritesUnit

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

/-- Eight slabs of 128 × 1024: the gradient of a head's queries, transposed. -/
theorem slab_inb (n : Fin 8) : ∀ a, (![0, n.val, 0, 0] : Fin 4 → ℕ) a + S1x1x128x1024.size a ≤ S1x8x128x1024.size a := by
  revert n; decide

/-- Slab `n`. -/
def slab (n : Fin 8) (x : Vec F S1x8x128x1024 .f32) : Vec F S1x1x128x1024 .f32 :=
  VecWindow.window x ![0, n.val, 0, 0] S1x1x128x1024.size (slab_inb n)

/-- Slab `n` replaced. -/
def putSlab (n : Fin 8) (x : Vec F S1x8x128x1024 .f32) (w : Vec F S1x1x128x1024 .f32) : Vec F S1x8x128x1024 .f32 :=
  VecWindow.put x ![0, n.val, 0, 0] S1x1x128x1024.size w

/-- A step past the diagonal: the gradient of the scores, -/
def dsC (q k v o : Vec F S1024x128 .bf16) (l d : Vec F S1x1x1024 .f32) : FVec F S1024x1024 .bf16 := k0_pay8 q k v o l d

/-- what it leaves of the gradient of the values, -/
def dvC (q k o : Vec F S1024x128 .bf16) (l : Vec F S1x1x1024 .f32) (y : Vec F S1024x128 .f32) : Vec F S1024x128 .f32 := k0_pay7 q k o l y

/-- of the keys, -/
def dkC (q k v o : Vec F S1024x128 .bf16) (l d : Vec F S1x1x1024 .f32) (y : Vec F S1024x128 .f32) : Vec F S1024x128 .f32 :=
  k0_pay18 (k0_pay4 q) (dsC q k v o l d) (k0_pay9 y) (constant S1024x128 .f32 0x00000000#32)

/-- and of the queries. -/
def dqC (n : Fin 8) (q k : Vec F S1024x128 .bf16) (kt : Vec F S128x1024 .bf16) (v o : Vec F S1024x128 .bf16) (l d : Vec F S1x1x1024 .f32)
    (y : Vec F S1x8x128x1024 .f32) : Vec F S1x8x128x1024 .f32 :=
  putSlab n y (k0_pay19 (dsC q k v o l d) (slab n y) kt)

/-- A step on the diagonal: the probabilities, -/
def ptB (n : Fin 36) (q k : Vec F S1024x128 .bf16) (l : Vec F S1x1x1024 .f32) : FVec F S1024x1024 .f32 := k0_pay12 (lit0 n) (lit1 n) q k l

/-- what it leaves of the gradient of the values, -/
def dvB (n : Fin 36) (q k o : Vec F S1024x128 .bf16) (l : Vec F S1x1x1024 .f32) : Vec F S1024x128 .f32 :=
  k0_pay13 (lit0 n) (lit1 n) q k o l (k0_pay17 (F := F))

/-- of the keys, -/
def dkB (n : Fin 36) (q k v o : Vec F S1024x128 .bf16) (l d : Vec F S1x1x1024 .f32) : Vec F S1024x128 .f32 :=
  k0_pay2 (k0_pay10 q) (ptB n q k l) (k0_pay14 v o) d (k0_pay16 (F := F))

/-- and of the queries. -/
def dqB (n : Fin 36) (q k : Vec F S1024x128 .bf16) (kt : Vec F S128x1024 .bf16) (v o : Vec F S1024x128 .bf16) (l d : Vec F S1x1x1024 .f32)
    (y : Vec F S1x8x128x1024 .f32) : Vec F S1x8x128x1024 .f32 :=
  putSlab (qb n) y (k0_pay3 (ptB n q k l) (k0_pay14 v o) d (slab (qb n) y) kt)

/-- The word a step reads of a table held in a memref. -/
abbrev word (c : Dev nD) (i : grid0.Coords) (arg : Memref sig .tc .smem S36 .i32) (f : Buf (Elt F) (arg.view.loc (c : Thread nD τ))) : BitVec 32 :=
  View.readAt (Elt F) arg.view (Rect.unit (s := S36) (k0_off1 i) S1.size (k0_off1_inb i)).toLoadRect f (Shape.Idx.first (numel1_S1.symm ▸ Nat.one_pos))

theorem off2_eq {w : BitVec 32} {n : Fin 36} (h : w = lit0 n) : k0_off2 w = ![0, (qb n).val, 0, 0] := by
  subst h
  show ![0, (lit0 n).toNat, 0, 0] = _
  rw [lit0_toNat]

theorem off3_eq {w : BitVec 32} {n : Fin 36} (h : w = lit0 n) : k0_off3 w = ![0, (qb n).val, 0, 0] := off2_eq h

/-- A load of the whole of a buffer that holds `x` is `x`. -/
theorem read_square {e : EltTy} {arg : Memref sig .tc .vmem S1024x128 e} (h : arg.IsWhole) (x : Vec F S1024x128 e) :
    View.readAt (Elt F) arg.view (Rect.unit (s := S1024x128) ![0, 0] ![1024, 128] inb_S1024x128_S1024x128_0_0).toLoadRect (h.unread x) = x :=
  (View.readAt_full _ _ inb_S1024x128_S1024x128_0_0).trans (h.read_unread x)

/-- A load of the whole of a buffer that holds `x` is `x`. -/
theorem read_flat {e : EltTy} {arg : Memref sig .tc .vmem S128x1024 e} (h : arg.IsWhole) (x : Vec F S128x1024 e) :
    View.readAt (Elt F) arg.view (Rect.unit (s := S128x1024) ![0, 0] ![128, 1024] inb_S128x1024_S128x1024_0_0).toLoadRect (h.unread x) = x :=
  (View.readAt_full _ _ inb_S128x1024_S128x1024_0_0).trans (h.read_unread x)

/-- A load of the whole of a buffer that holds `x` is `x`. -/
theorem read_line {e : EltTy} {arg : Memref sig .tc .vmem S1x1x1024 e} (h : arg.IsWhole) (x : Vec F S1x1x1024 e) :
    View.readAt (Elt F) arg.view (Rect.unit (s := S1x1x1024) ![0, 0, 0] ![1, 1, 1024] inb_S1x1x1024_S1x1x1024_0_0_0).toLoadRect (h.unread x) = x :=
  (View.readAt_full _ _ inb_S1x1x1024_S1x1x1024_0_0_0).trans (h.read_unread x)

/-- A load of the whole of a buffer after a store of the whole of it is what was stored. -/
theorem cov_square {e : EltTy} (arg : Memref sig .tc .vmem S1024x128 e) (x : Vec F S1024x128 e) :
    arg.view.readCov [(⟨Rect.unit (s := S1024x128) ![0, 0] ![1024, 128] inb_S1024x128_S1024x128_0_0, x⟩ : View.Piece (Elt F) S1024x128 e)]
      (Rect.unit (s := S1024x128) ![0, 0] ![1024, 128] inb_S1024x128_S1024x128_0_0).toLoadRect = x :=
  View.readCov_full arg.view inb_S1024x128_S1024x128_0_0 inb_S1024x128_S1024x128_0_0 x []

/-- A load of a slab after a store of the whole buffer is that slab of what was stored. -/
theorem load_slab (arg : Memref sig .tc .vmem S1x8x128x1024 .f32) (f : arg.view.ty.Contents (Elt F)) (x : Vec F S1x8x128x1024 .f32) {n : Fin 8} {off : Fin 4 → ℕ}
    (inb : ∀ a, off a + S1x1x128x1024.size a ≤ S1x8x128x1024.size a) (h : off = ![0, n.val, 0, 0]) :
    View.readAt (Elt F) arg.view (Rect.unit (s := S1x8x128x1024) off S1x1x128x1024.size inb).toLoadRect (arg.view.writes (Elt F) f
      [(⟨Rect.unit (s := S1x8x128x1024) ![0, 0, 0, 0] S1x8x128x1024.size inb_S1x8x128x1024_S1x8x128x1024_0_0_0_0, x⟩ : View.Piece (Elt F) S1x8x128x1024 .f32)]) = slab n x := by
  rw [View.readAt_unit _ _ _ h (slab_inb n), View.read_writes_full]
  rfl

end Cert.KernelIdeal.Attn

end
-- ==== Proof.KI.RunA.lean ====
/- A head's first step does so from a zeroed gradient of the queries too. -/
module

public import proofs.«01_k».proof.Proof.KI.Steps

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

set_option maxHeartbeats 1000000 in
/-- A head's first step does so from a zeroed gradient of the queries too. -/
theorem run_A (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x8x128x1024 .f32) (harg11 : arg11.IsWhole) (arg12 : Memref sig .tc .vmem S1024x128 .f32) (harg12 : arg12.IsWhole) (arg13 : Memref sig .tc .vmem S1024x128 .f32) (harg13 : arg13.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (h1 : k0_cond1 i = 1#1) (he : qb (stepOf i) = kb (stepOf i)) (x4 : Vec F S1024x128 .bf16) (x5 : Vec F S1024x128 .bf16) (x6 : Vec F S128x1024 .bf16) (x7 : Vec F S1024x128 .bf16) (x8 : Vec F S1024x128 .bf16) (x9 : Vec F S1x1x1024 .f32) (x10 : Vec F S1x1x1024 .f32) (x11 : Vec F S1x8x128x1024 .f32) (x12 : Vec F S1024x128 .f32) (x13 : Vec F S1024x128 .f32) (E : Set ℕ) (K : PUnit → sProp 𝕄) :
    iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (dqB (stepOf i) x4 x5 x6 x7 x8 x9 x10 (k0_pay15 (F := F))) ∗ owns (c : Thread nD τ) arg12 fullShare (dkB (stepOf i) x4 x5 x7 x8 x9 x10) ∗ owns (c : Thread nD τ) arg13 fullShare (dvB (stepOf i) x4 x5 x8 x9)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13) K := by
  have h2 : k0_cond2 (word c i arg2 f2) (word c i arg3 f3) = 1#1 := by rw [w2, w3]; exact (cond2_iff _).2 he
  have h3 : ¬ k0_cond3 (word c i arg2 f2) (word c i arg3 f3) = 1#1 := by rw [w2, w3]; exact fun h => (cond3_iff _).1 h he
  have h4 : k0_cond4 (word c i arg2 f2) (word c i arg3 f3) = 1#1 := by rw [w2, w3]; exact (cond4_iff _).2 he
  have hc : k0_chk1 (word c i arg2 f2) (word c i arg3 f3) := by rw [w2, w3]; exact chk1 _
  simp only [cc0_mla_attn_bwd_eq_skeleton]
  unfold cc0_mla_attn_bwd_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4 | sl_exact hc)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    have w2' : run_A.sl.r c i arg2 f2 = lit0 (stepOf i) := w2
    have w3' : run_A.sl.r_1 c i arg3 f3 = lit1 (stepOf i) := w3
    rw [View.read_writes_cons_put _ _ _ _ _ (off3_eq w2)]
    unfold run_A.sl.v86 run_A.sl.H11_1
    rw [load_slab arg11 _ _ _ (off3_eq w2'), View.read_writes_full]
    unfold run_A.sl.r_3 run_A.sl.r_4
    rw [w2', w3']
    simp only [read_square, read_flat, read_line]
    rfl
  isplitl [H12]
  · iexists _; isplitr; swap; · iexact H12
    ipureintro
    have w2' : run_A.sl.r c i arg2 f2 = lit0 (stepOf i) := w2
    have w3' : run_A.sl.r_1 c i arg3 f3 = lit1 (stepOf i) := w3
    rw [View.read_writes_full]
    unfold run_A.sl.r_3 run_A.sl.r_2 run_A.sl.r_4 run_A.sl.v80 run_A.sl.H12_1
    rw [w2', w3']
    simp only [read_square, read_flat, read_line]
    rw [cov_square]
    rfl
  · iexists _; isplitr; swap; · iexact H13
    ipureintro
    have w2' : run_A.sl.r c i arg2 f2 = lit0 (stepOf i) := w2
    have w3' : run_A.sl.r_1 c i arg3 f3 = lit1 (stepOf i) := w3
    rw [View.read_writes_full]
    unfold run_A.sl.v65 run_A.sl.H13_1
    rw [w2', w3']
    simp only [read_square, read_flat, read_line]
    rw [cov_square]
    rfl

end Cert.KernelIdeal.Attn

end
-- ==== Proof.KI.RunB.lean ====
/- A step on the diagonal that is not a head's first runs the branch with the mask, from zeroed gradients of the keys and values. -/
module

public import proofs.«01_k».proof.Proof.KI.Steps

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

set_option maxHeartbeats 1000000 in
/-- A step on the diagonal that is not a head's first runs the branch with the mask, from zeroed gradients of the keys and values. -/
theorem run_B (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x8x128x1024 .f32) (harg11 : arg11.IsWhole) (arg12 : Memref sig .tc .vmem S1024x128 .f32) (harg12 : arg12.IsWhole) (arg13 : Memref sig .tc .vmem S1024x128 .f32) (harg13 : arg13.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (h1 : ¬ k0_cond1 i = 1#1) (he : qb (stepOf i) = kb (stepOf i)) (x4 : Vec F S1024x128 .bf16) (x5 : Vec F S1024x128 .bf16) (x6 : Vec F S128x1024 .bf16) (x7 : Vec F S1024x128 .bf16) (x8 : Vec F S1024x128 .bf16) (x9 : Vec F S1x1x1024 .f32) (x10 : Vec F S1x1x1024 .f32) (x11 : Vec F S1x8x128x1024 .f32) (x12 : Vec F S1024x128 .f32) (x13 : Vec F S1024x128 .f32) (E : Set ℕ) (K : PUnit → sProp 𝕄) :
    iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (dqB (stepOf i) x4 x5 x6 x7 x8 x9 x10 x11) ∗ owns (c : Thread nD τ) arg12 fullShare (dkB (stepOf i) x4 x5 x7 x8 x9 x10) ∗ owns (c : Thread nD τ) arg13 fullShare (dvB (stepOf i) x4 x5 x8 x9)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13) K := by
  have h2 : k0_cond2 (word c i arg2 f2) (word c i arg3 f3) = 1#1 := by rw [w2, w3]; exact (cond2_iff _).2 he
  have h3 : ¬ k0_cond3 (word c i arg2 f2) (word c i arg3 f3) = 1#1 := by rw [w2, w3]; exact fun h => (cond3_iff _).1 h he
  have h4 : k0_cond4 (word c i arg2 f2) (word c i arg3 f3) = 1#1 := by rw [w2, w3]; exact (cond4_iff _).2 he
  have hc : k0_chk1 (word c i arg2 f2) (word c i arg3 f3) := by rw [w2, w3]; exact chk1 _
  simp only [cc0_mla_attn_bwd_eq_skeleton]
  unfold cc0_mla_attn_bwd_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4 | sl_exact hc)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    have w2' : run_B.sl.r c i arg2 f2 = lit0 (stepOf i) := w2
    have w3' : run_B.sl.r_1 c i arg3 f3 = lit1 (stepOf i) := w3
    rw [View.read_writes_cons_put _ _ _ _ _ (off3_eq w2)]
    rw [View.readAt_unit arg11.view (harg11.unread x11) _ (off3_eq w2') (slab_inb _)]
    unfold run_B.sl.r_3 run_B.sl.r_4
    rw [w2', w3']
    simp only [read_square, read_flat, read_line]
    simp only [View.writes_nil, harg11.read_unread]
    rfl
  isplitl [H12]
  · iexists _; isplitr; swap; · iexact H12
    ipureintro
    have w2' : run_B.sl.r c i arg2 f2 = lit0 (stepOf i) := w2
    have w3' : run_B.sl.r_1 c i arg3 f3 = lit1 (stepOf i) := w3
    rw [View.read_writes_full]
    unfold run_B.sl.r_3 run_B.sl.r_2 run_B.sl.r_4 run_B.sl.v80 run_B.sl.H12_1
    rw [w2', w3']
    simp only [read_square, read_flat, read_line]
    rw [cov_square]
    rfl
  · iexists _; isplitr; swap; · iexact H13
    ipureintro
    have w2' : run_B.sl.r c i arg2 f2 = lit0 (stepOf i) := w2
    have w3' : run_B.sl.r_1 c i arg3 f3 = lit1 (stepOf i) := w3
    rw [View.read_writes_full]
    unfold run_B.sl.v65 run_B.sl.H13_1
    rw [w2', w3']
    simp only [read_square, read_flat, read_line]
    rw [cov_square]
    rfl

end Cert.KernelIdeal.Attn

end
-- ==== Proof.KI.RunC.lean ====
/- A step past the diagonal runs the branch without a mask. -/
module

public import proofs.«01_k».proof.Proof.KI.Steps

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

set_option maxHeartbeats 1000000 in
/-- A step past the diagonal runs the branch without a mask. -/
theorem run_C (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x8x128x1024 .f32) (harg11 : arg11.IsWhole) (arg12 : Memref sig .tc .vmem S1024x128 .f32) (harg12 : arg12.IsWhole) (arg13 : Memref sig .tc .vmem S1024x128 .f32) (harg13 : arg13.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (h1 : ¬ k0_cond1 i = 1#1) (hne : ¬ qb (stepOf i) = kb (stepOf i)) (x4 : Vec F S1024x128 .bf16) (x5 : Vec F S1024x128 .bf16) (x6 : Vec F S128x1024 .bf16) (x7 : Vec F S1024x128 .bf16) (x8 : Vec F S1024x128 .bf16) (x9 : Vec F S1x1x1024 .f32) (x10 : Vec F S1x1x1024 .f32) (x11 : Vec F S1x8x128x1024 .f32) (x12 : Vec F S1024x128 .f32) (x13 : Vec F S1024x128 .f32) (E : Set ℕ) (K : PUnit → sProp 𝕄) :
    iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13
      ∗ (iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (dqC (qb (stepOf i)) x4 x5 x6 x7 x8 x9 x10 x11) ∗ owns (c : Thread nD τ) arg12 fullShare (dkC x4 x5 x7 x8 x9 x10 x12) ∗ owns (c : Thread nD τ) arg13 fullShare (dvC x4 x5 x8 x9 x13)) -∗ K ⟨⟩))
      ⊢ wp frame (wpE (defs₀ (F := F)) Variants.none c none) E (cc0_mla_attn_bwd i arg2 harg2 arg3 harg3 arg4 harg4 arg5 harg5 arg6 harg6 arg7 harg7 arg8 harg8 arg9 harg9 arg10 harg10 arg11 harg11 arg12 harg12 arg13 harg13) K := by
  have h2 : ¬ k0_cond2 (word c i arg2 f2) (word c i arg3 f3) = 1#1 := by rw [w2, w3]; exact fun h => hne ((cond2_iff _).1 h)
  have h3 : k0_cond3 (word c i arg2 f2) (word c i arg3 f3) = 1#1 := by rw [w2, w3]; exact (cond3_iff _).2 hne
  have h4 : ¬ k0_cond4 (word c i arg2 f2) (word c i arg3 f3) = 1#1 := by rw [w2, w3]; exact fun h => hne ((cond4_iff _).1 h)
  have hc : k0_chk1 (word c i arg2 f2) (word c i arg3 f3) := by rw [w2, w3]; exact chk1 _
  simp only [cc0_mla_attn_bwd_eq_skeleton]
  unfold cc0_mla_attn_bwd_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact h1 | sl_exact h2 | sl_exact h3 | sl_exact h4 | sl_exact hc)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    rw [View.read_writes_cons_put _ _ _ _ _ (off2_eq w2)]
    unfold run_C.sl.r_3 run_C.sl.r
    simp only [read_square, read_flat, read_line]
    rw [View.readAt_unit _ _ _ (off2_eq w2) (slab_inb _)]
    simp only [View.writes_nil, harg11.read_unread]
    rfl
  isplitl [H12]
  · iexists _; isplitr; swap; · iexact H12
    ipureintro
    rw [View.read_writes_full]
    unfold run_C.sl.r_2 run_C.sl.r_3 run_C.sl.r_4 run_C.sl.cst_37
    simp only [read_square, read_flat, read_line]
    rfl
  · iexists _; isplitr; swap; · iexact H13
    ipureintro
    rw [View.read_writes_full]
    simp only [read_square, read_flat, read_line]
    rfl

end Cert.KernelIdeal.Attn

end
-- ==== Proof.KI.Host.lean ====
/- The memory the gradient kernel's region finds: after the host operations before it. -/
module

public import proofs.«01_k».proof.Proof.KI.Maps
public import Idealize.ShloMosaic.Lib.StableHlo.RunRead

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- The buffers the host operations write, in order. -/
abbrev written : List (Ref sig .tc) :=
  [main_c, main_c_0, main_v0, main_cst, main_v1, main_v2, main_v3, main_v4, main_v5, main_cst_1, main_v6, main_v7, main_cst_2, main_v8, main_v9, main_v10, main_v11, main_v12, main_cst_3, main_v13, main_v14, main_v15, main_v16, main_v17, main_v18, main_v19, main_v20, main_cst_4, main_v21, main_v22, main_v23, main_v24, main_v25, main_v26, main_v27, main_cst_5, main_v28, main_v29, main_v30, main_v31, main_cst_6, main_v32, main_v33, main_v34, main_v35, main_cst_7, main_v36, main_v37, main_v38, main_v39, main_cst_8, main_v40, main_v41, main_v42, main_cst_9, main_v43, main_v44, main_v45, main_v46]

theorem writes_written : (hostOps0 : List (HloOp τ sig (Elt F))).Forall fun op => op.writes ⊆ (written.map (Proc.devRef (τ := τ) .tc)).toFinset :=
  StableHlo.forall_writes_sub_of_map rfl

theorem V_arg0 (c : Dev nD) : V m c main_arg0 = m ((c : Thread nD τ).loc main_arg0) :=
  StableHlo.after_of_writes_sub hostOps0 _ writes_written (by decide)

theorem V_arg1 (c : Dev nD) : V m c main_arg1 = m ((c : Thread nD τ).loc main_arg1) :=
  StableHlo.after_of_writes_sub hostOps0 _ writes_written (by decide)

theorem V_arg2 (c : Dev nD) : V m c main_arg2 = m ((c : Thread nD τ).loc main_arg2) :=
  StableHlo.after_of_writes_sub hostOps0 _ writes_written (by decide)

theorem V_arg3 (c : Dev nD) : V m c main_arg3 = m ((c : Thread nD τ).loc main_arg3) :=
  StableHlo.after_of_writes_sub hostOps0 _ writes_written (by decide)

/-- The region finds the two tables in the buffers it prefetches. -/
theorem V_tabs (c : Dev nD) (k : Fin 2) : V m c (pre0.ref k) = (tabs (F := F)) k := by
  match k with
  | 0 =>
    show V m c main_c = (tabs (F := F)) 0
    unfold V
    after_results
    rfl
  | 1 =>
    show V m c main_c_0 = (tabs (F := F)) 1
    unfold V
    after_results
    rfl

end Cert.KernelIdeal.Attn

end
-- ==== Proof.KI.Data.lean ====
/- The gradient kernel's run: what its outputs' buffers hold at every step, the proof data, the body's obligation, the launch and the frame. -/
module

public import proofs.«01_k».proof.Proof.KI.RunA
public import proofs.«01_k».proof.Proof.KI.RunB
public import proofs.«01_k».proof.Proof.KI.RunC
public import proofs.«01_k».proof.Proof.KI.Host
public import Idealize.ShloMosaic.Lib.Pipeline.TableIdle
public import Idealize.ShloMosaic.Lib.Pipeline.Frame
public import Idealize.ShloMosaic.Lib.Pipeline.FrameBody
public import Idealize.ShloMosaic.Lib.Claim

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem head_coords (t : Fin grid0.N) : (headOf (grid0.coords t)).val = t.val / 36 % 8 := Pipeline.Grid.coords_val t 0 (by decide) rfl

theorem step_coords (t : Fin grid0.N) : (stepOf (grid0.coords t)).val = t.val % 36 := by
  have e : (grid0.coords t 1).val = t.val / 1 % 36 := Pipeline.Grid.coords_val t 1 (by decide) rfl
  rw [Nat.div_one] at e; exact e

theorem lt_288 (t : Fin grid0.N) : t.val < 288 := lt_of_lt_of_eq t.isLt N_0

/-- The first condition holds at a head's first step. -/
theorem cond1_iff (i : grid0.Coords) : k0_cond1 i = 1#1 ↔ (stepOf i).val = 0 := by
  have h : ∀ n : Fin 36, (Scalar.cmpi .ne (Scalar.extui (Scalar.cmpi .eq (BitVec.ofNat 32 n.val) 0#32)) 0#32 : BitVec 1) = 1#1 ↔ n.val = 0 := by decide +kernel
  exact h (stepOf i)

/-! ## The blocks -/

/-- A window's block at a step, read off its array as the region finds it. -/
def iblk (c : Dev nD) (w : Fin (cfgA (F := F)).W) (t : Pt F) :
    (((cfgA (F := F)).win w).xblock ((cfgA (F := F)).grid.coords t)).Idx → Elt F ((cfgA (F := F)).win w).elt :=
  (((cfgA (F := F)).win w).blk t).view.read (Elt F) (V m c (Pipeline.arrRef spec0 w))

/-- Window 0's block. -/
def qB (c : Dev nD) (t : Fin grid0.N) : Vec F S1024x128 .bf16 := iblk m c 0 t
/-- Window 1's block. -/
def kB (c : Dev nD) (t : Fin grid0.N) : Vec F S1024x128 .bf16 := iblk m c 1 t
/-- Window 2's block. -/
def ktB (c : Dev nD) (t : Fin grid0.N) : Vec F S128x1024 .bf16 := iblk m c 2 t
/-- Window 3's block. -/
def vB (c : Dev nD) (t : Fin grid0.N) : Vec F S1024x128 .bf16 := iblk m c 3 t
/-- Window 4's block. -/
def oB (c : Dev nD) (t : Fin grid0.N) : Vec F S1024x128 .bf16 := iblk m c 4 t
/-- Window 5's block. -/
def lseB (c : Dev nD) (t : Fin grid0.N) : Vec F S1x1x1024 .f32 := iblk m c 5 t
/-- Window 6's block. -/
def dltB (c : Dev nD) (t : Fin grid0.N) : Vec F S1x1x1024 .f32 := iblk m c 6 t

/-! ## What the outputs' buffers hold -/

/-- The outputs' buffers: a head's gradient of the queries, a block of the keys' and one of the values'. -/
abbrev Outs (F : FTy → Type) := Vec F S1x8x128x1024 .f32 × Vec F S1024x128 .f32 × Vec F S1024x128 .f32

/-- One step, from what the one before left. -/
def stepOuts (c : Dev nD) (t : Fin grid0.N) (y : Outs F) : Outs F :=
  if qb (stepOf (grid0.coords t)) = kb (stepOf (grid0.coords t)) then
    (dqB (stepOf (grid0.coords t)) (qB m c t) (kB m c t) (ktB m c t) (vB m c t) (oB m c t) (lseB m c t) (dltB m c t)
        (if t.val % 36 = 0 then k0_pay15 (F := F) else y.1),
      dkB (stepOf (grid0.coords t)) (qB m c t) (kB m c t) (vB m c t) (oB m c t) (lseB m c t) (dltB m c t),
      dvB (stepOf (grid0.coords t)) (qB m c t) (kB m c t) (oB m c t) (lseB m c t))
  else
    (dqC (qb (stepOf (grid0.coords t))) (qB m c t) (kB m c t) (ktB m c t) (vB m c t) (oB m c t) (lseB m c t) (dltB m c t) y.1,
      dkC (qB m c t) (kB m c t) (vB m c t) (oB m c t) (lseB m c t) (dltB m c t) y.2.1,
      dvC (qB m c t) (kB m c t) (oB m c t) (lseB m c t) y.2.2)

/-- The step of a number. -/
def pnt (n : ℕ) : Fin grid0.N := ⟨n % 288, lt_of_lt_of_eq (Nat.mod_lt _ (by decide)) N_0.symm⟩

theorem pnt_val (t : Fin grid0.N) : pnt t.val = t := Fin.ext (Nat.mod_eq_of_lt (lt_288 t))

/-- What the buffers hold after a step. -/
def outs (c : Dev nD) : ℕ → Outs F
  | 0 => stepOuts m c (pnt 0) (k0_pay15 (F := F), k0_pay16 (F := F), k0_pay17 (F := F))
  | n + 1 => stepOuts m c (pnt (n + 1)) (outs c n)

/-- What a step finds in them. -/
def prior (c : Dev nD) (t : ℕ) : Outs F := if t = 0 then (k0_pay15 (F := F), k0_pay16 (F := F), k0_pay17 (F := F)) else outs m c (t - 1)

theorem outs_eq (c : Dev nD) (t : Fin grid0.N) : outs m c t.val = stepOuts m c t (prior m c t.val) := by
  obtain ⟨n, hn⟩ := t
  cases n with
  | zero => exact congrArg (fun p => stepOuts m c p _) (pnt_val ⟨0, hn⟩)
  | succ n => exact congrArg (fun p => stepOuts m c p _) (pnt_val ⟨n + 1, hn⟩)

/-- The proof data: the arrays as the region finds them, the inputs' buffers at their blocks, the outputs' at `outs`; the invariant keeps the two tables. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val).1
    | ⟨8, _⟩ => (outs m c t.val).2.1
    | ⟨9, _⟩ => (outs m c t.val).2.2
  Φ _ := iprop(Pipeline.ΦA spec0 c ∗ Pipeline.ΦT pre0 (tabs (F := F)) c)
  q _ := fullShare
  owed _ := 0

theorem A_eq (c : Dev nD) (w : Fin (cfgA (F := F)).W) : (dats m 0 c).A w = V m c (Pipeline.arrRef spec0 w) := by
  dsimp only [dats]

theorem after0 (c : Dev nD) (t : Pt F) : (dats m 0 c).after 0 t = iblk m c 0 t := rfl
theorem after1 (c : Dev nD) (t : Pt F) : (dats m 0 c).after 1 t = iblk m c 1 t := rfl
theorem after2 (c : Dev nD) (t : Pt F) : (dats m 0 c).after 2 t = iblk m c 2 t := rfl
theorem after3 (c : Dev nD) (t : Pt F) : (dats m 0 c).after 3 t = iblk m c 3 t := rfl
theorem after4 (c : Dev nD) (t : Pt F) : (dats m 0 c).after 4 t = iblk m c 4 t := rfl
theorem after5 (c : Dev nD) (t : Pt F) : (dats m 0 c).after 5 t = iblk m c 5 t := rfl
theorem after6 (c : Dev nD) (t : Pt F) : (dats m 0 c).after 6 t = iblk m c 6 t := rfl
theorem after7 (c : Dev nD) (t : Pt F) : (dats m 0 c).after 7 t = (outs m c t.val).1 := rfl
theorem after8 (c : Dev nD) (t : Pt F) : (dats m 0 c).after 8 t = (outs m c t.val).2.1 := rfl
theorem after9 (c : Dev nD) (t : Pt F) : (dats m 0 c).after 9 t = (outs m c t.val).2.2 := rfl
theorem before0 (c : Dev nD) (t : Pt F) (d) : (dats m 0 c).before 0 t d = iblk m c 0 t :=
  ((dats m 0 c).before_in_eq_fetched 0 rfl (fun _ => rfl) (fun _ _ _ => rfl) (fun _ => rfl) t d).trans rfl
theorem before1 (c : Dev nD) (t : Pt F) (d) : (dats m 0 c).before 1 t d = iblk m c 1 t :=
  ((dats m 0 c).before_in_eq_fetched 1 rfl (fun _ => rfl) (fun _ _ _ => rfl) (fun _ => rfl) t d).trans rfl
theorem before2 (c : Dev nD) (t : Pt F) (d) : (dats m 0 c).before 2 t d = iblk m c 2 t :=
  ((dats m 0 c).before_in_eq_fetched 2 rfl (fun _ => rfl) (fun _ _ _ => rfl) (fun _ => rfl) t d).trans rfl
theorem before3 (c : Dev nD) (t : Pt F) (d) : (dats m 0 c).before 3 t d = iblk m c 3 t :=
  ((dats m 0 c).before_in_eq_fetched 3 rfl (fun _ => rfl) (fun _ _ _ => rfl) (fun _ => rfl) t d).trans rfl
theorem before4 (c : Dev nD) (t : Pt F) (d) : (dats m 0 c).before 4 t d = iblk m c 4 t :=
  ((dats m 0 c).before_in_eq_fetched 4 rfl (fun _ => rfl) (fun _ _ _ => rfl) (fun _ => rfl) t d).trans rfl
theorem before5 (c : Dev nD) (t : Pt F) (d) : (dats m 0 c).before 5 t d = iblk m c 5 t :=
  ((dats m 0 c).before_in_eq_fetched 5 rfl (fun _ => rfl) (fun _ _ _ => rfl) (fun _ => rfl) t d).trans rfl
theorem before6 (c : Dev nD) (t : Pt F) (d) : (dats m 0 c).before 6 t d = iblk m c 6 t :=
  ((dats m 0 c).before_in_eq_fetched 6 rfl (fun _ => rfl) (fun _ _ _ => rfl) (fun _ => rfl) t d).trans rfl

/-- An output whose block does not move from one step to the next is not written back between. -/
theorem flush_false {w : Window sig grid0} {t : Fin grid0.N} (ht : t.val ≠ 0)
    (h : w.index t = w.index ⟨t.val - 1, Nat.lt_of_le_of_lt (Nat.sub_le _ _) t.isLt⟩) :
    w.flush ⟨t.val - 1, Nat.lt_of_le_of_lt (Nat.sub_le _ _) t.isLt⟩ = false := by
  have e : t.val - 1 + 1 = t.val := by omega
  have e' : (⟨t.val - 1 + 1, by rw [e]; exact t.isLt⟩ : Fin grid0.N) = t := Fin.ext e
  unfold Window.flush
  have h1 : (decide (t.val - 1 + 1 = grid0.N)) = false := decide_eq_false (by rw [e]; exact Nat.ne_of_lt t.isLt)
  have h2 : decide (∃ h : t.val - 1 + 1 < grid0.N, w.index ⟨t.val - 1 + 1, h⟩ ≠ w.index ⟨t.val - 1, Nat.lt_of_le_of_lt (Nat.sub_le _ _) t.isLt⟩) = false :=
    decide_eq_false (by rintro ⟨hh, hne⟩; exact hne ((congrArg w.index e').trans h))
  show (w.isOut && (decide (t.val - 1 + 1 = grid0.N) || decide _)) = false
  rw [h1, h2]; simp

/-- Within a head the block of the queries' gradient stays. -/
theorem kept7 (c : Dev nD) (t : Pt F) (h : t.val % 36 ≠ 0) (d) : (dats m 0 c).before 7 t d = (prior m c t.val).1 := by
  have ht : t.val ≠ 0 := fun e => h (by rw [e])
  have hl : t.val < 288 := lt_288 t
  refine (Dat.before_out_kept (dats m 0 c) 7 rfl t ht (flush_false ht (by
    show cc0_transform_7 (grid0.coords t) = cc0_transform_7 (grid0.coords ⟨t.val - 1, _⟩)
    rw [map7, map7, head_coords, head_coords]
    have e : t.val / 36 % 8 = (t.val - 1) / 36 % 8 := by omega
    dsimp only
    rw [e])) (fun i => show idle0 (tabs (F := F)) 7 i = false from idle_none 7 i) (fun _ _ => rfl) d).trans ?_
  unfold prior
  rw [if_neg ht]
  rfl

theorem kb_pred : ∀ n n' : Fin 36, ¬ qb n = kb n → n'.val + 1 = n.val → kb n = kb n' := by decide +kernel
theorem diag_zero : ∀ n : Fin 36, ¬ qb n = kb n → n.val ≠ 0 := by decide +kernel

theorem pred_kb (t : Fin grid0.N) (ht : t.val ≠ 0) (h : ¬ qb (stepOf (grid0.coords t)) = kb (stepOf (grid0.coords t))) (t' : Fin grid0.N) (e : t'.val + 1 = t.val) :
    kb (stepOf (grid0.coords t)) = kb (stepOf (grid0.coords t')) ∧ headOf (grid0.coords t) = headOf (grid0.coords t') := by
  have h0 := diag_zero _ h
  have hl : t.val < 288 := lt_288 t
  rw [step_coords] at h0
  refine ⟨kb_pred _ _ h ?_, Fin.ext ?_⟩
  · rw [step_coords, step_coords]; omega
  · rw [head_coords, head_coords]; omega

/-- Off the diagonal the block of the step before stays. -/
theorem kept8 (c : Dev nD) (t : Pt F) (h : ¬ qb (stepOf (grid0.coords t)) = kb (stepOf (grid0.coords t))) (d) :
    (dats m 0 c).before 8 t d = (prior m c t.val).2.1 := by
  have ht : t.val ≠ 0 := fun e => diag_zero _ h (by rw [step_coords, e])
  obtain ⟨ek, eh⟩ := pred_kb t ht h ⟨t.val - 1, Nat.lt_of_le_of_lt (Nat.sub_le _ _) t.isLt⟩ (by dsimp only; omega)
  refine (Dat.before_out_kept (dats m 0 c) 8 rfl t ht (flush_false ht (by
    show cc0_transform_8 k0_off1_inb numel1_S1 (tabs (F := F)) (grid0.coords t) = cc0_transform_8 k0_off1_inb numel1_S1 (tabs (F := F)) (grid0.coords ⟨t.val - 1, _⟩)
    rw [map8, map8, ek, eh])) (fun i => show idle0 (tabs (F := F)) 8 i = false from idle_none 8 i) (fun _ _ => rfl) d).trans ?_
  unfold prior
  rw [if_neg ht]
  rfl

/-- Off the diagonal the block of the step before stays. -/
theorem kept9 (c : Dev nD) (t : Pt F) (h : ¬ qb (stepOf (grid0.coords t)) = kb (stepOf (grid0.coords t))) (d) :
    (dats m 0 c).before 9 t d = (prior m c t.val).2.2 := by
  have ht : t.val ≠ 0 := fun e => diag_zero _ h (by rw [step_coords, e])
  obtain ⟨ek, eh⟩ := pred_kb t ht h ⟨t.val - 1, Nat.lt_of_le_of_lt (Nat.sub_le _ _) t.isLt⟩ (by dsimp only; omega)
  refine (Dat.before_out_kept (dats m 0 c) 9 rfl t ht (flush_false ht (by
    show cc0_transform_9 k0_off1_inb numel1_S1 (tabs (F := F)) (grid0.coords t) = cc0_transform_9 k0_off1_inb numel1_S1 (tabs (F := F)) (grid0.coords ⟨t.val - 1, _⟩)
    rw [map9, map9, ek, eh])) (fun i => show idle0 (tabs (F := F)) 9 i = false from idle_none 9 i) (fun _ _ => rfl) d).trans ?_
  unfold prior
  rw [if_neg ht]
  rfl

end Cert.KernelIdeal.Attn

end
-- ==== Proof.KI.Frame.lean ====
/- The body's obligation at every step, the launch and the frame. -/
module

public import proofs.«01_k».proof.Proof.KI.Data

@[expose] public section

set_option maxRecDepth 16384

noncomputable section

namespace Cert.KernelIdeal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Pt F) : Memref sig .tc .vmem S1024x128 .bf16 := spec0_0.stage ((cfgA (F := F)).slots t 0)
abbrev hs0 (t : Pt F) : (ms0 t).IsWhole := hstage0_0 (((cfgA (F := F)).slots t 0).cast nbuf0_0)
abbrev ms1 (t : Pt F) : Memref sig .tc .vmem S1024x128 .bf16 := spec0_1.stage ((cfgA (F := F)).slots t 1)
abbrev hs1 (t : Pt F) : (ms1 t).IsWhole := hstage0_1 (((cfgA (F := F)).slots t 1).cast nbuf0_1)
abbrev ms2 (t : Pt F) : Memref sig .tc .vmem S128x1024 .bf16 := spec0_2.stage ((cfgA (F := F)).slots t 2)
abbrev hs2 (t : Pt F) : (ms2 t).IsWhole := hstage0_2 (((cfgA (F := F)).slots t 2).cast nbuf0_2)
abbrev ms3 (t : Pt F) : Memref sig .tc .vmem S1024x128 .bf16 := spec0_3.stage ((cfgA (F := F)).slots t 3)
abbrev hs3 (t : Pt F) : (ms3 t).IsWhole := hstage0_3 (((cfgA (F := F)).slots t 3).cast nbuf0_3)
abbrev ms4 (t : Pt F) : Memref sig .tc .vmem S1024x128 .bf16 := spec0_4.stage ((cfgA (F := F)).slots t 4)
abbrev hs4 (t : Pt F) : (ms4 t).IsWhole := hstage0_4 (((cfgA (F := F)).slots t 4).cast nbuf0_4)
abbrev ms5 (t : Pt F) : Memref sig .tc .vmem S1x1x1024 .f32 := spec0_5.stage ((cfgA (F := F)).slots t 5)
abbrev hs5 (t : Pt F) : (ms5 t).IsWhole := hstage0_5 (((cfgA (F := F)).slots t 5).cast nbuf0_5)
abbrev ms6 (t : Pt F) : Memref sig .tc .vmem S1x1x1024 .f32 := spec0_6.stage ((cfgA (F := F)).slots t 6)
abbrev hs6 (t : Pt F) : (ms6 t).IsWhole := hstage0_6 (((cfgA (F := F)).slots t 6).cast nbuf0_6)
abbrev ms7 (t : Pt F) : Memref sig .tc .vmem S1x8x128x1024 .f32 := spec0_7.stage ((cfgA (F := F)).slots t 7)
abbrev hs7 (t : Pt F) : (ms7 t).IsWhole := hstage0_7 (((cfgA (F := F)).slots t 7).cast nbuf0_7)
abbrev ms8 (t : Pt F) : Memref sig .tc .vmem S1024x128 .f32 := spec0_8.stage ((cfgA (F := F)).slots t 8)
abbrev hs8 (t : Pt F) : (ms8 t).IsWhole := hstage0_8 (((cfgA (F := F)).slots t 8).cast nbuf0_8)
abbrev ms9 (t : Pt F) : Memref sig .tc .vmem S1024x128 .f32 := spec0_9.stage ((cfgA (F := F)).slots t 9)
abbrev hs9 (t : Pt F) : (ms9 t).IsWhole := hstage0_9 (((cfgA (F := F)).slots t 9).cast nbuf0_9)

/-- The two tables' buffers. -/
abbrev tab0 : Memref sig .tc .smem S36 .i32 := Memref.whole main_c
abbrev tab1 : Memref sig .tc .smem S36 .i32 := Memref.whole main_c_0

/-- The body at a step. -/
abbrev bodyAt (t : Pt F) :=
  cc0_mla_attn_bwd (F := F) (grid0.coords t) tab0 (Memref.isWhole_whole _) tab1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)

/-- The tables' share of the invariant, table by table. -/
theorem tables_eq (c : Dev nD) : (Pipeline.ΦT pre0 (tabs (F := F)) c : sProp 𝕄)
    = iprop((tab0.view.loc (c : Thread nD τ) ↦[tab0.view.set]{fullShare.right} (tabs (F := F)) 0)
      ∗ (tab1.view.loc (c : Thread nD τ) ↦[tab1.view.set]{fullShare.right} (tabs (F := F)) 1)) := by
  rw [show tab0.view.set = Finset.univ from View.set_whole main_c, show tab1.view.set = Finset.univ from View.set_whole main_c_0]
  exact bigSep_univ_eq_bigSepL [(0 : Fin 2), (1 : Fin 2)] (by decide) (by decide) _

theorem word0 (c : Dev nD) (i : grid0.Coords) : word (F := F) c i tab0 ((tabs (F := F)) 0) = lit0 (stepOf i) := tabs_at0 (F := F) i
theorem word1 (c : Dev nD) (i : grid0.Coords) : word (F := F) c i tab1 ((tabs (F := F)) 1) = lit1 (stepOf i) := tabs_at1 (F := F) i

/-- What the body is called with, -/
def bodyPre (c : Dev nD) (t : Pt F) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Pt F) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

theorem after7_B (c : Dev nD) (t : Pt F) (e : qb (stepOf (grid0.coords t)) = kb (stepOf (grid0.coords t))) :
    outs m c t.val = (dqB (stepOf (grid0.coords t)) (iblk m c 0 t) (iblk m c 1 t) (iblk m c 2 t) (iblk m c 3 t) (iblk m c 4 t) (iblk m c 5 t) (iblk m c 6 t)
        (if t.val % 36 = 0 then k0_pay15 (F := F) else (prior m c t.val).1),
      dkB (stepOf (grid0.coords t)) (iblk m c 0 t) (iblk m c 1 t) (iblk m c 3 t) (iblk m c 4 t) (iblk m c 5 t) (iblk m c 6 t),
      dvB (stepOf (grid0.coords t)) (iblk m c 0 t) (iblk m c 1 t) (iblk m c 4 t) (iblk m c 5 t)) :=
  (outs_eq m c t).trans (if_pos e)

theorem after7_C (c : Dev nD) (t : Pt F) (e : ¬ qb (stepOf (grid0.coords t)) = kb (stepOf (grid0.coords t))) :
    outs m c t.val = (dqC (qb (stepOf (grid0.coords t))) (iblk m c 0 t) (iblk m c 1 t) (iblk m c 2 t) (iblk m c 3 t) (iblk m c 4 t) (iblk m c 5 t) (iblk m c 6 t) (prior m c t.val).1,
      dkC (iblk m c 0 t) (iblk m c 1 t) (iblk m c 3 t) (iblk m c 4 t) (iblk m c 5 t) (iblk m c 6 t) (prior m c t.val).2.1,
      dvC (iblk m c 0 t) (iblk m c 1 t) (iblk m c 4 t) (iblk m c 5 t) (prior m c t.val).2.2) :=
  (outs_eq m c t).trans (if_neg e)

theorem first_diag : ∀ n : Fin 36, n.val = 0 → qb n = kb n := by decide +kernel

set_option maxHeartbeats 1600000 in
/-- The body at any step. -/
theorem sound_body (c : Dev nD) (t : Pt F) :
    bodyPre m c t ⊢ wp frame (wpE (defs₀ (F := F)) Variants.none c none) Set.univ (bodyAt t) (fun _ => bodyPost m c t) := by
  unfold bodyPre bodyPost
  simp only [before0, before1, before2, before3, before4, before5, before6]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (tabs (F := F)) c) from rfl, tables_eq,
    after0, after1, after2, after3, after4, after5, after6, after7, after8, after9]
  by_cases e : qb (stepOf (grid0.coords t)) = kb (stepOf (grid0.coords t))
  · rw [after7_B m c t e]
    by_cases h : t.val % 36 = 0
    · rw [if_pos h]
      dsimp only
      have h1 : k0_cond1 (grid0.coords t) = 1#1 := (cond1_iff _).2 ((step_coords t).trans h)
      iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_A c (grid0.coords t) tab0 (Memref.isWhole_whole _) tab1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) fullShare.right fullShare.right ((tabs (F := F)) 0) ((tabs (F := F)) 1)
        (word0 c _) (word1 c _) h1 e (iblk m c 0 t) (iblk m c 1 t) (iblk m c 2 t) (iblk m c 3 t) (iblk m c 4 t) (iblk m c 5 t) (iblk m c 6 t) _ _ _ Set.univ _)
      isplitl [T0]; · iexact T0
      isplitl [T1]; · iexact T1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨T0, T1, H0, H1, H2, H3, H4, H5, H6, H7, H8, H9⟩
      isplitl [HΦ T0 T1]
      · isplitl [HΦ]; · iexact HΦ
        isplitl [T0]; · iexact T0
        iexact T1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [if_neg h]
      dsimp only
      simp only [kept7 m c t h]
      have h1 : ¬ k0_cond1 (grid0.coords t) = 1#1 := fun h' => h ((step_coords t).symm.trans ((cond1_iff _).1 h'))
      iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) tab0 (Memref.isWhole_whole _) tab1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) fullShare.right fullShare.right ((tabs (F := F)) 0) ((tabs (F := F)) 1)
        (word0 c _) (word1 c _) h1 e (iblk m c 0 t) (iblk m c 1 t) (iblk m c 2 t) (iblk m c 3 t) (iblk m c 4 t) (iblk m c 5 t) (iblk m c 6 t) _ _ _ Set.univ _)
      isplitl [T0]; · iexact T0
      isplitl [T1]; · iexact T1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨T0, T1, H0, H1, H2, H3, H4, H5, H6, H7, H8, H9⟩
      isplitl [HΦ T0 T1]
      · isplitl [HΦ]; · iexact HΦ
        isplitl [T0]; · iexact T0
        iexact T1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [after7_C m c t e]
    dsimp only
    have h : t.val % 36 ≠ 0 := fun h => e (first_diag _ ((step_coords t).trans h))
    simp only [kept7 m c t h, kept8 m c t e, kept9 m c t e]
    have h1 : ¬ k0_cond1 (grid0.coords t) = 1#1 := fun h' => h ((step_coords t).symm.trans ((cond1_iff _).1 h'))
    iintro ⟨⟨HΦ, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_C c (grid0.coords t) tab0 (Memref.isWhole_whole _) tab1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) fullShare.right fullShare.right ((tabs (F := F)) 0) ((tabs (F := F)) 1)
      (word0 c _) (word1 c _) h1 e (iblk m c 0 t) (iblk m c 1 t) (iblk m c 2 t) (iblk m c 3 t) (iblk m c 4 t) (iblk m c 5 t) (iblk m c 6 t) _ _ _ Set.univ _)
    isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨T0, T1, H0, H1, H2, H3, H4, H5, H6, H7, H8, H9⟩
    isplitl [HΦ T0 T1]
    · isplitl [HΦ]; · iexact HΦ
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Pt F) :
    defs₀ (F := F) .tc (cfgA (F := F)).body ((cfgA (F := F)).bodyArgs t ((cfgA (F := F)).slots t)) = bodyAt t := by
  unfold defs₀; rw [Defs.onTc_tc]

theorem stored {P Q : sProp 𝕄} : ∀ {b : Bool}, b = false → (Q ⊢ (match b with | true => P | false => Q)) := by
  intro b h; subst h; exact .rfl

theorem body_obligation (c : Dev nD) : BodyObligation (dats (F := F) m 0 c) (defs₀ (F := F)) Variants.none () Set.univ := fun t => by
  rw [bigSep_W0, bigSep_W0, defs₀_row]
  have i7 : (cfgA (F := F)).idle 7 ((cfgA (F := F)).grid.coords t) = false := idle_none 7 (grid0.coords t)
  have i8 : (cfgA (F := F)).idle 8 ((cfgA (F := F)).grid.coords t) = false := idle_none 8 (grid0.coords t)
  have i9 : (cfgA (F := F)).idle 9 ((cfgA (F := F)).grid.coords t) = false := idle_none 9 (grid0.coords t)
  refine triple_restated (sound_body m c t) rfl .rfl fun _ => ?_
  exact BI.sep_mono (fun _ h => h) <| BI.sep_mono (fun _ h => h) <| BI.sep_mono (fun _ h => h) <| BI.sep_mono (fun _ h => h) <| BI.sep_mono (fun _ h => h) <| BI.sep_mono (fun _ h => h) <| BI.sep_mono (fun _ h => h) <| BI.sep_mono (fun _ h => h) <| BI.sep_mono (fun _ h => h) <|
    BI.sep_mono (stored (P := match ((cfgA (F := F)).win 7).flush t with
      | false => iprop(∃ d, owns (c : Thread nD τ) (ms7 t) fullShare ((dats m 0 c).before 7 t d))
      | true => owns (c : Thread nD τ) (ms7 t) fullShare ((dats m 0 c).after 7 t)) i7) <|
    BI.sep_mono (stored (P := match ((cfgA (F := F)).win 8).flush t with
      | false => iprop(∃ d, owns (c : Thread nD τ) (ms8 t) fullShare ((dats m 0 c).before 8 t d))
      | true => owns (c : Thread nD τ) (ms8 t) fullShare ((dats m 0 c).after 8 t)) i8)
    (stored (P := match ((cfgA (F := F)).win 9).flush t with
      | false => iprop(∃ d, owns (c : Thread nD τ) (ms9 t) fullShare ((dats m 0 c).before 9 t d))
      | true => owns (c : Thread nD τ) (ms9 t) fullShare ((dats m 0 c).after 9 t)) i9)

set_option backward.isDefEq.respectTransparency.types false in
/-- The launch: every array ends at what the proof data says of it, every other buffer as the region found it, every semaphore at zero. -/
theorem run_main : θ_run defs (onTc (τ := τ) (main (F := F))) (s₀ m ρ)
    (fun r => Pipeline.FramePost (Pipeline.pin pcfgs adm) (dats m) 0 (V m) r ∧ r.2.sem = fun _ => 0) :=
  Pipeline.θ_run_frameP (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := fun c k => V_tabs m c k) (hΦ := fun _ _ => rfl)

/-- The frame: the arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Pipeline.mem_restRefs_of main_arg0 (by decide) (show ∀ w : Fin 10, (spec0 w).arr.view.ref ≠ main_arg0 by decide))).trans (V_arg0 m c),
      ((h.1 c).2 main_arg1 (Pipeline.mem_restRefs_of main_arg1 (by decide) (show ∀ w : Fin 10, (spec0 w).arr.view.ref ≠ main_arg1 by decide))).trans (V_arg1 m c),
      ((h.1 c).2 main_arg2 (Pipeline.mem_restRefs_of main_arg2 (by decide) (show ∀ w : Fin 10, (spec0 w).arr.view.ref ≠ main_arg2 by decide))).trans (V_arg2 m c),
      ((h.1 c).2 main_arg3 (Pipeline.mem_restRefs_of main_arg3 (by decide) (show ∀ w : Fin 10, (spec0 w).arr.view.ref ≠ main_arg3 by decide))).trans (V_arg3 m c)⟩, h.2⟩) (run_main m ρ)

end Cert.KernelIdeal.Attn

end
-- ==== Proof.KI.Claims.lean ====
/- The frames of the three programs and the ledger of the named constants, at the statements the certificate prints. -/
module

public import proofs.«01_k».proof.Defs
public import proofs.«01_k».proof.Proof.K.Frame
public import proofs.«01_k».proof.Proof.KI.Frame
public import proofs.«01_k».proof.Proof.Gen.ReferenceIdeal.Run
public import Idealize.ShloMosaic.Lib.Quiescent

@[expose] public section

noncomputable section

namespace Cert.Proof.Claims

open Idealize.ShloMosaic Idealize.SL.Sem

theorem frame_p : Cert.quiescent_Kernel := fun m ρ _ => Cert.Kernel.Attn.frame_main m ρ

theorem frame_pi : Cert.quiescent_KernelIdeal := fun m ρ _ => Cert.KernelIdeal.Attn.frame_main m ρ

/-- The host reference declares no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale2" .f32 0x3E16C740#32
      (((3424635 / 33554432) * (Real.log 2)⁻¹ : ℝ) : EReal) rfl,
    IdealRules.named_const.statement Cert.KernelIdeal.κ "mask" .f32 0xF149F2CA#32 ⊥ rfl⟩

end Cert.Proof.Claims

end
-- ==== Proof.Val.Step.lean ====
/- What a step of the gradient kernel computes, over blocks of real numbers. -/
module

public import proofs.«01_k».proof.Proof.KI.Steps
public import Idealize.ShloMosaic.Lib.Pointwise

@[expose] public section

set_option maxRecDepth 16384

noncomputable section

namespace Cert.KernelIdeal.Attn

open Gen
open Idealize.ShloMosaic TcCoe Pointwise
open Idealize.SL.Sem

/-- The scale of the scores, as both programs round it. -/
def scl : ℝ := 3424635 / 33554432

theorem ofBits_scl : Ideal.ofBits .f32 0x3DD105EC#32 = ((scl : ℝ) : EReal) := by
  simp [Ideal.ofBits, Ideal.ieee, scl, -EReal.coe_mul]; norm_num

theorem named_scale2 : Named.named (F := Ideal) κ "scale2" (φ := .f32) 0x3E16C740#32 = ((scl * (Real.log 2)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem coe_sum {ι : Type} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

/-- The probabilities of a block, keys by queries. -/
def ptR (Q K : Fin 1024 → Fin 128 → ℝ) (L : Fin 1024 → ℝ) (a b : Fin 1024) : ℝ :=
  Real.rpow 2 ((∑ x, K a x * Q b x) * (scl * (Real.log 2)⁻¹) - L b)

/-- The gradient of the scores of a block. -/
def dsR (P : Fin 1024 → Fin 1024 → ℝ) (V O : Fin 1024 → Fin 128 → ℝ) (D : Fin 1024 → ℝ) (a b : Fin 1024) : ℝ :=
  P a b * ((∑ x, V a x * O b x) - D b) * scl

section
variable {q k v o : Vec Ideal S1024x128 .bf16} {kt : Vec Ideal S128x1024 .bf16} {l d : Vec Ideal S1x1x1024 .f32} {y : Vec Ideal S1024x128 .f32}
  {Q K V O Y : Fin 1024 → Fin 128 → ℝ} {KT : Fin 128 → Fin 1024 → ℝ} {L D : Fin 1024 → ℝ} {P : Fin 1024 → Fin 1024 → ℝ}

theorem pay6_real (hq : ∀ a x, q (ix2 a x) = ((Q a x : ℝ) : EReal)) (hk : ∀ a x, k (ix2 a x) = ((K a x : ℝ) : EReal))
    (hl : ∀ b, l (ix3 0 0 b) = ((L b : ℝ) : EReal)) (a b : Fin 1024) : k0_pay6 q k l (ix2 a b) = ((ptR Q K L a b : ℝ) : EReal) := by
  pointwise [k0_pay6, k0_pay4]
  simp only [named_scale2, hq, hk, hl, ← EReal.coe_mul, ← coe_sum, ← EReal.coe_sub]
  rfl

theorem sle_small {x y : ℕ} (hx : x < 8192) (hy : y < 8192) : (IntOp.cmpi CmpIPredicate.sle (BitVec.ofNat 32 x) (BitVec.ofNat 32 y) : BitVec 1) = if x ≤ y then 1#1 else 0#1 := by
  have e : (BitVec.ofNat 32 x).sle (BitVec.ofNat 32 y) = decide (x ≤ y) := by
    rw [BitVec.sle_eq_decide, BitVec.toInt_eq_toNat_of_lt (by simp; omega), BitVec.toInt_eq_toNat_of_lt (by simp; omega)]
    simp [Nat.mod_eq_of_lt (show x < 4294967296 by omega), Nat.mod_eq_of_lt (show y < 4294967296 by omega)]
  show BitVec.ofBool ((BitVec.ofNat 32 x).sle (BitVec.ofNat 32 y)) = _
  rw [e]
  by_cases h : x ≤ y <;> simp [h]

theorem pay12_real {n : Fin 36} (hn : qb n = kb n) (hq : ∀ a x, q (ix2 a x) = ((Q a x : ℝ) : EReal)) (hk : ∀ a x, k (ix2 a x) = ((K a x : ℝ) : EReal))
    (hl : ∀ b, l (ix3 0 0 b) = ((L b : ℝ) : EReal)) (a b : Fin 1024) :
    ptB n q k l (ix2 a b) = (((if a ≤ b then ptR Q K L a b else 0 : ℝ)) : EReal) := by
  have e1 : ∀ n : Fin 36, lit1 n = BitVec.ofNat 32 (kb n).val := by decide +kernel
  have e0 : ∀ n : Fin 36, lit0 n = BitVec.ofNat 32 (qb n).val := by decide +kernel
  have em : ∀ (i : Fin 8) (a : Fin 1024), IntOp.addi (Scalar.muli (BitVec.ofNat 32 i.val) 1024#32) (BitVec.ofNat 32 a.val) = BitVec.ofNat 32 (1024 * i.val + a.val) := by
    intro i a
    apply BitVec.eq_of_toNat_eq
    show (BitVec.ofNat 32 i.val * 1024#32 + BitVec.ofNat 32 a.val).toNat = _
    simp; omega
  pointwise [ptB, k0_pay12, k0_pay10]
  simp only [named_scale2, named_mask, hq, hk, hl, ← EReal.coe_mul, ← coe_sum, e1, e0, em, hn]
  rw [sle_small (by omega) (by omega)]
  by_cases h : a ≤ b
  · have h' : 1024 * (kb n).val + a.val ≤ 1024 * (kb n).val + b.val := by have : a.val ≤ b.val := h; omega
    rw [if_pos h', if_pos h]
    show Ideal.exp2 (((_ : ℝ) : EReal) - ((_ : ℝ) : EReal)) = _
    rw [← EReal.coe_sub]
    rfl
  · have h' : ¬ 1024 * (kb n).val + a.val ≤ 1024 * (kb n).val + b.val := by have : ¬ a.val ≤ b.val := h; omega
    rw [if_neg h', if_neg h]
    show Ideal.exp2 (⊥ - ((_ : ℝ) : EReal) : EReal) = _
    rw [EReal.bot_sub]
    rfl

theorem dsC_real (hP : ∀ a b, k0_pay6 q k l (ix2 a b) = ((P a b : ℝ) : EReal)) (hv : ∀ a x, v (ix2 a x) = ((V a x : ℝ) : EReal))
    (ho : ∀ a x, o (ix2 a x) = ((O a x : ℝ) : EReal)) (hd : ∀ b, d (ix3 0 0 b) = ((D b : ℝ) : EReal)) (a b : Fin 1024) :
    dsC q k v o l d (ix2 a b) = ((dsR P V O D a b : ℝ) : EReal) := by
  pointwise [dsC, k0_pay8, k0_pay5]
  simp only [hP, hv, ho, hd, ofBits_scl, ← EReal.coe_mul, ← coe_sum, ← EReal.coe_sub]
  rfl

theorem dvC_real (hP : ∀ a b, k0_pay6 q k l (ix2 a b) = ((P a b : ℝ) : EReal)) (ho : ∀ a x, o (ix2 a x) = ((O a x : ℝ) : EReal))
    (hy : ∀ a x, y (ix2 a x) = ((Y a x : ℝ) : EReal)) (a : Fin 1024) (x : Fin 128) :
    dvC q k o l y (ix2 a x) = ((Y a x + ∑ b, P a b * O b x : ℝ) : EReal) := by
  pointwise [dvC, k0_pay7, k0_pay5]
  simp only [hP, ho, hy, ← EReal.coe_mul, ← coe_sum, ← EReal.coe_add]

theorem dkC_real (hds : ∀ a b, dsC q k v o l d (ix2 a b) = ((P a b : ℝ) : EReal)) (hq : ∀ a x, q (ix2 a x) = ((Q a x : ℝ) : EReal))
    (hy : ∀ a x, y (ix2 a x) = ((Y a x : ℝ) : EReal)) (a : Fin 1024) (x : Fin 128) :
    dkC q k v o l d y (ix2 a x) = ((Y a x + ∑ b, P a b * Q b x : ℝ) : EReal) := by
  pointwise [dkC, k0_pay18, k0_pay4, k0_pay9]
  simp only [hds, hq, hy, ← EReal.coe_mul, ← coe_sum, ← EReal.coe_add]

/-- A slab of eight put at `n`, read. -/
theorem putSlab_apply (n n' : Fin 8) (y : Vec Ideal S1x8x128x1024 .f32) (w : Vec Ideal S1x1x128x1024 .f32) (x : Fin 128) (b : Fin 1024) :
    putSlab n y w (ix4 0 n' x b) = if n' = n then w (ix4 0 0 x b) else y (ix4 0 n' x b) := by
  unfold putSlab VecWindow.put
  by_cases h : n' = n
  · subst h
    have hh : ∀ a, (![0, n'.val, 0, 0] : Fin 4 → ℕ) a ≤ ((ix4 0 n' x b : S1x8x128x1024.Idx) a).val ∧ ((ix4 0 n' x b : S1x8x128x1024.Idx) a).val < (![0, n'.val, 0, 0] : Fin 4 → ℕ) a + S1x1x128x1024.size a := by
      intro a
      match a with
      | ⟨0, _⟩ => exact ⟨Nat.le_refl 0, by show 0 < 0 + 1; omega⟩
      | ⟨1, _⟩ => exact ⟨Nat.le_refl _, by show n'.val < n'.val + 1; omega⟩
      | ⟨2, _⟩ => exact ⟨Nat.zero_le _, by show x.val < 0 + 128; omega⟩
      | ⟨3, _⟩ => exact ⟨Nat.zero_le _, by show b.val < 0 + 1024; omega⟩
    rw [if_pos rfl]
    refine (dif_pos hh).trans (congrArg w (funext fun a => Fin.ext ?_))
    match a with
    | ⟨0, _⟩ => rfl
    | ⟨1, _⟩ => show n'.val - n'.val = 0; omega
    | ⟨2, _⟩ => rfl
    | ⟨3, _⟩ => rfl
  · rw [if_neg h]
    refine dif_neg fun hh => h (Fin.ext ?_)
    have h1 : n.val ≤ n'.val ∧ n'.val < n.val + 1 := hh (1 : Fin 4)
    omega

theorem slab_apply (n : Fin 8) (y : Vec Ideal S1x8x128x1024 .f32) (x : Fin 128) (b : Fin 1024) : slab n y (ix4 0 0 x b) = y (ix4 0 n x b) := by
  refine congrArg y (funext fun a => Fin.ext ?_)
  match a with
  | ⟨0, _⟩ => rfl
  | ⟨1, _⟩ => rfl
  | ⟨2, _⟩ => show 0 + 1 * x.val = x.val; omega
  | ⟨3, _⟩ => show 0 + 1 * b.val = b.val; omega

variable {y4 : Vec Ideal S1x8x128x1024 .f32} {Y4 : Fin 8 → Fin 128 → Fin 1024 → ℝ}

theorem dqC_real (n : Fin 8) (hds : ∀ a b, dsC q k v o l d (ix2 a b) = ((P a b : ℝ) : EReal)) (hkt : ∀ x a, kt (ix2 x a) = ((KT x a : ℝ) : EReal))
    (hy : ∀ n x b, y4 (ix4 0 n x b) = ((Y4 n x b : ℝ) : EReal)) (n' : Fin 8) (x : Fin 128) (b : Fin 1024) :
    dqC n q k kt v o l d y4 (ix4 0 n' x b) = ((if n' = n then Y4 n x b + ∑ a, KT x a * P a b else Y4 n' x b : ℝ) : EReal) := by
  unfold dqC
  rw [putSlab_apply]
  by_cases h : n' = n
  · rw [if_pos h, if_pos h]
    pointwise [k0_pay19]
    simp only [slab_apply, hds, hkt, hy, ← EReal.coe_mul, ← coe_sum, ← EReal.coe_add]
  · rw [if_neg h, if_neg h, hy]

theorem dvB_real {n : Fin 36} (hP : ∀ a b, ptB n q k l (ix2 a b) = ((P a b : ℝ) : EReal)) (ho : ∀ a x, o (ix2 a x) = ((O a x : ℝ) : EReal))
    (a : Fin 1024) (x : Fin 128) : dvB n q k o l (ix2 a x) = ((∑ b, P a b * O b x : ℝ) : EReal) := by
  unfold ptB at hP
  pointwise [dvB, k0_pay13, k0_pay11, k0_pay17]
  simp only [hP, ho, ← EReal.coe_mul, ← coe_sum, zero_add]

theorem pay1_real {p : FVec Ideal S1024x1024 .f32} (hP : ∀ a b, p (ix2 a b) = ((P a b : ℝ) : EReal)) (hv : ∀ a x, v (ix2 a x) = ((V a x : ℝ) : EReal))
    (ho : ∀ a x, o (ix2 a x) = ((O a x : ℝ) : EReal)) (hd : ∀ b, d (ix3 0 0 b) = ((D b : ℝ) : EReal)) (a b : Fin 1024) :
    k0_pay1 p (k0_pay14 v o) d (ix2 a b) = ((dsR P V O D a b : ℝ) : EReal) := by
  pointwise [k0_pay1, k0_pay14, k0_pay11]
  simp only [hP, hv, ho, hd, ofBits_scl, ← EReal.coe_mul, ← coe_sum, ← EReal.coe_sub]
  rfl

theorem dkB_real {n : Fin 36} (hds : ∀ a b, k0_pay1 (ptB n q k l) (k0_pay14 v o) d (ix2 a b) = ((P a b : ℝ) : EReal)) (hq : ∀ a x, q (ix2 a x) = ((Q a x : ℝ) : EReal))
    (a : Fin 1024) (x : Fin 128) : dkB n q k v o l d (ix2 a x) = ((∑ b, P a b * Q b x : ℝ) : EReal) := by
  pointwise [dkB, k0_pay2, k0_pay10, k0_pay16]
  simp only [hds, hq, ← EReal.coe_mul, ← coe_sum, zero_add]

theorem dqB_real (n : Fin 36) (hds : ∀ a b, k0_pay1 (ptB n q k l) (k0_pay14 v o) d (ix2 a b) = ((P a b : ℝ) : EReal)) (hkt : ∀ x a, kt (ix2 x a) = ((KT x a : ℝ) : EReal))
    (hy : ∀ n x b, y4 (ix4 0 n x b) = ((Y4 n x b : ℝ) : EReal)) (n' : Fin 8) (x : Fin 128) (b : Fin 1024) :
    dqB n q k kt v o l d y4 (ix4 0 n' x b) = ((if n' = qb n then Y4 (qb n) x b + ∑ a, KT x a * P a b else Y4 n' x b : ℝ) : EReal) := by
  unfold dqB
  rw [putSlab_apply]
  by_cases h : n' = qb n
  · rw [if_pos h, if_pos h]
    pointwise [k0_pay3]
    simp only [slab_apply, hds, hkt, hy, ← EReal.coe_mul, ← coe_sum, ← EReal.coe_add]
  · rw [if_neg h, if_neg h, hy]

end

end Cert.KernelIdeal.Attn

end
-- ==== Proof.Val.Real.lean ====
/- The attention and its gradients over the real numbers: the quantities both programs compute. -/
module

public import proofs.«01_k».proof.Proof.Val.Step

@[expose] public section

set_option maxRecDepth 16384

noncomputable section

namespace Cert.KernelIdeal.Attn

open Idealize.ShloMosaic

/-- Position `b` of piece `i`. -/
def row (i : Fin 8) (b : Fin 1024) : Fin 8192 := ⟨1024 * i.val + b.val, by omega⟩

/-- A sum over the positions, piece by piece. -/
theorem sum_rows (f : Fin 8192 → ℝ) : ∑ p, f p = ∑ i, ∑ b, f (row i b) := by
  rw [← Fintype.sum_prod_type' (fun i b => f (row i b))]
  refine (Fintype.sum_equiv (finProdFinEquiv (m := 8) (n := 1024)) _ _ fun x => ?_).symm
  refine congrArg f (Fin.ext ?_)
  show 1024 * x.1.val + x.2.val = x.2.val + 1024 * x.1.val
  omega

/-- A head's columns with zeros behind them. -/
def ext {n : ℕ} (f : Fin n → ℝ) (x : Fin 128) : ℝ := if h : x.val < n then f ⟨x.val, h⟩ else 0

theorem sum_ext {n : ℕ} (hn : n ≤ 128) (f g : Fin n → ℝ) : ∑ x, ext f x * ext g x = ∑ d, f d * g d := by
  have e : ∀ d : Fin n, f d * g d = ext f (d.castLE hn) * ext g (d.castLE hn) := fun d => by
    unfold ext
    rw [dif_pos (show (d.castLE hn).val < n from d.isLt), dif_pos (show (d.castLE hn).val < n from d.isLt)]
    rfl
  rw [Finset.sum_congr rfl fun d _ => e d]
  refine (Finset.sum_of_injOn (Fin.castLE hn) (fun a _ b _ h => Fin.castLE_injective hn h) (fun _ _ => Finset.mem_coe.2 (Finset.mem_univ _)) (fun x _ hx => ?_) (fun _ _ => rfl)).symm
  have h : ¬ x.val < n := fun h => hx ⟨⟨x.val, h⟩, Finset.mem_coe.2 (Finset.mem_univ _), rfl⟩
  unfold ext
  rw [dif_neg h, zero_mul]

theorem ext_sum {n : ℕ} {ι : Type} [Fintype ι] (f : ι → Fin n → ℝ) (x : Fin 128) : ext (fun d => ∑ i, f i d) x = ∑ i, ext (f i) x := by
  unfold ext
  by_cases h : x.val < n
  · simp only [dif_pos h]
  · simp only [dif_neg h, Finset.sum_const_zero]

theorem ext_mul {n : ℕ} (c : ℝ) (f : Fin n → ℝ) (x : Fin 128) : ext (fun d => c * f d) x = c * ext f x := by
  unfold ext
  by_cases h : x.val < n
  · simp only [dif_pos h]
  · simp only [dif_neg h, mul_zero]

variable (q k : Fin 8192 → Fin 8 → Fin 96 → ℝ) (v o : Fin 8192 → Fin 8 → Fin 64 → ℝ)

/-- The score of a key for a query. -/
def Sc (h : Fin 8) (p j : Fin 8192) : ℝ := (∑ d, q p h d * k j h d) * scl

/-- The score of a key the query may see; minus infinity of a later key. -/
def scE (h : Fin 8) (p j : Fin 8192) : EReal := if j ≤ p then ((Sc q k h p j : ℝ) : EReal) else ⊥

/-- A query's greatest score. -/
def Mx (h : Fin 8) (p : Fin 8192) : ℝ := (Finset.univ.fold max (⊥ : EReal) (scE q k h p)).toReal

theorem coe_Mx (h : Fin 8) (p : Fin 8192) : Finset.univ.fold max (⊥ : EReal) (scE q k h p) = ((Mx q k h p : ℝ) : EReal) := by
  refine (EReal.coe_toReal ?_ ?_).symm
  · refine ne_of_lt ((Finset.fold_max_lt _).2 ⟨bot_lt_top, fun j _ => ?_⟩)
    unfold scE
    split
    · exact EReal.coe_lt_top _
    · exact bot_lt_top
  · refine ne_of_gt ((Finset.lt_fold_max _).2 (.inr ⟨p, Finset.mem_univ _, ?_⟩))
    unfold scE
    rw [if_pos (le_refl p)]
    exact EReal.bot_lt_coe _

/-- A key's weight before the division by their sum. -/
def Ex (h : Fin 8) (p j : Fin 8192) : ℝ := if j ≤ p then Real.exp (Sc q k h p j - Mx q k h p) else 0

/-- The sum of a query's weights. -/
def Lx (h : Fin 8) (p : Fin 8192) : ℝ := ∑ j, Ex q k h p j

theorem Ex_nonneg (h : Fin 8) (p j : Fin 8192) : 0 ≤ Ex q k h p j := by
  unfold Ex
  split
  · exact (Real.exp_pos _).le
  · exact le_refl _

theorem Lx_pos (h : Fin 8) (p : Fin 8192) : 0 < Lx q k h p := by
  refine lt_of_lt_of_le ?_ (Finset.single_le_sum (fun j _ => Ex_nonneg q k h p j) (Finset.mem_univ p))
  unfold Ex
  rw [if_pos (le_refl p)]
  exact Real.exp_pos _

/-- The probability of a key. -/
def Px (h : Fin 8) (p j : Fin 8192) : ℝ := Ex q k h p j / Lx q k h p

theorem Px_dead (h : Fin 8) {p j : Fin 8192} (hj : ¬ j ≤ p) : Px q k h p j = 0 := by
  unfold Px Ex
  rw [if_neg hj, zero_div]

/-- The attention's output. -/
def Ox (p : Fin 8192) (h : Fin 8) (d : Fin 64) : ℝ := ∑ j, v j h d * Px q k h p j

/-- The logarithm to base two of the sum of the exponentials of a query's scores. -/
def Lse (h : Fin 8) (p : Fin 8192) : ℝ := (Mx q k h p + Real.log (Lx q k h p)) * (Real.log 2)⁻¹

/-- The output against its gradient. -/
def Dx (h : Fin 8) (p : Fin 8192) : ℝ := ∑ d, Ox q k v p h d * o p h d

/-- The gradient of a probability. -/
def DPx (h : Fin 8) (p j : Fin 8192) : ℝ := ∑ d, v j h d * o p h d

/-- The gradient of a score before its scale. -/
def DSx (h : Fin 8) (p j : Fin 8192) : ℝ := Px q k h p j * (DPx v o h p j - Dx q k v o h p) * scl

theorem DSx_dead (h : Fin 8) {p j : Fin 8192} (hj : ¬ j ≤ p) : DSx q k v o h p j = 0 := by
  unfold DSx
  rw [Px_dead q k h hj, zero_mul, zero_mul]

/-- The gradients of the queries, -/
def GQ (p : Fin 8192) (h : Fin 8) (d : Fin 96) : ℝ := ∑ j, DSx q k v o h p j * k j h d

/-- the keys, -/
def GK (j : Fin 8192) (h : Fin 8) (d : Fin 96) : ℝ := ∑ p, DSx q k v o h p j * q p h d

/-- and the values. -/
def GV (j : Fin 8192) (h : Fin 8) (d : Fin 64) : ℝ := ∑ p, Px q k h p j * o p h d

/-- The output against its gradient, from the probabilities. -/
theorem Dx_eq (h : Fin 8) (p : Fin 8192) : Dx q k v o h p = ∑ j, Px q k h p j * DPx v o h p j := by
  unfold Dx Ox DPx
  simp only [Finset.sum_mul, Finset.mul_sum]
  rw [Finset.sum_comm]
  exact Finset.sum_congr rfl fun j _ => Finset.sum_congr rfl fun d _ => by ring

/-- The gradient of a score as the derivative of a quotient. -/
theorem DSx_quot (h : Fin 8) (p j : Fin 8192) :
    (if j ≤ p then (DPx v o h p j * (1 / Lx q k h p) + -(∑ j', DPx v o h p j' * (1 / (Lx q k h p * Lx q k h p)) * Ex q k h p j')) * Ex q k h p j else 0) * scl
      = DSx q k v o h p j := by
  by_cases hj : j ≤ p
  · rw [if_pos hj]
    have hL : Lx q k h p ≠ 0 := (Lx_pos q k h p).ne'
    have e : ∑ j', DPx v o h p j' * (1 / (Lx q k h p * Lx q k h p)) * Ex q k h p j' = Dx q k v o h p * (1 / Lx q k h p) := by
      rw [Dx_eq, Finset.sum_mul]
      refine Finset.sum_congr rfl fun j' _ => ?_
      unfold Px
      field_simp
    rw [e]
    unfold DSx Px
    field_simp
    ring
  · rw [if_neg hj, DSx_dead q k v o h hj, zero_mul]

/-- The probability of a key the query sees, from the saved logarithm. -/
theorem pow_eq_Px (h : Fin 8) {p j : Fin 8192} (hj : j ≤ p) :
    Real.rpow 2 ((∑ d, k j h d * q p h d) * (scl * (Real.log 2)⁻¹) - Lse q k h p) = Px q k h p j := by
  have h2 : Real.log 2 ≠ 0 := (Real.log_pos (by norm_num)).ne'
  have es : ∑ d, k j h d * q p h d = ∑ d, q p h d * k j h d := Finset.sum_congr rfl fun d _ => mul_comm _ _
  have e : Real.log 2 * ((∑ d, q p h d * k j h d) * (scl * (Real.log 2)⁻¹) - Lse q k h p) = (Sc q k h p j - Mx q k h p) - Real.log (Lx q k h p) := by
    unfold Lse Sc
    field_simp
    ring
  rw [Real.rpow_eq_pow]
  rw [es, Real.rpow_def_of_pos (by norm_num), e, Real.exp_sub, Real.exp_log (Lx_pos q k h p)]
  unfold Px Ex
  rw [if_pos hj]

end Cert.KernelIdeal.Attn

end
-- ==== Proof.Val.Host.lean ====
/- What the gradient kernel's region finds in its seven inputs, over real arguments. -/
module

public import proofs.«01_k».proof.Proof.KI.Host
public import proofs.«01_k».proof.Proof.Val.Real

@[expose] public section

set_option maxRecDepth 16384

noncomputable section

namespace Cert.KernelIdeal.Attn

open Gen
open Idealize.ShloMosaic TcCoe Pointwise Tactic
open Idealize.SL.Sem

/-! ## The host operations, named -/

/-- The scores, minus infinity at a key later than the query. -/
def hS (x0 x1 : FVec Ideal S1x8192x8x96 .f32) : FVec Ideal S1x8x8192x8192 .f32 :=
  select (cmpi .sle (iotaInDim S1x8x8192x8192 32 3) (iotaInDim S1x8x8192x8192 32 2))
    (mulf (Host.dotGeneral dot_S1x8192x8x96_S1x8192x8x96_S1x8x8192x8192_3_3_1_1_02_02 none x0 x1)
      (broadcastInDim S1x8x8192x8192 ![] bcast_S_S1x8x8192x8192 (constant S_ .f32 0x3DD105EC#32)))
    (broadcastInDim S1x8x8192x8192 ![] bcast_S_S1x8x8192x8192 (constant S_ .f32 0xFF800000#32))

/-- Their greatest, -/
def hM (x0 x1 : FVec Ideal S1x8192x8x96 .f32) : FVec Ideal S1x8x8192x1 .f32 :=
  broadcastInDim S1x8x8192x1 ![0, 1, 2] bcast_S1x8x8192_S1x8x8192x1_0_1_2
    (Host.reduce FloatOps.maximumf (hS x0 x1) (constant S_ .f32 0xFF800000#32) reducesTo_S1x8x8192x8192_S1x8x8192_d3 h_S_)

/-- the weights, -/
def hE (x0 x1 : FVec Ideal S1x8192x8x96 .f32) : FVec Ideal S1x8x8192x8192 .f32 :=
  Host.exp (subf (hS x0 x1) (broadcastInDim S1x8x8192x8192 ![0, 1, 2, 3] bcast_S1x8x8192x1_S1x8x8192x8192_0_1_2_3 (hM x0 x1)))

/-- their sums, -/
def hL (x0 x1 : FVec Ideal S1x8192x8x96 .f32) : FVec Ideal S1x8x8192x1 .f32 :=
  broadcastInDim S1x8x8192x1 ![0, 1, 2] bcast_S1x8x8192_S1x8x8192x1_0_1_2
    (Host.reduceAdd (hE x0 x1) (constant S_ .f32 0x00000000#32) reducesTo_S1x8x8192x8192_S1x8x8192_d3 h_S_)

/-- the probabilities, -/
def hP (x0 x1 : FVec Ideal S1x8192x8x96 .f32) : FVec Ideal S1x8x8192x8192 .f32 :=
  Host.divf (hE x0 x1) (broadcastInDim S1x8x8192x8192 ![0, 1, 2, 3] bcast_S1x8x8192x1_S1x8x8192x8192_0_1_2_3 (hL x0 x1))

/-- the output, -/
def hO (x0 x1 : FVec Ideal S1x8192x8x96 .f32) (x2 : FVec Ideal S1x8192x8x64 .f32) : FVec Ideal S1x8x64x8192 .f32 :=
  Host.dotGeneral dot_S1x8192x8x64_S1x8x8192x8192_S1x8x64x8192_1_3_3_2_02_01 none x2 (hP x0 x1)

/-- the logarithms of the sums, to base two, -/
def hLog (x0 x1 : FVec Ideal S1x8192x8x96 .f32) : FVec Ideal S1x8x8192x1 .f32 :=
  Host.divf (addf (hM x0 x1) (Host.log (hL x0 x1))) (broadcastInDim S1x8x8192x1 ![] bcast_S_S1x8x8192x1 (Host.log (constant S_ .f32 0x40000000#32)))

/-- as the region takes them, -/
def hLse (x0 x1 : FVec Ideal S1x8192x8x96 .f32) : FVec Ideal S8x1x8192 .f32 :=
  shapeCast S8x1x8192 (hLog x0 x1) shapeCasts_S1x8x8192x1_S8x1x8192

/-- the output's gradient by heads, -/
def hdO (x3 : FVec Ideal S1x8192x512 .f32) : FVec Ideal S8192x8x64 .f32 := shapeCast S8192x8x64 x3 shapeCasts_S1x8192x512_S8192x8x64

/-- the output against its gradient, -/
def hD (x0 x1 : FVec Ideal S1x8192x8x96 .f32) (x2 : FVec Ideal S1x8192x8x64 .f32) (x3 : FVec Ideal S1x8192x512 .f32) : FVec Ideal S8x1x8192 .f32 :=
  shapeCast S8x1x8192 (transpose S8x8192 [1, 0]
    (Host.reduceAdd (mulf (shapeCast S8192x8x64 (transpose S1x8192x8x64 [0, 3, 1, 2] (hO x0 x1 x2) transposes_S1x8x64x8192_S1x8192x8x64_0_3_1_2) shapeCasts_S1x8192x8x64_S8192x8x64) (hdO x3))
      (constant S_ .f32 0x00000000#32) reducesTo_S8192x8x64_S8192x8_d2 h_S_) transposes_S8192x8_S8x8192_1_0) shapeCasts_S8x8192_S8x1x8192

/-- the columns of the queries and the keys, -/
def hQ (x : FVec Ideal S1x8192x8x96 .f32) : FVec Ideal S8192x1024 .bf16 :=
  truncf .bf16 (shapeCast S8192x1024 (pad S8192x8x128 ![0, 0, 0] ![0, 0, 32] ![0, 0, 0] (shapeCast S8192x8x96 x shapeCasts_S1x8192x8x96_S8192x8x96)
    (constant S_ .f32 0x00000000#32) pads_S8192x8x96_S8192x8x128_000_000_0320 h_S_) shapeCasts_S8192x8x128_S8192x1024) bitsLt_bf16_f32

/-- and of the values and the output's gradient. -/
def hV (x : FVec Ideal S8192x8x64 .f32) : FVec Ideal S8192x1024 .bf16 :=
  truncf .bf16 (shapeCast S8192x1024 (pad S8192x8x128 ![0, 0, 0] ![0, 0, 64] ![0, 0, 0] x
    (constant S_ .f32 0x00000000#32) pads_S8192x8x64_S8192x8x128_000_000_0640 h_S_) shapeCasts_S8192x8x128_S8192x1024) bitsLt_bf16_f32

section
variable (m : (ℓ : Loc nD τ sig) → Buf (Elt Ideal) ℓ) (c : Dev nD)

/-- The four arguments. -/
abbrev a0 : FVec Ideal S1x8192x8x96 .f32 := m ((c : Thread nD τ).loc main_arg0)
abbrev a1 : FVec Ideal S1x8192x8x96 .f32 := m ((c : Thread nD τ).loc main_arg1)
abbrev a2 : FVec Ideal S1x8192x8x64 .f32 := m ((c : Thread nD τ).loc main_arg2)
abbrev a3 : FVec Ideal S1x8192x512 .f32 := m ((c : Thread nD τ).loc main_arg3)

theorem V_v34 : V m c main_v34 = hQ (a0 m c) := by unfold V; after_results; rfl
theorem V_v38 : V m c main_v38 = hQ (a1 m c) := by unfold V; after_results; rfl
theorem V_v46 : V m c main_v46 = transpose S1024x8192 [1, 0] (hQ (a1 m c)) transposes_S8192x1024_S1024x8192_1_0 := by unfold V; after_results; rfl
theorem V_v42 : V m c main_v42 = hV (shapeCast S8192x8x64 (a2 m c) shapeCasts_S1x8192x8x64_S8192x8x64) := by unfold V; after_results; rfl
theorem V_v45 : V m c main_v45 = hV (hdO (a3 m c)) := by unfold V; after_results; rfl
theorem V_v24 : V m c main_v24 = hLse (a0 m c) (a1 m c) := by unfold V; after_results; rfl
theorem V_v30 : V m c main_v30 = hD (a0 m c) (a1 m c) (a2 m c) (a3 m c) := by unfold V; after_results; rfl
end

end Cert.KernelIdeal.Attn

end
-- ==== Proof.Val.HostReal.lean ====
/- The region's inputs over real arguments, read at an index. -/
module

public import proofs.«01_k».proof.Proof.Val.Host

@[expose] public section

set_option maxRecDepth 16384

noncomputable section

namespace Cert.KernelIdeal.Attn

open Gen
open Idealize.ShloMosaic TcCoe Pointwise Tactic
open Idealize.SL.Sem

theorem ofBits_ninf : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee, -EReal.coe_mul]; norm_num

theorem coe_div (x : ℝ) {y : ℝ} (h : y ≠ 0) : Ideal.div (x : EReal) (y : EReal) = ((x * y⁻¹ : ℝ) : EReal) := by
  rw [Ideal.div_coe h, one_div, EReal.coe_mul]

theorem sle_iota (j p : Fin 8192) : (IntOp.cmpi CmpIPredicate.sle (BitVec.ofNat 32 j.val) (BitVec.ofNat 32 p.val) : BitVec 1) = if j ≤ p then 1#1 else 0#1 :=
  sle_small j.isLt p.isLt

/-- Column `d` of a head of 64. -/
def col (h : Fin 8) (d : Fin 64) : Fin 512 := ⟨h.val * 64 + d.val, by omega⟩

/-- Column `x` of a head of 128. -/
def lane (h : Fin 8) (x : Fin 128) : Fin 1024 := ⟨h.val * 128 + x.val, by omega⟩

variable {q k : Fin 8192 → Fin 8 → Fin 96 → ℝ} {v o : Fin 8192 → Fin 8 → Fin 64 → ℝ}
  {x0 x1 : FVec Ideal S1x8192x8x96 .f32} {x2 : FVec Ideal S1x8192x8x64 .f32} {x3 : FVec Ideal S1x8192x512 .f32} {y : FVec Ideal S8192x8x64 .f32}

theorem select_sle (j p : Fin 8192) (a b : EReal) : Scalar.select (α := EReal) (if j ≤ p then 1#1 else 0#1) a b = if j ≤ p then a else b := by
  by_cases h : j ≤ p
  · rw [if_pos h, if_pos h]; rfl
  · rw [if_neg h, if_neg h]; rfl

theorem hS_real (h0 : ∀ p h d, x0 (ix4 0 p h d) = ((q p h d : ℝ) : EReal)) (h1 : ∀ p h d, x1 (ix4 0 p h d) = ((k p h d : ℝ) : EReal))
    (h : Fin 8) (p j : Fin 8192) : hS x0 x1 (ix4 0 h p j) = scE q k h p j := by
  pointwise [hS]
  simp only [h0, h1, ofBits_scl, ofBits_ninf, ← EReal.coe_mul, ← coe_sum, sle_iota]
  exact select_sle j p _ _

theorem hM_real (h0 : ∀ p h d, x0 (ix4 0 p h d) = ((q p h d : ℝ) : EReal)) (h1 : ∀ p h d, x1 (ix4 0 p h d) = ((k p h d : ℝ) : EReal))
    (h : Fin 8) (p : Fin 8192) : hM x0 x1 (ix4 0 h p 0) = ((Mx q k h p : ℝ) : EReal) := by
  pointwise [hM]
  simp only [hS_real h0 h1, ofBits_ninf]
  exact coe_Mx q k h p

theorem exp_scE (h : Fin 8) (p j : Fin 8192) : Ideal.exp (scE q k h p j - ((Mx q k h p : ℝ) : EReal)) = ((Ex q k h p j : ℝ) : EReal) := by
  unfold scE Ex
  by_cases hj : j ≤ p
  · rw [if_pos hj, if_pos hj, ← EReal.coe_sub, Ideal.exp_coe]
  · rw [if_neg hj, if_neg hj, EReal.bot_sub]; rfl

theorem hE_real (h0 : ∀ p h d, x0 (ix4 0 p h d) = ((q p h d : ℝ) : EReal)) (h1 : ∀ p h d, x1 (ix4 0 p h d) = ((k p h d : ℝ) : EReal))
    (h : Fin 8) (p j : Fin 8192) : hE x0 x1 (ix4 0 h p j) = ((Ex q k h p j : ℝ) : EReal) := by
  pointwise [hE]
  simp only [hS_real h0 h1, hM_real h0 h1]
  exact exp_scE h p j

theorem hL_real (h0 : ∀ p h d, x0 (ix4 0 p h d) = ((q p h d : ℝ) : EReal)) (h1 : ∀ p h d, x1 (ix4 0 p h d) = ((k p h d : ℝ) : EReal))
    (h : Fin 8) (p : Fin 8192) : hL x0 x1 (ix4 0 h p 0) = ((Lx q k h p : ℝ) : EReal) := by
  pointwise [hL]
  simp only [hE_real h0 h1, ← coe_sum, zero_add]
  rfl

theorem hP_real (h0 : ∀ p h d, x0 (ix4 0 p h d) = ((q p h d : ℝ) : EReal)) (h1 : ∀ p h d, x1 (ix4 0 p h d) = ((k p h d : ℝ) : EReal))
    (h : Fin 8) (p j : Fin 8192) : hP x0 x1 (ix4 0 h p j) = ((Px q k h p j : ℝ) : EReal) := by
  pointwise [hP]
  simp only [hE_real h0 h1, hL_real h0 h1]
  exact coe_div _ (Lx_pos q k h p).ne'

theorem hO_real (h0 : ∀ p h d, x0 (ix4 0 p h d) = ((q p h d : ℝ) : EReal)) (h1 : ∀ p h d, x1 (ix4 0 p h d) = ((k p h d : ℝ) : EReal))
    (h2 : ∀ p h d, x2 (ix4 0 p h d) = ((v p h d : ℝ) : EReal)) (h : Fin 8) (d : Fin 64) (p : Fin 8192) :
    hO x0 x1 x2 (ix4 0 h d p) = ((Ox q k v p h d : ℝ) : EReal) := by
  pointwise [hO]
  simp only [hP_real h0 h1, h2, ← EReal.coe_mul, ← coe_sum]
  rfl

theorem log_read (A B : FVec Ideal S1x8x8192x1 .f32) (z : FVec Ideal S_ .f32) (i : S1x8x8192x1.Idx) :
    Host.divf (addf A (Host.log B)) (broadcastInDim S1x8x8192x1 ![] bcast_S_S1x8x8192x1 (Host.log z)) i
      = Ideal.div (A i + Ideal.log (B i)) (Ideal.log (z (fun a => a.elim0))) := by
  show Ideal.div (A i + Ideal.log (B i)) (broadcastInDim S1x8x8192x1 ![] bcast_S_S1x8x8192x1 (Host.log z) i) = _
  rw [broadcastInDim_apply _ bcast_S_S1x8x8192x1 (Host.log z) i (fun a => a.elim0) (fun a => a.elim0)]
  rfl

theorem hLog_real (h0 : ∀ p h d, x0 (ix4 0 p h d) = ((q p h d : ℝ) : EReal)) (h1 : ∀ p h d, x1 (ix4 0 p h d) = ((k p h d : ℝ) : EReal))
    (h : Fin 8) (p : Fin 8192) : hLog x0 x1 (ix4 0 h p 0) = ((Lse q k h p : ℝ) : EReal) := by
  unfold hLog
  rw [log_read, hM_real h0 h1, hL_real h0 h1]
  show Ideal.div (((Mx q k h p : ℝ) : EReal) + Ideal.log ((Lx q k h p : ℝ) : EReal)) (Ideal.log (Ideal.ofBits .f32 0x40000000#32)) = _
  rw [ofBits_two, Ideal.log_coe, Ideal.log_coe, if_neg (not_le.2 (Lx_pos q k h p)), if_neg (not_le.2 (by norm_num : (0 : ℝ) < 2)), ← EReal.coe_add]
  exact coe_div _ (Real.log_pos (by norm_num)).ne'

theorem hLse_real (h0 : ∀ p h d, x0 (ix4 0 p h d) = ((q p h d : ℝ) : EReal)) (h1 : ∀ p h d, x1 (ix4 0 p h d) = ((k p h d : ℝ) : EReal))
    (h : Fin 8) (p : Fin 8192) : hLse x0 x1 (ix3 h 0 p) = ((Lse q k h p : ℝ) : EReal) := by
  refine Eq.trans ?_ (hLog_real h0 h1 h p)
  unfold hLse
  generalize hLog x0 x1 = y
  refine shapeCast_apply y _ _ _ ?_
  rw [Shape.rowMajor_val_three, Shape.rowMajor_val_four]
  show ((0 * 8 + h.val) * 8192 + p.val) * 1 + 0 = (h.val * 1 + 0) * 8192 + p.val
  omega

theorem hdO_real (h3 : ∀ p h d, x3 (ix3 0 p (col h d)) = ((o p h d : ℝ) : EReal))
    (p : Fin 8192) (h : Fin 8) (d : Fin 64) : hdO x3 (ix3 p h d) = ((o p h d : ℝ) : EReal) := by
  pointwise [hdO]
  exact h3 p h d

theorem hD_real (h0 : ∀ p h d, x0 (ix4 0 p h d) = ((q p h d : ℝ) : EReal)) (h1 : ∀ p h d, x1 (ix4 0 p h d) = ((k p h d : ℝ) : EReal))
    (h2 : ∀ p h d, x2 (ix4 0 p h d) = ((v p h d : ℝ) : EReal)) (h3 : ∀ p h d, x3 (ix3 0 p (col h d)) = ((o p h d : ℝ) : EReal)) (h : Fin 8) (p : Fin 8192) :
    hD x0 x1 x2 x3 (ix3 h 0 p) = ((Dx q k v o h p : ℝ) : EReal) := by
  pointwise [hD]
  simp only [hO_real h0 h1 h2, hdO_real h3, ← EReal.coe_mul, ← coe_sum]
  rfl

theorem lane_div (h : Fin 8) (x : Fin 128) : (lane h x).val / 128 = h.val := by
  show (h.val * 128 + x.val) / 128 = h.val
  omega

theorem lane_mod (h : Fin 8) (x : Fin 128) : (lane h x).val % 128 = x.val := by
  show (h.val * 128 + x.val) % 128 = x.val
  omega

/-- A column past the head's own is zero. -/
theorem dite_ext {n : ℕ} {f : Fin 8 → Fin n → EReal} {g : Fin 8 → Fin n → ℝ} (hf : ∀ h d, f h d = ((g h d : ℝ) : EReal)) (h : Fin 8) (x : Fin 128) :
    (if hh : (lane h x).val / 128 < 8 ∧ (lane h x).val % 128 < n then f ⟨(lane h x).val / 128, hh.1⟩ ⟨(lane h x).val % 128, hh.2⟩ else 0) = ((ext (g h) x : ℝ) : EReal) := by
  unfold ext
  by_cases hx : x.val < n
  · rw [dif_pos hx, dif_pos ⟨by rw [lane_div]; exact h.isLt, by rw [lane_mod]; exact hx⟩, hf]
    have e1 : (⟨(lane h x).val / 128, by rw [lane_div]; exact h.isLt⟩ : Fin 8) = h := Fin.ext (lane_div h x)
    have e2 : (⟨(lane h x).val % 128, by rw [lane_mod]; exact hx⟩ : Fin n) = ⟨x.val, hx⟩ := Fin.ext (lane_mod h x)
    rw [e1, e2]
  · rw [dif_neg hx, dif_neg fun hh => hx (by have := hh.2; rwa [lane_mod] at this)]
    rfl

theorem hQ_real (h0 : ∀ p h d, x0 (ix4 0 p h d) = ((q p h d : ℝ) : EReal)) (p : Fin 8192) (h : Fin 8) (x : Fin 128) :
    hQ x0 (ix2 p (lane h x)) = ((ext (q p h) x : ℝ) : EReal) := by
  pointwise [hQ]
  exact dite_ext (f := fun h d => x0 (ix4 0 p h d)) (fun h d => h0 p h d) h x

theorem hV_real (hy : ∀ p h d, y (ix3 p h d) = ((v p h d : ℝ) : EReal)) (p : Fin 8192) (h : Fin 8) (x : Fin 128) :
    hV y (ix2 p (lane h x)) = ((ext (v p h) x : ℝ) : EReal) := by
  pointwise [hV]
  exact dite_ext (f := fun h d => y (ix3 p h d)) (fun h d => hy p h d) h x

theorem hV2_real (h2 : ∀ p h d, x2 (ix4 0 p h d) = ((v p h d : ℝ) : EReal)) (p : Fin 8192) (h : Fin 8) (d : Fin 64) :
    (shapeCast S8192x8x64 x2 shapeCasts_S1x8192x8x64_S8192x8x64 : FVec Ideal S8192x8x64 .f32) (ix3 p h d) = ((v p h d : ℝ) : EReal) := by
  pointwise []
  exact h2 p h d

end Cert.KernelIdeal.Attn

end
-- ==== Proof.Val.Blocks.lean ====
/- The blocks a step of the gradient kernel reads, over real arguments. -/
module

public import proofs.«01_k».proof.Proof.KI.Data
public import proofs.«01_k».proof.Proof.Val.HostReal
public import Idealize.ShloMosaic.Lib.Pipeline.ValueKit.Geometry

@[expose] public section

set_option maxRecDepth 16384

noncomputable section

namespace Cert.KernelIdeal.Attn

open Gen
open Idealize.ShloMosaic TcCoe Pointwise Tactic
open Pipeline (Dat Cfg Window)
open Idealize.SL.Sem

/-- The step of a grid point within its head, -/
abbrev stp (t : Fin grid0.N) : Fin 36 := stepOf (grid0.coords t)
/-- and its head. -/
abbrev hd (t : Fin grid0.N) : Fin 8 := headOf (grid0.coords t)

section
variable (m : (ℓ : Loc nD τ sig) → Buf (Elt Ideal) ℓ) (c : Dev nD) (t : Fin grid0.N)

theorem idx0 : ((cfgA (F := Ideal)).win 0).index t = ![(qb (stp t)).val, (hd t).val] := map0 _
theorem idx1 : ((cfgA (F := Ideal)).win 1).index t = ![(kb (stp t)).val, (hd t).val] := map1 _
theorem idx2 : ((cfgA (F := Ideal)).win 2).index t = ![(hd t).val, (kb (stp t)).val] := map2 _
theorem idx3 : ((cfgA (F := Ideal)).win 3).index t = ![(kb (stp t)).val, (hd t).val] := map3 _
theorem idx4 : ((cfgA (F := Ideal)).win 4).index t = ![(qb (stp t)).val, (hd t).val] := map4 _
theorem idx5 : ((cfgA (F := Ideal)).win 5).index t = ![(hd t).val, 0, (qb (stp t)).val] := map5 _
theorem idx6 : ((cfgA (F := Ideal)).win 6).index t = ![(hd t).val, 0, (qb (stp t)).val] := map6 _

theorem qB_at (a : Fin 1024) (x : Fin 128) : qB m c t (ix2 a x) = V m c main_v34 (ix2 (row (qb (stp t)) a) (lane (hd t) x)) := by
  refine congrArg (V m c main_v34) (funext fun b => Fin.ext ?_)
  refine (Window.rect_emb_val ((cfgA (F := Ideal)).win 0) t (ix2 a x) b rfl).trans ?_
  rw [idx0]
  match b with
  | ⟨0, _⟩ => show (qb (stp t)).val * 1024 + a.val = 1024 * (qb (stp t)).val + a.val; omega
  | ⟨1, _⟩ => show (hd t).val * 128 + x.val = (hd t).val * 128 + x.val; rfl

theorem kB_at (a : Fin 1024) (x : Fin 128) : kB m c t (ix2 a x) = V m c main_v38 (ix2 (row (kb (stp t)) a) (lane (hd t) x)) := by
  refine congrArg (V m c main_v38) (funext fun b => Fin.ext ?_)
  refine (Window.rect_emb_val ((cfgA (F := Ideal)).win 1) t (ix2 a x) b rfl).trans ?_
  rw [idx1]
  match b with
  | ⟨0, _⟩ => show (kb (stp t)).val * 1024 + a.val = 1024 * (kb (stp t)).val + a.val; omega
  | ⟨1, _⟩ => rfl

theorem ktB_at (x : Fin 128) (a : Fin 1024) : ktB m c t (ix2 x a) = V m c main_v46 (ix2 (lane (hd t) x) (row (kb (stp t)) a)) := by
  refine congrArg (V m c main_v46) (funext fun b => Fin.ext ?_)
  refine (Window.rect_emb_val ((cfgA (F := Ideal)).win 2) t (ix2 x a) b rfl).trans ?_
  rw [idx2]
  match b with
  | ⟨0, _⟩ => rfl
  | ⟨1, _⟩ => show (kb (stp t)).val * 1024 + a.val = 1024 * (kb (stp t)).val + a.val; omega

theorem vB_at (a : Fin 1024) (x : Fin 128) : vB m c t (ix2 a x) = V m c main_v42 (ix2 (row (kb (stp t)) a) (lane (hd t) x)) := by
  refine congrArg (V m c main_v42) (funext fun b => Fin.ext ?_)
  refine (Window.rect_emb_val ((cfgA (F := Ideal)).win 3) t (ix2 a x) b rfl).trans ?_
  rw [idx3]
  match b with
  | ⟨0, _⟩ => show (kb (stp t)).val * 1024 + a.val = 1024 * (kb (stp t)).val + a.val; omega
  | ⟨1, _⟩ => rfl

theorem oB_at (a : Fin 1024) (x : Fin 128) : oB m c t (ix2 a x) = V m c main_v45 (ix2 (row (qb (stp t)) a) (lane (hd t) x)) := by
  refine congrArg (V m c main_v45) (funext fun b => Fin.ext ?_)
  refine (Window.rect_emb_val ((cfgA (F := Ideal)).win 4) t (ix2 a x) b rfl).trans ?_
  rw [idx4]
  match b with
  | ⟨0, _⟩ => show (qb (stp t)).val * 1024 + a.val = 1024 * (qb (stp t)).val + a.val; omega
  | ⟨1, _⟩ => rfl

theorem lseB_at (b : Fin 1024) : lseB m c t (ix3 0 0 b) = V m c main_v24 (ix3 (hd t) 0 (row (qb (stp t)) b)) := by
  refine congrArg (V m c main_v24) (funext fun e => Fin.ext ?_)
  refine (Window.rect_emb_val ((cfgA (F := Ideal)).win 5) t (ix3 0 0 b) e rfl).trans ?_
  rw [idx5]
  match e with
  | ⟨0, _⟩ => show (hd t).val * 1 + 0 = (hd t).val; omega
  | ⟨1, _⟩ => rfl
  | ⟨2, _⟩ => show (qb (stp t)).val * 1024 + b.val = 1024 * (qb (stp t)).val + b.val; omega

theorem dltB_at (b : Fin 1024) : dltB m c t (ix3 0 0 b) = V m c main_v30 (ix3 (hd t) 0 (row (qb (stp t)) b)) := by
  refine congrArg (V m c main_v30) (funext fun e => Fin.ext ?_)
  refine (Window.rect_emb_val ((cfgA (F := Ideal)).win 6) t (ix3 0 0 b) e rfl).trans ?_
  rw [idx6]
  match e with
  | ⟨0, _⟩ => show (hd t).val * 1 + 0 = (hd t).val; omega
  | ⟨1, _⟩ => rfl
  | ⟨2, _⟩ => show (qb (stp t)).val * 1024 + b.val = 1024 * (qb (stp t)).val + b.val; omega

end

section
variable {m : (ℓ : Loc nD τ sig) → Buf (Elt Ideal) ℓ} {c : Dev nD}
  {q k : Fin 8192 → Fin 8 → Fin 96 → ℝ} {v o : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal)) (h3 : ∀ p h d, a3 m c (ix3 0 p (col h d)) = ((o p h d : ℝ) : EReal))

include h0 in
theorem qB_real (t : Fin grid0.N) (a : Fin 1024) (x : Fin 128) : qB m c t (ix2 a x) = ((ext (q (row (qb (stp t)) a) (hd t)) x : ℝ) : EReal) := by
  rw [qB_at, V_v34]; exact hQ_real h0 _ _ _

include h1 in
theorem kB_real (t : Fin grid0.N) (a : Fin 1024) (x : Fin 128) : kB m c t (ix2 a x) = ((ext (k (row (kb (stp t)) a) (hd t)) x : ℝ) : EReal) := by
  rw [kB_at, V_v38]; exact hQ_real h1 _ _ _

include h1 in
theorem ktB_real (t : Fin grid0.N) (x : Fin 128) (a : Fin 1024) : ktB m c t (ix2 x a) = ((ext (k (row (kb (stp t)) a) (hd t)) x : ℝ) : EReal) := by
  rw [ktB_at, V_v46]
  have e : transpose S1024x8192 [1, 0] (hQ (a1 m c)) transposes_S8192x1024_S1024x8192_1_0 (ix2 (lane (hd t) x) (row (kb (stp t)) a))
      = hQ (a1 m c) (ix2 (row (kb (stp t)) a) (lane (hd t) x)) := by pointwise
  rw [e]; exact hQ_real h1 _ _ _

include h2 in
theorem vB_real (t : Fin grid0.N) (a : Fin 1024) (x : Fin 128) : vB m c t (ix2 a x) = ((ext (v (row (kb (stp t)) a) (hd t)) x : ℝ) : EReal) := by
  rw [vB_at, V_v42]; exact hV_real (hV2_real h2) _ _ _

include h3 in
theorem oB_real (t : Fin grid0.N) (a : Fin 1024) (x : Fin 128) : oB m c t (ix2 a x) = ((ext (o (row (qb (stp t)) a) (hd t)) x : ℝ) : EReal) := by
  rw [oB_at, V_v45]; exact hV_real (hdO_real h3) _ _ _

include h0 h1 in
theorem lseB_real (t : Fin grid0.N) (b : Fin 1024) : lseB m c t (ix3 0 0 b) = ((Lse q k (hd t) (row (qb (stp t)) b) : ℝ) : EReal) := by
  rw [lseB_at, V_v24]; exact hLse_real h0 h1 _ _

include h0 h1 h2 h3 in
theorem dltB_real (t : Fin grid0.N) (b : Fin 1024) : dltB m c t (ix3 0 0 b) = ((Dx q k v o (hd t) (row (qb (stp t)) b) : ℝ) : EReal) := by
  rw [dltB_at, V_v30]; exact hD_real h0 h1 h2 h3 _ _
end

end Cert.KernelIdeal.Attn

end
-- ==== Proof.Val.Sched.lean ====
/- The order in which the gradient kernel visits its pairs of blocks. -/
module

public import proofs.«01_k».proof.Proof.KI.Tables

@[expose] public section

set_option maxRecDepth 16384

noncomputable section

namespace Cert.KernelIdeal.Attn

open Finset

/-- Every block of queries past a block of keys is visited with it once, at step `at' i j`. -/
def visit (i j : Fin 8) : Fin 36 := ⟨(8 * j.val - j.val * (j.val - 1) / 2 + (i.val - j.val)) % 36, Nat.mod_lt _ (by decide)⟩

theorem visit_iff : ∀ (i j : Fin 8) (n : Fin 36), (qb n = i ∧ kb n = j) ↔ (j ≤ i ∧ n = visit i j) := by decide +kernel

theorem kb_le : ∀ n : Fin 36, kb n ≤ qb n := by decide +kernel

/-- A sum over the steps that visit a block of queries is one over the blocks of keys. -/
theorem sum_q {f : Fin 8 → ℝ} {i : Fin 8} (hf : ∀ j, ¬ j ≤ i → f j = 0) : ∑ n : Fin 36, (if qb n = i then f (kb n) else 0) = ∑ j, f j := by
  have e : ∀ n : Fin 36, (if qb n = i then f (kb n) else 0) = ∑ j, if j ≤ i ∧ n = visit i j then f j else 0 := fun n => by
    simp only [← visit_iff]
    by_cases h : qb n = i
    · simp [h]
    · simp [h]
  rw [sum_congr rfl fun n _ => e n, sum_comm]
  refine sum_congr rfl fun j _ => ?_
  by_cases h : j ≤ i
  · simp [h]
  · simp [h, hf j h]

/-- A sum over the steps that visit a block of keys is one over the blocks of queries. -/
theorem sum_k {f : Fin 8 → ℝ} {j : Fin 8} (hf : ∀ i, ¬ j ≤ i → f i = 0) : ∑ n : Fin 36, (if kb n = j then f (qb n) else 0) = ∑ i, f i := by
  have e : ∀ n : Fin 36, (if kb n = j then f (qb n) else 0) = ∑ i, if j ≤ i ∧ n = visit i j then f i else 0 := fun n => by
    simp only [← visit_iff]
    by_cases h : kb n = j
    · simp [h]
    · simp [h]
  rw [sum_congr rfl fun n _ => e n, sum_comm]
  refine sum_congr rfl fun i _ => ?_
  by_cases h : j ≤ i
  · simp [h]
  · simp [h, hf i h]

/-- The steps up to `n`. -/
def upTo (n : ℕ) : Finset (Fin 36) := univ.filter fun n' => n'.val ≤ n

theorem sum_upTo_zero (f : Fin 36 → ℝ) {n : Fin 36} (h : n.val = 0) : ∑ n' ∈ upTo n.val, f n' = f n := by
  have e : upTo n.val = {n} := by
    ext x; simp only [upTo, mem_filter, mem_univ, true_and, mem_singleton, Fin.ext_iff]; omega
  rw [e, sum_singleton]

theorem sum_upTo_succ (f : Fin 36 → ℝ) {n : Fin 36} {n₀ : ℕ} (h : n₀ + 1 = n.val) : ∑ n' ∈ upTo n.val, f n' = ∑ n' ∈ upTo n₀, f n' + f n := by
  have e : upTo n.val = insert n (upTo n₀) := by
    ext x; simp only [upTo, mem_filter, mem_univ, true_and, mem_insert, Fin.ext_iff]; omega
  rw [e, sum_insert (by simp only [upTo, mem_filter, mem_univ, true_and]; omega), add_comm]

theorem sum_upTo_all (f : Fin 36 → ℝ) : ∑ n' ∈ upTo 35, f n' = ∑ n', f n' := by
  refine sum_congr ?_ fun _ _ => rfl
  ext x; simp only [upTo, mem_filter, mem_univ, true_and, iff_true]; omega

theorem first_visit : ∀ n n' : Fin 36, qb n = kb n → kb n' = kb n → n'.val ≤ n.val → n' = n := by decide +kernel
theorem last_visit : ∀ n n' : Fin 36, qb n = 7 → kb n' = kb n → n'.val ≤ n.val := by decide +kernel

/-- At a block of keys' first step nothing has been summed. -/
theorem sum_first {f : Fin 8 → ℝ} {n : Fin 36} (h : qb n = kb n) : ∑ n' ∈ upTo n.val, (if kb n' = kb n then f (qb n') else 0) = f (qb n) := by
  rw [sum_eq_single n]
  · rw [if_pos rfl]
  · intro n' hn' hne
    exact if_neg fun hk => hne (first_visit n n' h hk (mem_filter.1 hn').2)
  · intro hn
    exact absurd (show n ∈ upTo n.val from mem_filter.2 ⟨mem_univ n, le_refl n.val⟩) hn

/-- At its last step everything has. -/
theorem sum_last {f : Fin 8 → ℝ} {n : Fin 36} (h : qb n = 7) : ∑ n' ∈ upTo n.val, (if kb n' = kb n then f (qb n') else 0) = ∑ n', if kb n' = kb n then f (qb n') else 0 := by
  refine sum_subset (filter_subset _ _) fun n' _ hn' => if_neg fun hk => hn' (mem_filter.2 ⟨mem_univ _, last_visit n n' h hk⟩)

end Cert.KernelIdeal.Attn

end
-- ==== Proof.Val.Accum.lean ====
/- What the gradient kernel's buffers hold at every step, over real arguments: the sums of the steps so far. -/
module

public import proofs.«01_k».proof.Proof.KI.Frame
public import proofs.«01_k».proof.Proof.Val.Blocks
public import proofs.«01_k».proof.Proof.Val.Sched
public import proofs.«01_k».proof.Proof.Val.Step

@[expose] public section

set_option maxRecDepth 16384

noncomputable section

namespace Cert.KernelIdeal.Attn

open Gen
open Idealize.ShloMosaic TcCoe Pointwise Tactic
open Idealize.SL.Sem

theorem row_lt {i j : Fin 8} (h : j < i) (a b : Fin 1024) : row j a ≤ row i b := by
  have h' : j.val < i.val := h
  show 1024 * j.val + a.val ≤ 1024 * i.val + b.val
  omega

theorem row_le_iff (i : Fin 8) (a b : Fin 1024) : row i a ≤ row i b ↔ a ≤ b := by
  show 1024 * i.val + a.val ≤ 1024 * i.val + b.val ↔ a.val ≤ b.val
  omega

theorem row_dead {i j : Fin 8} (h : ¬ j ≤ i) (a b : Fin 1024) : ¬ row j a ≤ row i b := by
  have h' : ¬ j.val ≤ i.val := h
  show ¬ 1024 * j.val + a.val ≤ 1024 * i.val + b.val
  omega

section
variable (q k : Fin 8192 → Fin 8 → Fin 96 → ℝ) (v o : Fin 8192 → Fin 8 → Fin 64 → ℝ)

/-- What a pair of blocks adds to the gradient of the values, -/
def cV (i j h : Fin 8) (a : Fin 1024) (x : Fin 128) : ℝ := ∑ b, Px q k h (row i b) (row j a) * ext (o (row i b) h) x

/-- of the keys, -/
def cK (i j h : Fin 8) (a : Fin 1024) (x : Fin 128) : ℝ := ∑ b, DSx q k v o h (row i b) (row j a) * ext (q (row i b) h) x

/-- and of the queries. -/
def cQ (i j h : Fin 8) (x : Fin 128) (b : Fin 1024) : ℝ := ∑ a, ext (k (row j a) h) x * DSx q k v o h (row i b) (row j a)

theorem ptR_live (h i j : Fin 8) {a b : Fin 1024} (hj : row j a ≤ row i b) :
    ptR (fun b x => ext (q (row i b) h) x) (fun a x => ext (k (row j a) h) x) (fun b => Lse q k h (row i b)) a b = Px q k h (row i b) (row j a) := by
  unfold ptR
  rw [sum_ext (by norm_num)]
  exact pow_eq_Px q k h hj

theorem dsR_eq (h i j : Fin 8) (a b : Fin 1024) :
    dsR (fun a b => Px q k h (row i b) (row j a)) (fun a x => ext (v (row j a) h) x) (fun b x => ext (o (row i b) h) x) (fun b => Dx q k v o h (row i b)) a b
      = DSx q k v o h (row i b) (row j a) := by
  unfold dsR
  rw [sum_ext (by norm_num)]
  rfl

/-- The sums after step `n` of head `h`. -/
structure Inv (n : Fin 36) (h : Fin 8) (y : Outs Ideal) : Prop where
  dq : ∀ i x b, y.1 (ix4 0 i x b) = ((∑ n' ∈ upTo n.val, (if qb n' = i then cQ q k v o i (kb n') h x b else 0) : ℝ) : EReal)
  dk : ∀ a x, y.2.1 (ix2 a x) = ((∑ n' ∈ upTo n.val, (if kb n' = kb n then cK q k v o (qb n') (kb n) h a x else 0) : ℝ) : EReal)
  dv : ∀ a x, y.2.2 (ix2 a x) = ((∑ n' ∈ upTo n.val, (if kb n' = kb n then cV q k o (qb n') (kb n) h a x else 0) : ℝ) : EReal)
end

section
variable {m : (ℓ : Loc nD τ sig) → Buf (Elt Ideal) ℓ} {c : Dev nD}
  {q k : Fin 8192 → Fin 8 → Fin 96 → ℝ} {v o : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal)) (h3 : ∀ p h d, a3 m c (ix3 0 p (col h d)) = ((o p h d : ℝ) : EReal))

include h0 h1 in
/-- The probabilities of a step on the diagonal, -/
theorem ptB_Px (t : Fin grid0.N) (hd' : qb (stp t) = kb (stp t)) (a b : Fin 1024) :
    ptB (stp t) (qB m c t) (kB m c t) (lseB m c t) (ix2 a b) = ((Px q k (hd t) (row (qb (stp t)) b) (row (kb (stp t)) a) : ℝ) : EReal) := by
  refine (pay12_real hd' (qB_real h0 t) (kB_real h1 t) (lseB_real h0 h1 t) a b).trans (congrArg _ ?_)
  by_cases hab : a ≤ b
  · rw [if_pos hab]
    exact ptR_live q k (hd t) _ _ (by rw [hd', row_le_iff]; exact hab)
  · rw [if_neg hab]
    exact (Px_dead q k (hd t) (by rw [hd', row_le_iff]; exact hab)).symm

include h0 h1 in
/-- and past it. -/
theorem pay6_Px (t : Fin grid0.N) (hd' : ¬ qb (stp t) = kb (stp t)) (a b : Fin 1024) :
    k0_pay6 (qB m c t) (kB m c t) (lseB m c t) (ix2 a b) = ((Px q k (hd t) (row (qb (stp t)) b) (row (kb (stp t)) a) : ℝ) : EReal) := by
  refine (pay6_real (qB_real h0 t) (kB_real h1 t) (lseB_real h0 h1 t) a b).trans (congrArg _ ?_)
  exact ptR_live q k (hd t) _ _ (row_lt (lt_of_le_of_ne (kb_le (stp t)) fun e => hd' e.symm) a b)

include h0 h1 h2 h3 in
theorem dsB_DSx (t : Fin grid0.N) (hd' : qb (stp t) = kb (stp t)) (a b : Fin 1024) :
    k0_pay1 (ptB (stp t) (qB m c t) (kB m c t) (lseB m c t)) (k0_pay14 (vB m c t) (oB m c t)) (dltB m c t) (ix2 a b)
      = ((DSx q k v o (hd t) (row (qb (stp t)) b) (row (kb (stp t)) a) : ℝ) : EReal) :=
  (pay1_real (ptB_Px h0 h1 t hd') (vB_real h2 t) (oB_real h3 t) (dltB_real h0 h1 h2 h3 t) a b).trans
    (congrArg _ (dsR_eq q k v o (hd t) _ _ a b))

include h0 h1 h2 h3 in
theorem dsC_DSx (t : Fin grid0.N) (hd' : ¬ qb (stp t) = kb (stp t)) (a b : Fin 1024) :
    dsC (qB m c t) (kB m c t) (vB m c t) (oB m c t) (lseB m c t) (dltB m c t) (ix2 a b)
      = ((DSx q k v o (hd t) (row (qb (stp t)) b) (row (kb (stp t)) a) : ℝ) : EReal) :=
  (dsC_real (pay6_Px h0 h1 t hd') (vB_real h2 t) (oB_real h3 t) (dltB_real h0 h1 h2 h3 t) a b).trans
    (congrArg _ (dsR_eq q k v o (hd t) _ _ a b))

theorem pay15_zero (i : Fin 8) (x : Fin 128) (b : Fin 1024) : (k0_pay15 (F := Ideal)) (ix4 0 i x b) = ((0 : ℝ) : EReal) := by
  pointwise [k0_pay15]
  rfl

include h0 h1 h2 h3 in
/-- A head's first step. -/
theorem inv_first (t : Fin grid0.N) (ht : t.val % 36 = 0) (y : Outs Ideal) : Inv q k v o (stp t) (hd t) (stepOuts m c t y) := by
  have hn : (stp t).val = 0 := (step_coords t).trans ht
  have hd' : qb (stp t) = kb (stp t) := first_diag _ hn
  unfold stepOuts
  rw [if_pos hd']
  refine ⟨fun i x b => ?_, fun a x => ?_, fun a x => ?_⟩
  · rw [if_pos ht, sum_upTo_zero _ hn]
    refine (dqB_real (Y4 := fun _ _ _ => 0) (stp t) (dsB_DSx h0 h1 h2 h3 t hd') (ktB_real h1 t) pay15_zero i x b).trans (congrArg _ ?_)
    by_cases e : i = qb (stp t)
    · subst e
      rw [if_pos rfl, if_pos rfl, zero_add]; rfl
    · rw [if_neg e, if_neg fun e' => e e'.symm]
  · rw [sum_first (f := fun i => cK q k v o i (kb (stp t)) (hd t) a x) hd']
    exact dkB_real (dsB_DSx h0 h1 h2 h3 t hd') (qB_real h0 t) a x
  · rw [sum_first (f := fun i => cV q k o i (kb (stp t)) (hd t) a x) hd']
    exact dvB_real (ptB_Px h0 h1 t hd') (oB_real h3 t) a x

include h0 h1 h2 h3 in
/-- A later step. -/
theorem inv_next (t : Fin grid0.N) (ht : ¬ t.val % 36 = 0) {n : Fin 36} (hn : n.val + 1 = (stp t).val) {y : Outs Ideal} (hy : Inv q k v o n (hd t) y) :
    Inv q k v o (stp t) (hd t) (stepOuts m c t y) := by
  unfold stepOuts
  by_cases hd' : qb (stp t) = kb (stp t)
  · rw [if_pos hd']
    refine ⟨fun i x b => ?_, fun a x => ?_, fun a x => ?_⟩
    · rw [if_neg ht, sum_upTo_succ _ hn]
      refine (dqB_real (stp t) (dsB_DSx h0 h1 h2 h3 t hd') (ktB_real h1 t) hy.dq i x b).trans (congrArg _ ?_)
      by_cases e : i = qb (stp t)
      · subst e
        rw [if_pos rfl, if_pos rfl]; rfl
      · rw [if_neg e, if_neg fun e' => e e'.symm, add_zero]
    · rw [sum_first (f := fun i => cK q k v o i (kb (stp t)) (hd t) a x) hd']
      exact dkB_real (dsB_DSx h0 h1 h2 h3 t hd') (qB_real h0 t) a x
    · rw [sum_first (f := fun i => cV q k o i (kb (stp t)) (hd t) a x) hd']
      exact dvB_real (ptB_Px h0 h1 t hd') (oB_real h3 t) a x
  · rw [if_neg hd']
    have ek : kb (stp t) = kb n := kb_pred _ _ hd' hn
    refine ⟨fun i x b => ?_, fun a x => ?_, fun a x => ?_⟩
    · rw [sum_upTo_succ _ hn]
      refine (dqC_real (qb (stp t)) (dsC_DSx h0 h1 h2 h3 t hd') (ktB_real h1 t) hy.dq i x b).trans (congrArg _ ?_)
      by_cases e : i = qb (stp t)
      · subst e
        rw [if_pos rfl, if_pos rfl]; rfl
      · rw [if_neg e, if_neg fun e' => e e'.symm, add_zero]
    · rw [sum_upTo_succ _ hn, if_pos rfl]
      refine (dkC_real (dsC_DSx h0 h1 h2 h3 t hd') (qB_real h0 t) hy.dk a x).trans (congrArg _ ?_)
      rw [ek]; rfl
    · rw [sum_upTo_succ _ hn, if_pos rfl]
      refine (dvC_real (pay6_Px h0 h1 t hd') (oB_real h3 t) hy.dv a x).trans (congrArg _ ?_)
      rw [ek]; rfl

include h0 h1 h2 h3 in
/-- What the buffers hold at every step. -/
theorem inv_all (n : ℕ) (hn : n < 288) (t : Fin grid0.N) (et : t.val = n) : Inv q k v o (stp t) (hd t) (outs m c t.val) := by
  induction n generalizing t with
  | zero => rw [outs_eq]; exact inv_first h0 h1 h2 h3 t (by rw [et]) _
  | succ n ih =>
    rw [outs_eq]
    by_cases ht : t.val % 36 = 0
    · exact inv_first h0 h1 h2 h3 t ht _
    · have hl := lt_288 t
      have i' := ih (by omega) ⟨n, by omega⟩ rfl
      have eh : hd ⟨n, by omega⟩ = hd t := Fin.ext (by rw [head_coords, head_coords]; dsimp only; omega)
      rw [eh] at i'
      refine inv_next h0 h1 h2 h3 t ht (n := stp ⟨n, by omega⟩) (by rw [step_coords, step_coords]; dsimp only; omega) ?_
      have ep : prior m c t.val = outs m c n := by
        unfold prior
        rw [if_neg (by omega), et]; rfl
      rw [ep]; exact i'
end

end Cert.KernelIdeal.Attn

end
-- ==== Proof.Val.Final.lean ====
/- What the gradient kernel leaves in its three outputs, over real arguments. -/
module

public import proofs.«01_k».proof.Proof.Val.Accum

@[expose] public section

set_option maxRecDepth 16384

noncomputable section

namespace Cert.KernelIdeal.Attn

open Gen
open Idealize.ShloMosaic TcCoe Pointwise Tactic
open Pipeline (Dat Cfg Window)
open Idealize.SL.Sem

theorem idx7 (t : Fin grid0.N) : ((cfgA (F := Ideal)).win 7).index t = ![(hd t).val, 0, 0, 0] := map7 _
theorem idx8 (t : Fin grid0.N) : ((cfgA (F := Ideal)).win 8).index t = ![(kb (stp t)).val, (hd t).val] := map8 _
theorem idx9 (t : Fin grid0.N) : ((cfgA (F := Ideal)).win 9).index t = ![(kb (stp t)).val, (hd t).val] := map9 _

/-- A block that the next step keeps is not written back. -/
theorem flush_kept {w : Window sig grid0} {t t' : Fin grid0.N} (ht : t'.val = t.val + 1) (h : w.index t' = w.index t) : ¬ w.flush t = true := by
  have e : t = ⟨t'.val - 1, Nat.lt_of_le_of_lt (Nat.sub_le _ _) t'.isLt⟩ := Fin.ext (by show t.val = t'.val - 1; omega)
  have := flush_false (w := w) (t := t') (by omega) (by rw [← e]; exact h)
  rw [← e] at this
  rw [this]; decide

/-- One that it moves is. -/
theorem flush_moved {w : Window sig grid0} (hw : w.isOut = true) {t : Fin grid0.N} (h : ∀ t' : Fin grid0.N, t'.val = t.val + 1 → w.index t' ≠ w.index t) : w.flush t = true := by
  unfold Window.flush
  rw [hw, Bool.true_and, Bool.or_eq_true]
  by_cases e : t.val + 1 = grid0.N
  · exact Or.inl (decide_eq_true e)
  · exact Or.inr (decide_eq_true ⟨by have := t.isLt; omega, h ⟨t.val + 1, by have := t.isLt; omega⟩ rfl⟩)

theorem kb_next : ∀ n n' : Fin 36, ¬ qb n = 7 → n'.val = n.val + 1 → kb n' = kb n := by decide +kernel
theorem kb_moves : ∀ n n' : Fin 36, qb n = 7 → n'.val = n.val + 1 → ¬ kb n' = kb n := by decide +kernel
theorem ends : ∀ n : Fin 36, n.val = 35 → qb n = 7 := by decide +kernel
theorem kb_ends : ∀ n n' : Fin 36, n.val = 35 → n'.val = 0 → ¬ kb n' = kb n := by decide +kernel
theorem visit_last : ∀ j : Fin 8, qb (visit 7 j) = 7 ∧ kb (visit 7 j) = j := by decide +kernel

/-- The block of a head's queries is written back at the head's last step, -/
theorem flush7 {t : Fin grid0.N} (h : ((cfgA (F := Ideal)).win 7).flush t = true) : t.val % 36 = 35 := by
  by_contra hn
  have hl := lt_288 t
  refine flush_kept (t' := ⟨t.val + 1, lt_of_lt_of_eq (by omega) N_0.symm⟩) rfl ?_ h
  rw [idx7, idx7]
  have e : (hd ⟨t.val + 1, lt_of_lt_of_eq (by omega) N_0.symm⟩).val = (hd t).val := by rw [head_coords, head_coords]; dsimp only; omega
  rw [e]

/-- that of a block of keys at its last step. -/
theorem kept_of {t : Fin grid0.N} (hq : ¬ qb (stp t) = 7) (hl : t.val + 1 < 288) :
    kb (stp ⟨t.val + 1, lt_of_lt_of_eq hl N_0.symm⟩) = kb (stp t) ∧ hd ⟨t.val + 1, lt_of_lt_of_eq hl N_0.symm⟩ = hd t := by
  have h35 : ¬ (stp t).val = 35 := fun e => hq (ends _ e)
  rw [step_coords] at h35
  refine ⟨kb_next _ _ hq ?_, Fin.ext ?_⟩
  · rw [step_coords, step_coords]; dsimp only; omega
  · rw [head_coords, head_coords]; dsimp only; omega

theorem lt_of_open {t : Fin grid0.N} (hq : ¬ qb (stp t) = 7) : t.val + 1 < 288 := by
  have h35 : ¬ (stp t).val = 35 := fun e => hq (ends _ e)
  rw [step_coords] at h35
  have hl := lt_288 t
  omega

theorem flush8 {t : Fin grid0.N} (h : ((cfgA (F := Ideal)).win 8).flush t = true) : qb (stp t) = 7 := by
  by_contra hn
  obtain ⟨ek, eh⟩ := kept_of hn (lt_of_open hn)
  refine flush_kept (t' := ⟨t.val + 1, lt_of_lt_of_eq (lt_of_open hn) N_0.symm⟩) rfl ?_ h
  rw [idx8, idx8, ek, eh]

theorem flush9 {t : Fin grid0.N} (h : ((cfgA (F := Ideal)).win 9).flush t = true) : qb (stp t) = 7 := by
  by_contra hn
  obtain ⟨ek, eh⟩ := kept_of hn (lt_of_open hn)
  refine flush_kept (t' := ⟨t.val + 1, lt_of_lt_of_eq (lt_of_open hn) N_0.symm⟩) rfl ?_ h
  rw [idx9, idx9, ek, eh]

/-- The last step of a head with a block of keys. -/
def lastOf (j h : Fin 8) : Fin grid0.N := ⟨36 * h.val + (visit 7 j).val, lt_of_lt_of_eq (by omega) N_0.symm⟩

theorem hd_last (j h : Fin 8) : hd (lastOf j h) = h := Fin.ext (by rw [head_coords]; show (36 * h.val + (visit 7 j).val) / 36 % 8 = h.val; omega)
theorem stp_last (j h : Fin 8) : stp (lastOf j h) = visit 7 j := Fin.ext (by rw [step_coords]; show (36 * h.val + (visit 7 j).val) % 36 = _; omega)

theorem moved_of {t t' : Fin grid0.N} (hq : qb (stp t) = 7) (e : t'.val = t.val + 1) : ¬ kb (stp t') = kb (stp t) := by
  have hl := lt_288 t'
  by_cases h : t.val % 36 = 35
  · exact kb_ends _ _ (by rw [step_coords]; exact h) (by rw [step_coords]; omega)
  · exact kb_moves _ _ hq (by rw [step_coords, step_coords]; omega)

theorem vec2 {a b a' b' : ℕ} (h : (![a, b] : Fin 2 → ℕ) = ![a', b']) : a = a' := congrFun h 0

theorem last8 (j h : Fin 8) : ((cfgA (F := Ideal)).win 8).flush (lastOf j h) = true :=
  flush_moved rfl fun t' e hi => by
    rw [idx8, idx8] at hi
    exact moved_of (by rw [stp_last]; exact (visit_last j).1) e (Fin.ext (vec2 hi))

theorem last9 (j h : Fin 8) : ((cfgA (F := Ideal)).win 9).flush (lastOf j h) = true :=
  flush_moved rfl fun t' e hi => by
    rw [idx9, idx9] at hi
    exact moved_of (by rw [stp_last]; exact (visit_last j).1) e (Fin.ext (vec2 hi))

theorem last7 (h : Fin 8) : ((cfgA (F := Ideal)).win 7).flush (lastOf 7 h) = true :=
  flush_moved rfl fun t' e hi => by
    rw [idx7, idx7] at hi
    have h' : (hd t').val = (hd (lastOf 7 h)).val := congrFun hi 0
    have e' : t'.val = 36 * h.val + (visit 7 7).val + 1 := e
    have ev : (visit 7 7).val = 35 := by decide +kernel
    have hl := lt_288 t'
    rw [hd_last, head_coords] at h'
    omega

theorem emb7 (t : Fin grid0.N) (i : Fin 8) (x : Fin 128) (b : Fin 1024) :
    (((cfgA (F := Ideal)).win 7).blk t).view.emb (ix4 0 i x b) = (ix4 (hd t) i x b : S8x8x128x1024.Idx) := by
  refine funext fun a => Fin.ext ?_
  refine (Window.rect_emb_val ((cfgA (F := Ideal)).win 7) t (ix4 0 i x b) a rfl).trans ?_
  rw [idx7]
  match a with
  | ⟨0, _⟩ => show (hd t).val * 1 + 0 = (hd t).val; omega
  | ⟨1, _⟩ => show 0 * 8 + i.val = i.val; omega
  | ⟨2, _⟩ => show 0 * 128 + x.val = x.val; omega
  | ⟨3, _⟩ => show 0 * 1024 + b.val = b.val; omega

theorem emb8 (t : Fin grid0.N) (a : Fin 1024) (x : Fin 128) :
    (((cfgA (F := Ideal)).win 8).blk t).view.emb (ix2 a x) = (ix2 (row (kb (stp t)) a) (lane (hd t) x) : S8192x1024.Idx) := by
  refine funext fun b => Fin.ext ?_
  refine (Window.rect_emb_val ((cfgA (F := Ideal)).win 8) t (ix2 a x) b rfl).trans ?_
  rw [idx8]
  match b with
  | ⟨0, _⟩ => show (kb (stp t)).val * 1024 + a.val = 1024 * (kb (stp t)).val + a.val; omega
  | ⟨1, _⟩ => rfl

theorem emb9 (t : Fin grid0.N) (a : Fin 1024) (x : Fin 128) :
    (((cfgA (F := Ideal)).win 9).blk t).view.emb (ix2 a x) = (ix2 (row (kb (stp t)) a) (lane (hd t) x) : S8192x1024.Idx) := by
  refine funext fun b => Fin.ext ?_
  refine (Window.rect_emb_val ((cfgA (F := Ideal)).win 9) t (ix2 a x) b rfl).trans ?_
  rw [idx9]
  match b with
  | ⟨0, _⟩ => show (kb (stp t)).val * 1024 + a.val = 1024 * (kb (stp t)).val + a.val; omega
  | ⟨1, _⟩ => rfl

/-- Every index of the keys' gradient, as a block's row and a head's lane. -/
theorem idx_rows (i : S8192x1024.Idx) : ∃ (j h : Fin 8) (a : Fin 1024) (x : Fin 128), i = ix2 (row j a) (lane h x) := by
  have e0 : (i 0).val < 8192 := (i 0).isLt
  have e1 : (i 1).val < 1024 := (i 1).isLt
  refine ⟨⟨(i 0).val / 1024, by omega⟩, ⟨(i 1).val / 128, by omega⟩, ⟨(i 0).val % 1024, by omega⟩, ⟨(i 1).val % 128, by omega⟩, funext fun b => Fin.ext ?_⟩
  match b with
  | ⟨0, _⟩ => show (i 0).val = 1024 * ((i 0).val / 1024) + (i 0).val % 1024; omega
  | ⟨1, _⟩ => show (i 1).val = (i 1).val / 128 * 128 + (i 1).val % 128; omega

theorem idx_square (y : S1024x128.Idx) : ∃ a x, y = ix2 a x := ⟨y 0, y 1, funext fun b => match b with | ⟨0, _⟩ => rfl | ⟨1, _⟩ => rfl⟩
theorem idx_slabs (y : S1x8x128x1024.Idx) : ∃ i x b, y = ix4 0 i x b := ⟨y 1, y 2, y 3, funext fun b => match b with
  | ⟨0, _⟩ => Fin.ext (by have : (y 0).val < 1 := (y 0).isLt; show (y 0).val = 0; omega)
  | ⟨1, _⟩ => rfl | ⟨2, _⟩ => rfl | ⟨3, _⟩ => rfl⟩
theorem idx_heads (y : S8x8x128x1024.Idx) : ∃ h i x b, y = ix4 h i x b := ⟨y 0, y 1, y 2, y 3, funext fun b => match b with
  | ⟨0, _⟩ => rfl | ⟨1, _⟩ => rfl | ⟨2, _⟩ => rfl | ⟨3, _⟩ => rfl⟩

section
variable (q k : Fin 8192 → Fin 8 → Fin 96 → ℝ) (v o : Fin 8192 → Fin 8 → Fin 64 → ℝ)

theorem total_q (i h : Fin 8) (x : Fin 128) (b : Fin 1024) :
    ∑ n : Fin 36, (if qb n = i then cQ q k v o i (kb n) h x b else 0) = ext (GQ q k v o (row i b) h) x := by
  rw [sum_q (f := fun j => cQ q k v o i j h x b) fun j hj => Finset.sum_eq_zero fun a _ => by rw [DSx_dead q k v o h (row_dead hj a b), mul_zero]]
  have e : GQ q k v o (row i b) h = fun d => ∑ j, DSx q k v o h (row i b) j * k j h d := rfl
  rw [e, ext_sum, sum_rows]
  refine Finset.sum_congr rfl fun j _ => Finset.sum_congr rfl fun a _ => ?_
  rw [ext_mul, mul_comm]

theorem total_k (j h : Fin 8) (a : Fin 1024) (x : Fin 128) :
    ∑ n : Fin 36, (if kb n = j then cK q k v o (qb n) j h a x else 0) = ext (GK q k v o (row j a) h) x := by
  rw [sum_k (f := fun i => cK q k v o i j h a x) fun i hi => Finset.sum_eq_zero fun b _ => by rw [DSx_dead q k v o h (row_dead hi a b), zero_mul]]
  have e : GK q k v o (row j a) h = fun d => ∑ p, DSx q k v o h p (row j a) * q p h d := rfl
  rw [e, ext_sum, sum_rows]
  refine Finset.sum_congr rfl fun i _ => Finset.sum_congr rfl fun b _ => ?_
  rw [ext_mul]

theorem total_v (j h : Fin 8) (a : Fin 1024) (x : Fin 128) :
    ∑ n : Fin 36, (if kb n = j then cV q k o (qb n) j h a x else 0) = ext (GV q k o (row j a) h) x := by
  rw [sum_k (f := fun i => cV q k o i j h a x) fun i hi => Finset.sum_eq_zero fun b _ => by rw [Px_dead q k h (row_dead hi a b), zero_mul]]
  have e : GV q k o (row j a) h = fun d => ∑ p, Px q k h p (row j a) * o p h d := rfl
  rw [e, ext_sum, sum_rows]
  refine Finset.sum_congr rfl fun i _ => Finset.sum_congr rfl fun b _ => ?_
  rw [ext_mul]
end

section
variable {m : (ℓ : Loc nD τ sig) → Buf (Elt Ideal) ℓ} {c : Dev nD}
  {q k : Fin 8192 → Fin 8 → Fin 96 → ℝ} {v o : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal)) (h3 : ∀ p h d, a3 m c (ix3 0 p (col h d)) = ((o p h d : ℝ) : EReal))

include h0 h1 h2 h3 in
/-- The queries' gradient. -/
theorem final7 (G : Vec Ideal S8x8x128x1024 .f32) (hG : ∀ h i x b, G (ix4 h i x b) = ((ext (GQ q k v o (row i b) h) x : ℝ) : EReal)) :
    (dats m 0 c).arrAt 7 (cfgA (F := Ideal)).N = G := by
  refine (dats m 0 c).arrAt_eq_of_emb 7 G (fun t hf y => ?_) fun i => ?_
  · obtain ⟨i, x, b, rfl⟩ := idx_slabs y
    rw [emb7, hG]
    have hi := inv_all h0 h1 h2 h3 t.val (lt_288 t) t rfl
    refine (hi.dq i x b).trans (congrArg _ ?_)
    have hs : (stp t).val = 35 := (step_coords t).trans (flush7 hf)
    rw [hs, sum_upTo_all]
    exact total_q q k v o i (hd t) x b
  · obtain ⟨h, i, x, b, rfl⟩ := idx_heads i
    refine ⟨lastOf 7 h, last7 h, ?_⟩
    have e := emb7 (lastOf 7 h) i x b
    rw [hd_last] at e
    rw [← e]
    exact View.emb_mem_set _ _

include h0 h1 h2 h3 in
/-- The keys'. -/
theorem final8 (G : Vec Ideal S8192x1024 .f32) (hG : ∀ p h x, G (ix2 p (lane h x)) = ((ext (GK q k v o p h) x : ℝ) : EReal)) :
    (dats m 0 c).arrAt 8 (cfgA (F := Ideal)).N = G := by
  refine (dats m 0 c).arrAt_eq_of_emb 8 G (fun t hf y => ?_) fun i => ?_
  · obtain ⟨a, x, rfl⟩ := idx_square y
    rw [emb8, hG]
    have hi := inv_all h0 h1 h2 h3 t.val (lt_288 t) t rfl
    refine (hi.dk a x).trans (congrArg _ ?_)
    rw [sum_last (f := fun i => cK q k v o i (kb (stp t)) (hd t) a x) (flush8 hf)]
    exact total_k q k v o (kb (stp t)) (hd t) a x
  · obtain ⟨j, h, a, x, rfl⟩ := idx_rows i
    refine ⟨lastOf j h, last8 j h, ?_⟩
    have e := emb8 (lastOf j h) a x
    rw [hd_last, stp_last, (visit_last j).2] at e
    rw [← e]
    exact View.emb_mem_set _ _

include h0 h1 h2 h3 in
/-- The values'. -/
theorem final9 (G : Vec Ideal S8192x1024 .f32) (hG : ∀ p h x, G (ix2 p (lane h x)) = ((ext (GV q k o p h) x : ℝ) : EReal)) :
    (dats m 0 c).arrAt 9 (cfgA (F := Ideal)).N = G := by
  refine (dats m 0 c).arrAt_eq_of_emb 9 G (fun t hf y => ?_) fun i => ?_
  · obtain ⟨a, x, rfl⟩ := idx_square y
    rw [emb9, hG]
    have hi := inv_all h0 h1 h2 h3 t.val (lt_288 t) t rfl
    refine (hi.dv a x).trans (congrArg _ ?_)
    rw [sum_last (f := fun i => cV q k o i (kb (stp t)) (hd t) a x) (flush9 hf)]
    exact total_v q k o (kb (stp t)) (hd t) a x
  · obtain ⟨j, h, a, x, rfl⟩ := idx_rows i
    refine ⟨lastOf j h, last9 j h, ?_⟩
    have e := emb9 (lastOf j h) a x
    rw [hd_last, stp_last, (visit_last j).2] at e
    rw [← e]
    exact View.emb_mem_set _ _
end

end Cert.KernelIdeal.Attn

end
-- ==== Proof.Val.Ref.lean ====
/- The reference's operations over real arguments, read at an index. -/
module

public import proofs.«01_k».proof.Proof.Gen.ReferenceIdeal.Read
public import proofs.«01_k».proof.Proof.Val.HostReal

@[expose] public section

set_option maxRecDepth 16384

noncomputable section

namespace Cert.ReferenceIdeal.Attn

open Cert.ReferenceIdeal Cert.ReferenceIdeal.Gen Cert.ReferenceIdeal.Read
open Cert.KernelIdeal.Attn
open Idealize.ShloMosaic TcCoe Pointwise Tactic
open Idealize.SL.Sem

variable {q k : Fin 8192 → Fin 8 → Fin 96 → ℝ} {v o : Fin 8192 → Fin 8 → Fin 64 → ℝ}
  {x0 x1 : FVec Ideal S1x8192x8x96 .f32} {x2 : FVec Ideal S1x8192x8x64 .f32} {x3 : FVec Ideal S1x8192x512 .f32}

theorem ofBits_one : Ideal.ofBits .f32 0x3F800000#32 = ((1 : ℝ) : EReal) := by
  simp [Ideal.ofBits, Ideal.ieee, -EReal.coe_mul]; norm_num

section
variable (h0 : ∀ p h d, x0 (ix4 0 p h d) = ((q p h d : ℝ) : EReal)) (h1 : ∀ p h d, x1 (ix4 0 p h d) = ((k p h d : ℝ) : EReal))
include h0 h1

theorem r7 (h : Fin 8) (p j : Fin 8192) : val_main_v7 (F := Ideal) x0 x1 (ix4 0 h p j) = scE q k h p j := by
  pointwise [val_main_v7, val_main_v5, val_main_v3, val_main_v4, val_main_v2, val_main_v0, val_main_v1, val_main_cst, val_main_v6, val_main_cst_0]
  simp only [h0, h1, ofBits_scl, ofBits_ninf, ← EReal.coe_mul, ← coe_sum, sle_iota]
  exact select_sle j p _ _

theorem r9 (h : Fin 8) (p : Fin 8192) : (val_main_v9 (F := Ideal) x0 x1 (ix3 0 h p) : EReal) = ((Mx q k h p : ℝ) : EReal) := by
  pointwise [val_main_v9, val_main_cst_2]
  simp only [r7 h0 h1, ofBits_ninf]
  exact coe_Mx q k h p

theorem r16 (h : Fin 8) (p : Fin 8192) : val_main_v16 (F := Ideal) x0 x1 (ix3 0 h p) = ((Mx q k h p : ℝ) : EReal) := by
  rw [val_main_v16_apply, val_main_v15_apply, val_main_cst_4_apply, r9 h0 h1]
  show max (Ideal.ofBits .f32 0xFF800000#32) ((Mx q k h p : ℝ) : EReal) = _
  rw [ofBits_ninf]
  exact max_eq_right bot_le

theorem r29 (h : Fin 8) (p j : Fin 8192) : val_main_v29 (F := Ideal) x0 x1 (ix4 0 h p j) = ((Ex q k h p j : ℝ) : EReal) := by
  pointwise [val_main_v29, val_main_v28, val_main_v27, val_main_v26]
  simp only [r7 h0 h1, r16 h0 h1]
  exact exp_scE h p j

theorem r31 (h : Fin 8) (p : Fin 8192) : val_main_v31 (F := Ideal) x0 x1 (ix4 0 h p 0) = ((Lx q k h p : ℝ) : EReal) := by
  pointwise [val_main_v31, val_main_v30, val_main_cst_10]
  simp only [r29 h0 h1, ← coe_sum, zero_add]
  rfl

theorem r33 (h : Fin 8) (p j : Fin 8192) : val_main_v33 (F := Ideal) x0 x1 (ix4 0 h p j) = ((Px q k h p j : ℝ) : EReal) := by
  pointwise [val_main_v33, val_main_v32]
  simp only [r29 h0 h1, r31 h0 h1]
  exact coe_div _ (Lx_pos q k h p).ne'

theorem r36 (h : Fin 8) (p : Fin 8192) : val_main_v36 (F := Ideal) x0 x1 (ix4 0 h p 0) = ((1 / (Lx q k h p * Lx q k h p) : ℝ) : EReal) := by
  pointwise [val_main_v36, val_main_v35, val_main_v34, val_main_cst_11]
  simp only [r31 h0 h1, ofBits_one, ← EReal.coe_mul]
  rw [one_div]
  exact (coe_div 1 (mul_pos (Lx_pos q k h p) (Lx_pos q k h p)).ne').trans (by rw [one_mul])
end

section
variable (h2 : ∀ p h d, x2 (ix4 0 p h d) = ((v p h d : ℝ) : EReal)) (h3 : ∀ p h d, x3 (ix3 0 p (col h d)) = ((o p h d : ℝ) : EReal))
include h3

theorem r41 (h : Fin 8) (d : Fin 64) (p : Fin 8192) : val_main_v41 (F := Ideal) x3 (ix4 0 h d p) = ((o p h d : ℝ) : EReal) := by
  pointwise [val_main_v41, val_main_v40]
  exact h3 p h d

include h2
theorem r42 (h : Fin 8) (p j : Fin 8192) : val_main_v42 (F := Ideal) x2 x3 (ix4 0 h p j) = ((DPx v o h p j : ℝ) : EReal) := by
  pointwise [val_main_v42]
  simp only [r41 h3, h2, ← EReal.coe_mul, ← coe_sum]
  exact congrArg _ (Finset.sum_congr rfl fun d _ => mul_comm _ _)
end

section
variable (h0 : ∀ p h d, x0 (ix4 0 p h d) = ((q p h d : ℝ) : EReal)) (h1 : ∀ p h d, x1 (ix4 0 p h d) = ((k p h d : ℝ) : EReal))
  (h2 : ∀ p h d, x2 (ix4 0 p h d) = ((v p h d : ℝ) : EReal)) (h3 : ∀ p h d, x3 (ix3 0 p (col h d)) = ((o p h d : ℝ) : EReal))
include h0 h1 h3

theorem r43 (h : Fin 8) (d : Fin 64) (j : Fin 8192) : val_main_v43 (F := Ideal) x0 x1 x3 (ix4 0 h d j) = ((GV q k o j h d : ℝ) : EReal) := by
  pointwise [val_main_v43]
  simp only [r33 h0 h1, r41 h3, ← EReal.coe_mul, ← coe_sum]
  exact congrArg _ (Finset.sum_congr rfl fun p _ => mul_comm _ _)

include h2

theorem r50 (h : Fin 8) (p : Fin 8192) : val_main_v50 (F := Ideal) x0 x1 x2 x3 (ix4 0 h p 0)
    = ((-(∑ j, DPx v o h p j * (1 / (Lx q k h p * Lx q k h p)) * Ex q k h p j) : ℝ) : EReal) := by
  pointwise [val_main_v50, val_main_v49, val_main_v48, val_main_cst_12, val_main_v47, val_main_v46, val_main_v45]
  simp only [r42 h2 h3, r36 h0 h1, r29 h0 h1, ← EReal.coe_mul, ← coe_sum, zero_add]
  rw [← EReal.coe_neg]

omit h0 h1 h2 h3 in
/-- A sum over two axes of one position each. -/
theorem sum_ones (y : FVec Ideal S1x8x8192x1 .f32) (z : FVec Ideal S_ .f32) (hz : z (Shape.Idx.first h_S_) = 0) (h : Fin 8) (p : Fin 8192) :
    Host.reduceAdd y z reducesTo_S1x8x8192x1_S8x8192_d0_3 h_S_ (ix2 h p) = y (ix4 0 h p 0) := by
  show Ideal.hostReduceAdd reducesTo_S1x8x8192x1_S8x8192_d0_3 y (z (Shape.Idx.first h_S_)) (ix2 h p) = _
  unfold Ideal.hostReduceAdd
  rw [hz, zero_add]
  refine (Finset.sum_congr (Finset.ext fun i => ?_) fun _ _ => rfl).trans (Finset.sum_singleton y (ix4 0 h p 0))
  rw [Finset.mem_filter, Finset.mem_singleton]
  have e1 : (reducesTo_S1x8x8192x1_S8x8192_d0_3.drop i 0).val = (i 1).val := Shape.ReducesTo.drop_apply_val _ i 0
  have e2 : (reducesTo_S1x8x8192x1_S8x8192_d0_3.drop i 1).val = (i 2).val := Shape.ReducesTo.drop_apply_val _ i 1
  constructor
  · rintro ⟨-, e⟩
    rw [e] at e1 e2
    refine funext fun a => Fin.ext ?_
    match a with
    | ⟨0, _⟩ => have := (i 0).isLt; show (i 0).val = 0; have : (i 0).val < 1 := (i 0).isLt; omega
    | ⟨1, _⟩ => exact e1.symm
    | ⟨2, _⟩ => exact e2.symm
    | ⟨3, _⟩ => show (i 3).val = 0; have : (i 3).val < 1 := (i 3).isLt; omega
  · rintro rfl
    refine ⟨Finset.mem_univ _, funext fun a => Fin.ext ?_⟩
    match a with
    | ⟨0, _⟩ => exact e1
    | ⟨1, _⟩ => exact e2

theorem r53 (h : Fin 8) (p : Fin 8192) : val_main_v53 (F := Ideal) x0 x1 x2 x3 (ix2 h p)
    = ((-(∑ j, DPx v o h p j * (1 / (Lx q k h p * Lx q k h p)) * Ex q k h p j) : ℝ) : EReal) := by
  unfold val_main_v53
  rw [sum_ones _ _ (show (val_main_cst_13 (F := Ideal) (Shape.Idx.first h_S_) : EReal) = 0 from Ideal.ofBits_zero_f32)]
  exact r50 h0 h1 h2 h3 h p

theorem r61 (h : Fin 8) (p j : Fin 8192) : val_main_v61 (F := Ideal) x0 x1 x2 x3 (ix4 0 h p j) = ((DSx q k v o h p j : ℝ) : EReal) := by
  pointwise [val_main_v61, val_main_v60, val_main_cst_15, val_main_v59, val_main_v5, val_main_v3, val_main_v4, val_main_v58, val_main_cst_14, val_main_v57, val_main_v56,
    val_main_v55, val_main_v54, val_main_v52, val_main_v51]
  simp only [r42 h2 h3, r31 h0 h1, r29 h0 h1, r53 h0 h1 h2 h3, ofBits_scl, sle_iota]
  rw [coe_div _ (Lx_pos q k h p).ne', ← EReal.coe_add, ← EReal.coe_mul]
  rw [← EReal.coe_mul, ← DSx_quot q k v o h p j]
  refine (select_sle j p _ _).trans ?_
  by_cases hj : j ≤ p
  · rw [if_pos hj, if_pos hj]
    simp only [one_div]
  · rw [if_neg hj, if_neg hj, zero_mul]; rfl

theorem r62 (h : Fin 8) (j : Fin 8192) (d : Fin 96) : val_main_v62 (F := Ideal) x0 x1 x2 x3 (ix4 0 h j d) = ((GK q k v o j h d : ℝ) : EReal) := by
  pointwise [val_main_v62]
  simp only [r61 h0 h1 h2 h3, h0, ← EReal.coe_mul, ← coe_sum]
  rfl

theorem r64 (h : Fin 8) (p : Fin 8192) (d : Fin 96) : val_main_v64 (F := Ideal) x0 x1 x2 x3 (ix4 0 h p d) = ((GQ q k v o p h d : ℝ) : EReal) := by
  pointwise [val_main_v64]
  simp only [r61 h0 h1 h2 h3, h1, ← EReal.coe_mul, ← coe_sum]
  rfl

theorem r73 (h i : Fin 8) (x : Fin 128) (b : Fin 1024) : val_main_v73 (F := Ideal) x0 x1 x2 x3 (ix4 h i x b) = ((ext (GQ q k v o (row i b) h) x : ℝ) : EReal) := by
  pointwise [val_main_v73, val_main_v72, val_main_v67, val_main_cst_16, val_main_v66, val_main_v65]
  have e : (⟨i.val * 1024 + b.val, by omega⟩ : Fin 8192) = row i b := Fin.ext (show i.val * 1024 + b.val = 1024 * i.val + b.val by omega)
  unfold ext
  by_cases hx : x.val < 96
  · rw [dif_pos hx, dif_pos ⟨by omega, hx⟩]
    exact (congrArg (fun r => val_main_v64 (F := Ideal) x0 x1 x2 x3 (ix4 0 h r ⟨x.val, hx⟩)) e).trans
      (r64 h0 h1 h2 h3 h (row i b) ⟨x.val, hx⟩)
  · rw [dif_neg hx, dif_neg fun hh => hx hh.2]; rfl

theorem r74 (p : Fin 8192) (h : Fin 8) (x : Fin 128) : val_main_v74 (F := Ideal) x0 x1 x2 x3 (ix2 p (lane h x)) = ((ext (GK q k v o p h) x : ℝ) : EReal) := by
  pointwise [val_main_v74, val_main_v69, val_main_cst_17, val_main_v68, val_main_v63]
  exact dite_ext (f := fun h d => val_main_v62 (F := Ideal) x0 x1 x2 x3 (ix4 0 h p d)) (fun h d => r62 h0 h1 h2 h3 h p d) h x

omit h2 in
theorem r75 (p : Fin 8192) (h : Fin 8) (x : Fin 128) : val_main_v75 (F := Ideal) x0 x1 x3 (ix2 p (lane h x)) = ((ext (GV q k o p h) x : ℝ) : EReal) := by
  pointwise [val_main_v75, val_main_v71, val_main_cst_18, val_main_v70, val_main_v44]
  exact dite_ext (f := fun h d => val_main_v43 (F := Ideal) x0 x1 x3 (ix4 0 h d p)) (fun h d => r43 h0 h1 h3 h d p) h x

end

end Cert.ReferenceIdeal.Attn

end
-- ==== Proof.Val.Algebraic.lean ====
/- The gradient kernel and the reference end with the same three gradients, from finite arguments. -/
module

public import proofs.«01_k».proof.Defs
public import proofs.«01_k».proof.Proof.Val.Final
public import proofs.«01_k».proof.Proof.Val.Ref
public import proofs.«01_k».proof.Proof.Gen.Pre_finite
public import proofs.«01_k».proof.Proof.Gen.ReferenceIdeal.Run
public import proofs.«01_k».proof.Proof.Gen.ReferenceIdeal.Read
public import Idealize.ShloMosaic.Lib.ReduceAll

@[expose] public section

set_option maxRecDepth 16384

noncomputable section

namespace Cert.Proof.Claims

open Idealize.ShloMosaic TcCoe Pointwise Idealize.SL.Sem
open Cert.KernelIdeal.Attn

theorem ofBits_pinf : Ideal.ofBits .f32 0x7F800000#32 = (⊤ : EReal) := by
  simp [Ideal.ofBits, Ideal.ieee]

theorem ofBool_one {p : Prop} [Decidable p] (h : BitVec.ofBool (decide p) = 1#1) : p := by
  by_contra hn
  rw [decide_eq_false hn] at h
  exact absurd h (by decide)

/-- A number between the infinities is a real. -/
theorem real_of_cmp {x : EReal} (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : x = ((x.toReal : ℝ) : EReal) := by
  obtain ⟨h1, h2⟩ := IntOp.andi_eq_one.1 h
  rw [ofBits_ninf] at h1
  rw [ofBits_pinf] at h2
  have b1 : (⊥ : EReal) < x := ofBool_one h1
  have b2 : x < (⊤ : EReal) := ofBool_one h2
  exact (EReal.coe_toReal (ne_of_lt b2) (ne_of_gt b1)).symm

instance : Subsingleton Cert.Pre_finite.S_.Idx := ⟨fun _ _ => funext fun a => a.elim0⟩

section
open Cert.Pre_finite
/-- What the precondition says: every entry of the four arguments is a real number. -/
theorem finite_reads (x0 x1 : FVec Ideal S1x8192x8x96 .f32) (x2 : FVec Ideal S1x8192x8x64 .f32) (x3 : FVec Ideal S1x8192x512 .f32)
    (h : Cert.Pre_finite.fn (F := Ideal) x0 x1 x2 x3 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) ∧ (∀ i, (x3 i : EReal) = (((x3 i : EReal).toReal : ℝ) : EReal)) := by
  have e := congrFun h (fun a => a.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i), fun i => real_of_cmp (Host.reduce_andi_all _ _ _ _ _ e3 i)⟩
end

theorem algebraic : Cert.algebraic_KernelIdeal_ReferenceIdeal_pre_finite := by
  intro m g m' g' hpre hargs
  refine ⟨fun c => Cert.ReferenceIdeal.Read.val_main_v73 (F := Ideal) (a0 m c) (a1 m c) (a2 m c) (a3 m c),
    fun c => Cert.ReferenceIdeal.Read.val_main_v74 (F := Ideal) (a0 m c) (a1 m c) (a2 m c) (a3 m c),
    fun c => Cert.ReferenceIdeal.Read.val_main_v75 (F := Ideal) (a0 m c) (a1 m c) (a3 m c), ?_, ?_⟩
  · refine (θ_run Cert.KernelIdeal.defs _ _).mono (fun r h c => ?_) (run_main m g)
    obtain ⟨f0, f1, f2, f3⟩ := finite_reads _ _ _ _ (hpre c)
    have h0 : ∀ p h d, a0 m c (ix4 0 p h d) = (((a0 m c (ix4 0 p h d) : EReal).toReal : ℝ) : EReal) := fun p h d => f0 _
    have h1 : ∀ p h d, a1 m c (ix4 0 p h d) = (((a1 m c (ix4 0 p h d) : EReal).toReal : ℝ) : EReal) := fun p h d => f1 _
    have h2 : ∀ p h d, a2 m c (ix4 0 p h d) = (((a2 m c (ix4 0 p h d) : EReal).toReal : ℝ) : EReal) := fun p h d => f2 _
    have h3 : ∀ p h d, a3 m c (ix3 0 p (col h d)) = (((a3 m c (ix3 0 p (col h d)) : EReal).toReal : ℝ) : EReal) := fun p h d => f3 _
    refine ⟨((h.1 c).1 7).trans ?_, ((h.1 c).1 8).trans ?_, ((h.1 c).1 9).trans ?_, ?_⟩
    · exact final7 h0 h1 h2 h3 _ (Cert.ReferenceIdeal.Attn.r73 h0 h1 h2 h3)
    · exact final8 h0 h1 h2 h3 _ (Cert.ReferenceIdeal.Attn.r74 h0 h1 h2 h3)
    · exact final9 h0 h1 h2 h3 _ (Cert.ReferenceIdeal.Attn.r75 h0 h1 h3)
    · exact ⟨((h.1 c).2 Cert.KernelIdeal.main_arg0 (Pipeline.mem_restRefs_of Cert.KernelIdeal.main_arg0 (by decide) (show ∀ w : Fin 10, (Cert.KernelIdeal.spec0 w).arr.view.ref ≠ Cert.KernelIdeal.main_arg0 by decide))).trans (V_arg0 m c),
        ((h.1 c).2 Cert.KernelIdeal.main_arg1 (Pipeline.mem_restRefs_of Cert.KernelIdeal.main_arg1 (by decide) (show ∀ w : Fin 10, (Cert.KernelIdeal.spec0 w).arr.view.ref ≠ Cert.KernelIdeal.main_arg1 by decide))).trans (V_arg1 m c),
        ((h.1 c).2 Cert.KernelIdeal.main_arg2 (Pipeline.mem_restRefs_of Cert.KernelIdeal.main_arg2 (by decide) (show ∀ w : Fin 10, (Cert.KernelIdeal.spec0 w).arr.view.ref ≠ Cert.KernelIdeal.main_arg2 by decide))).trans (V_arg2 m c),
        ((h.1 c).2 Cert.KernelIdeal.main_arg3 (Pipeline.mem_restRefs_of Cert.KernelIdeal.main_arg3 (by decide) (show ∀ w : Fin 10, (Cert.KernelIdeal.spec0 w).arr.view.ref ≠ Cert.KernelIdeal.main_arg3 by decide))).trans (V_arg3 m c)⟩
  · refine (θ_run Cert.ReferenceIdeal.defs _ _).mono (fun r h c => ?_) (Cert.ReferenceIdeal.Value.run (F := Ideal) m' g')
    obtain ⟨q0, q1, q2, q3⟩ := hargs c
    obtain ⟨e73, e74, e75, eargs⟩ := h c
    refine ⟨e73.trans ((Cert.ReferenceIdeal.Read.val_main_v73_eq m' c).trans ?_), e74.trans ((Cert.ReferenceIdeal.Read.val_main_v74_eq m' c).trans ?_),
      e75.trans ((Cert.ReferenceIdeal.Read.val_main_v75_eq _ _ _).trans ?_), eargs⟩
    · rw [q0, q1, q2, q3]
    · rw [q0, q1, q2, q3]
    · rw [q0, q1, q3]

end Cert.Proof.Claims

end
-- ==== Proof.FI.Tables.lean ====
/- The two prefetched tables of the attention kernel: entry `n` of the first is the block of queries that step `n` of a
   head visits, entry `n` of the second the block of keys. This module reads the index maps and the kernel's branch conditions
   off them. -/
module

public import proofs.«01_k».proof.Proof.Gen.Kernel11Ideal.Launch
public import proofs.«01_k».proof.Proof.Gen.Kernel11Ideal.Skeleton
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.Kernel11Ideal.Attn

open Gen
open Idealize.ShloMosaic TcCoe Tactic
open Pipeline (Dat Cfg Window BodyObligation cellOf)

variable {F : FTy → Type} [FloatOps F] [Named F]

/-- The block of queries step `n` of a head visits. -/
abbrev qb (n : Fin 36) : Fin 8 :=
  ![0, 1, 1, 2, 2, 2, 3, 3, 3, 3, 4, 4, 4, 4, 4, 5, 5, 5, 5, 5, 5, 6, 6, 6, 6, 6, 6, 6, 7, 7, 7, 7, 7, 7, 7, 7] n

/-- The block of keys step `n` of a head visits. -/
abbrev kb (n : Fin 36) : Fin 8 :=
  ![0, 0, 1, 0, 1, 2, 0, 1, 2, 3, 0, 1, 2, 3, 4, 0, 1, 2, 3, 4, 5, 0, 1, 2, 3, 4, 5, 6, 0, 1, 2, 3, 4, 5, 6, 7] n

theorem lit0_toNat (n : Fin 36) : (lit0 n).toNat = (qb n).val := by
  revert n; decide +kernel

theorem lit1_toNat (n : Fin 36) : (lit1 n).toNat = (kb n).val := by
  revert n; decide +kernel

/-- The kernel's test for a first block of keys, -/
abbrev isFirst (w : BitVec 32) : BitVec 1 := Scalar.cmpi .ne (Scalar.extui (Scalar.cmpi .eq w 0#32) : BitVec 32) 0#32

/-- whether the last key of a block comes no later than the first query, -/
abbrev past (v w : BitVec 32) : BitVec 1 := Scalar.cmpi .sle (Scalar.subi (Scalar.addi (Scalar.muli w 1024#32) 1024#32) 1#32) (Scalar.muli v 1024#32)

/-- the test for the branch without a mask, -/
abbrev isFull (v w : BitVec 32) : BitVec 1 := Scalar.cmpi .ne (Scalar.extui (past v w) : BitVec 32) 0#32

/-- and the one for the branch with it. -/
abbrev isDiag (v w : BitVec 32) : BitVec 1 := Scalar.cmpi .ne (Scalar.extui (Scalar.xori (past v w) 1#1) : BitVec 32) 0#32

/-- A step resets what it carries at the first block of keys, -/
theorem first_iff (n : Fin 36) : isFirst (lit1 n) = 1#1 ↔ (kb n).val = 0 := by
  revert n; decide +kernel

/-- takes the branch without a mask off the diagonal, -/
theorem full_iff (n : Fin 36) : isFull (lit0 n) (lit1 n) = 1#1 ↔ ¬ qb n = kb n := by
  revert n; decide +kernel

/-- the branch with it on the diagonal, -/
theorem diag_iff (n : Fin 36) : isDiag (lit0 n) (lit1 n) = 1#1 ↔ qb n = kb n := by
  revert n; decide +kernel

/-- and writes its outputs there. -/
theorem last_iff (n : Fin 36) : k0_cond4 (lit0 n) (lit1 n) = 1#1 ↔ qb n = kb n := by
  revert n; decide +kernel

/-- The tables' contents. -/
def tabs : pre0.Contents (Elt F) := fun k => match k with
  | ⟨0, _⟩ => fun i => lit0 (S36.rowMajor i)
  | ⟨1, _⟩ => fun i => lit1 (S36.rowMajor i)

end Cert.Kernel11Ideal.Attn

end
-- ==== Proof.FI.Maps.lean ====
/- The index maps of the attention kernel's windows at its tables, and the admissibility of the tables. -/
module

public import proofs.«01_k».proof.Proof.FI.Tables

@[expose] public section

set_option maxRecDepth 16384

noncomputable section

namespace Cert.Kernel11Ideal.Attn

open Gen
open Idealize.ShloMosaic TcCoe Tactic
open Pipeline (Dat Cfg Window BodyObligation cellOf)

variable {F : FTy → Type} [FloatOps F] [Named F]

/-- A step's number within its head. -/
abbrev stepOf (i : grid0.Coords) : Fin 36 := i 1

/-- Its head. -/
abbrev headOf (i : grid0.Coords) : Fin 8 := i 0

theorem off1_eq (i : grid0.Coords) : k0_off1 i = ![(stepOf i).val] := by
  have h : (i 1).val < 36 := (i 1).isLt
  unfold k0_off1
  simp only [Scalar.indexCast, BitVec.toNat_ofNat]
  rw [Nat.mod_eq_of_lt (by omega)]

theorem word_head (i : grid0.Coords) : (BitVec.ofNat 32 (i 0).val).toNat = (headOf i).val := by
  have h : (i 0).val < 8 := (i 0).isLt
  simp only [BitVec.toNat_ofNat]
  exact Nat.mod_eq_of_lt (by omega)

theorem lit0_at {y : S36.Idx} {n : Fin 36} (h : (y 0).val = n.val) : lit0 (S36.rowMajor y) = lit0 n := by
  have e : S36.rowMajor y = n := Fin.ext ((Shape.rowMajor_val_one y).trans h)
  exact congrArg lit0 e

theorem lit1_at {y : S36.Idx} {n : Fin 36} (h : (y 0).val = n.val) : lit1 (S36.rowMajor y) = lit1 n := by
  have e : S36.rowMajor y = n := Fin.ext ((Shape.rowMajor_val_one y).trans h)
  exact congrArg lit1 e

theorem off1_zero (i : grid0.Coords) : k0_off1 i 0 = (stepOf i).val := by
  rw [off1_eq]; rfl

theorem emb_zero (i : grid0.Coords) : ((Rect.unit (s := S36) (k0_off1 i) S1.size (k0_off1_inb i)).emb
    (Shape.Idx.first (numel1_S1.symm ▸ Nat.one_pos)) 0).val = (stepOf i).val := by
  show k0_off1 i 0 + 1 * 0 = _
  rw [off1_zero]; omega

/-- A read of the first table at a step: its block of queries. -/
theorem tabs_at0 (i : grid0.Coords) : (tabs (F := F)).at 0 (Rect.unit (s := S36) (k0_off1 i) S1.size (k0_off1_inb i)) numel1_S1 = lit0 (stepOf i) :=
  lit0_at (emb_zero i)

/-- A read of the second: its block of keys. -/
theorem tabs_at1 (i : grid0.Coords) : (tabs (F := F)).at 1 (Rect.unit (s := S36) (k0_off1 i) S1.size (k0_off1_inb i)) numel1_S1 = lit1 (stepOf i) :=
  lit1_at (emb_zero i)

theorem tabs_atD0 (i : grid0.Coords) : (tabs (F := F)).atD 0 (k0_off1 i) = lit0 (stepOf i) := by
  have h : ∀ a, k0_off1 i a + 1 ≤ (pre0.ref 0).ty.shape.size a := fun | ⟨0, _⟩ => k0_off1_inb i 0
  refine (dif_pos h).trans ?_
  exact lit0_at (off1_zero i)

theorem tabs_atD1 (i : grid0.Coords) : (tabs (F := F)).atD 1 (k0_off1 i) = lit1 (stepOf i) := by
  have h : ∀ a, k0_off1 i a + 1 ≤ (pre0.ref 1).ty.shape.size a := fun | ⟨0, _⟩ => k0_off1_inb i 0
  refine (dif_pos h).trans ?_
  exact lit1_at (off1_zero i)

theorem map0 (i : grid0.Coords) : cc0_transform_0 k0_off1_inb numel1_S1 (tabs (F := F)) i = ![(qb (stepOf i)).val, (headOf i).val] := by
  show ![((tabs (F := F)).at 0 (Rect.unit (s := S36) (k0_off1 i) S1.size (k0_off1_inb i)) numel1_S1).toNat, (0#32 + BitVec.ofNat 32 (i 0).val).toNat] = _
  rw [tabs_at0, lit0_toNat, BitVec.zero_add, word_head]

theorem map1 (i : grid0.Coords) : cc0_transform_1 k0_off1_inb numel1_S1 (tabs (F := F)) i = ![(kb (stepOf i)).val, (headOf i).val] := by
  show ![((tabs (F := F)).at 1 (Rect.unit (s := S36) (k0_off1 i) S1.size (k0_off1_inb i)) numel1_S1).toNat, (0#32 + BitVec.ofNat 32 (i 0).val).toNat] = _
  rw [tabs_at1, lit1_toNat, BitVec.zero_add, word_head]

theorem map2 (i : grid0.Coords) : cc0_transform_2 k0_off1_inb numel1_S1 (tabs (F := F)) i = ![(headOf i).val, (kb (stepOf i)).val] := by
  show ![(0#32 + BitVec.ofNat 32 (i 0).val).toNat, ((tabs (F := F)).at 1 (Rect.unit (s := S36) (k0_off1 i) S1.size (k0_off1_inb i)) numel1_S1).toNat] = _
  rw [tabs_at1, lit1_toNat, BitVec.zero_add, word_head]

theorem map3 (i : grid0.Coords) : cc0_transform_3 k0_off1_inb numel1_S1 (tabs (F := F)) i = ![(qb (stepOf i)).val, (headOf i).val] := by
  show ![((tabs (F := F)).at 0 (Rect.unit (s := S36) (k0_off1 i) S1.size (k0_off1_inb i)) numel1_S1).toNat, (BitVec.ofNat 32 (i 0).val).toNat] = _
  rw [tabs_at0, lit0_toNat, word_head]

theorem map4 (i : grid0.Coords) : cc0_transform_4 k0_off1_inb numel1_S1 (tabs (F := F)) i = ![(headOf i).val, 0, (qb (stepOf i)).val] := by
  show ![(BitVec.ofNat 32 (i 0).val).toNat, (0#32 : BitVec 32).toNat, ((tabs (F := F)).at 0 (Rect.unit (s := S36) (k0_off1 i) S1.size (k0_off1_inb i)) numel1_S1).toNat] = _
  rw [tabs_at0, lit0_toNat, word_head]
  rfl

theorem in_rows (x y : Fin 8) : ∃ h : (∀ a, ((![x.val, y.val] : Fin 2 → ℕ) a + 1) * S1024x128.size a ≤ S8192x1024.size a),
    EltTy.bits .bf16 = 32 ∨ (Rect.block (s := S8192x1024) S1024x128.size ![x.val, y.val] h).WholeWords (EltTy.packing .bf16) := by
  revert x y; decide +kernel

theorem in_cols (x y : Fin 8) : ∃ h : (∀ a, ((![x.val, y.val] : Fin 2 → ℕ) a + 1) * S128x1024.size a ≤ S1024x8192.size a),
    EltTy.bits .bf16 = 32 ∨ (Rect.block (s := S1024x8192) S128x1024.size ![x.val, y.val] h).WholeWords (EltTy.packing .bf16) := by
  revert x y; decide +kernel

theorem in_line (x y : Fin 8) : ∃ h : (∀ a, ((![x.val, 0, y.val] : Fin 3 → ℕ) a + 1) * S1x1x1024.size a ≤ S8x1x8192.size a),
    EltTy.bits .f32 = 32 ∨ (Rect.block (s := S8x1x8192) S1x1x1024.size ![x.val, 0, y.val] h).WholeWords (EltTy.packing .f32) := by
  refine ⟨?_, .inl rfl⟩; revert x y; decide +kernel

/-- The tables are admissible: every block they name lies inside its array, in whole words. -/
theorem ok_tabs : ok0 (tabs (F := F)) := by
  unfold ok0
  refine ⟨?_, ?_, ?_, ?_, ?_⟩ <;> intro i
  · rw [map0]; exact in_rows (qb (stepOf i)) (headOf i)
  · rw [map1]; exact in_rows (kb (stepOf i)) (headOf i)
  · rw [map2]; exact in_cols (headOf i) (kb (stepOf i))
  · rw [map3]; exact in_rows (qb (stepOf i)) (headOf i)
  · rw [map4]; exact in_line (headOf i) (qb (stepOf i))

/-- The region's admissible tables. -/
abbrev adm : (p : Fin 1) → (pcfgs (F := F) p).Adm := fun _ => ⟨tabs, ok_tabs⟩

/-- The region at its tables. -/
abbrev cfgA : Pipeline.Cfg sig Λ₀ := cfg0 (F := F) (adm 0)

/-- A point of the grid. -/
abbrev Pt (F : FTy → Type) [FloatOps F] [Named F] := Fin (cfgA (F := F)).N

/-- A step off the diagonal leaves the outputs alone, one on it does not. -/
theorem idle_out (w : Fin 5) (hw : w = 3 ∨ w = 4) (i : grid0.Coords) : idle0 (tabs (F := F)) w i = !decide (qb (stepOf i) = kb (stepOf i)) := by
  have h : (!(k0_cond4 ((tabs (F := F)).atD 0 (k0_off1 i)) ((tabs (F := F)).atD 1 (k0_off1 i)) == 1#1)) = !decide (qb (stepOf i) = kb (stepOf i)) := by
    rw [tabs_atD0, tabs_atD1]
    by_cases e : qb (stepOf i) = kb (stepOf i)
    · rw [(last_iff _).2 e, decide_eq_true e]; rfl
    · rw [decide_eq_false e, beq_eq_false_iff_ne.2 fun h => e ((last_iff _).1 h)]
  rcases hw with rfl | rfl <;> exact h

end Cert.Kernel11Ideal.Attn

end
-- ==== Proof.FI.Steps.lean ====
/- What a step of the attention kernel carries to the next: a running maximum, a running sum and a running weighted sum of values. -/
module

public import proofs.«01_k».proof.Proof.FI.Maps
public import Idealize.ShloMosaic.Lib.VecWindow
public import Idealize.ShloMosaic.Lib.WritesUnit

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

/-- What a step carries: the running maximum of a query's scores, the sum of the powers of two of its scores less that maximum, and the
    values weighted by those powers. -/
abbrev St (F : FTy → Type) := Vec F S1x1024 .f32 × Vec F S1x1024 .f32 × Vec F S128x1024 .f32

/-- What a block of queries starts from. -/
def stInit : St F := (k0_pay17 (F := F), k0_pay18 (F := F), k0_pay19 (F := F))

/-- A step off the diagonal, -/
def stFull (q k : Vec F S1024x128 .bf16) (v : Vec F S128x1024 .bf16) (y : St F) : St F :=
  (k0_pay20 (k0_pay6 k q y.1), k0_pay9 k q y.1 y.2.1, k0_pay10 k q y.1 y.2.2 v)

/-- and one on it. -/
def stDiag (n : Fin 36) (q k : Vec F S1024x128 .bf16) (v : Vec F S128x1024 .bf16) (y : St F) : St F :=
  (k0_pay2 (k0_pay12 (lit0 n) (lit1 n) k q y.1), k0_pay15 (lit0 n) (lit1 n) k q y.1 y.2.1,
    k0_pay1 (k0_pay14 (lit0 n) (lit1 n) k q y.1) (k0_pay16 (lit0 n) (lit1 n) k q y.1 y.2.2) v)

/-- The output of a block of queries, -/
def outO (y : St F) : Vec F S1024x128 .bf16 := k0_pay3 y.2.1 y.2.2

/-- and the logarithm of its sum. -/
def outL (y : St F) : Vec F S1x1x1024 .f32 := k0_pay4 y.2.1 y.1

/-- The word a step reads of a table held in a memref. -/
abbrev word (c : Dev nD) (i : grid0.Coords) (arg : Memref sig .tc .smem S36 .i32) (f : Buf (Elt F) (arg.view.loc (c : Thread nD τ))) : BitVec 32 :=
  View.readAt (Elt F) arg.view (Rect.unit (s := S36) (k0_off1 i) S1.size (k0_off1_inb i)).toLoadRect f (Shape.Idx.first (numel1_S1.symm ▸ Nat.one_pos))

/-- A load of the whole of a buffer that holds `x` is `x`. -/
theorem read_square {e : EltTy} {arg : Memref sig .tc .vmem S1024x128 e} (h : arg.IsWhole) (x : Vec F S1024x128 e) :
    View.readAt (Elt F) arg.view (Rect.unit (s := S1024x128) ![0, 0] ![1024, 128] inb_S1024x128_S1024x128_0_0).toLoadRect (h.unread x) = x :=
  (View.readAt_full _ _ inb_S1024x128_S1024x128_0_0).trans (h.read_unread x)

/-- A load of the whole of a buffer that holds `x` is `x`. -/
theorem read_flat {e : EltTy} {arg : Memref sig .tc .vmem S128x1024 e} (h : arg.IsWhole) (x : Vec F S128x1024 e) :
    View.readAt (Elt F) arg.view (Rect.unit (s := S128x1024) ![0, 0] ![128, 1024] inb_S128x1024_S128x1024_0_0).toLoadRect (h.unread x) = x :=
  (View.readAt_full _ _ inb_S128x1024_S128x1024_0_0).trans (h.read_unread x)

/-- A load of the whole of a buffer that holds `x` is `x`. -/
theorem read_line {e : EltTy} {arg : Memref sig .tc .vmem S1x1x1024 e} (h : arg.IsWhole) (x : Vec F S1x1x1024 e) :
    View.readAt (Elt F) arg.view (Rect.unit (s := S1x1x1024) ![0, 0, 0] ![1, 1, 1024] inb_S1x1x1024_S1x1x1024_0_0_0).toLoadRect (h.unread x) = x :=
  (View.readAt_full _ _ inb_S1x1x1024_S1x1x1024_0_0_0).trans (h.read_unread x)

/-- A load of the whole of a buffer after a store of the whole of it is what was stored. -/
theorem cov_square {e : EltTy} (arg : Memref sig .tc .vmem S1024x128 e) (x : Vec F S1024x128 e) :
    arg.view.readCov [(⟨Rect.unit (s := S1024x128) ![0, 0] ![1024, 128] inb_S1024x128_S1024x128_0_0, x⟩ : View.Piece (Elt F) S1024x128 e)]
      (Rect.unit (s := S1024x128) ![0, 0] ![1024, 128] inb_S1024x128_S1024x128_0_0).toLoadRect = x :=
  View.readCov_full arg.view inb_S1024x128_S1024x128_0_0 inb_S1024x128_S1024x128_0_0 x []

/-- A load of the whole of a buffer that holds `x` is `x`. -/
theorem read_row {e : EltTy} {arg : Memref sig .tc .vmem S1x1024 e} (h : arg.IsWhole) (x : Vec F S1x1024 e) :
    View.readAt (Elt F) arg.view (Rect.unit (s := S1x1024) ![0, 0] ![1, 1024] inb_S1x1024_S1x1024_0_0).toLoadRect (h.unread x) = x :=
  (View.readAt_full _ _ inb_S1x1024_S1x1024_0_0).trans (h.read_unread x)

/-- A load of the whole of a buffer after a store of the whole of it is what was stored. -/
theorem cov_row {e : EltTy} (arg : Memref sig .tc .vmem S1x1024 e) (x : Vec F S1x1024 e) (l : List (View.Piece (Elt F) S1x1024 e)) :
    arg.view.readCov ((⟨Rect.unit (s := S1x1024) ![0, 0] ![1, 1024] inb_S1x1024_S1x1024_0_0, x⟩ : View.Piece (Elt F) S1x1024 e) :: l)
      (Rect.unit (s := S1x1024) ![0, 0] ![1, 1024] inb_S1x1024_S1x1024_0_0).toLoadRect = x :=
  View.readCov_full arg.view inb_S1x1024_S1x1024_0_0 inb_S1x1024_S1x1024_0_0 x l

/-- A load of the whole of a buffer after a store of the whole of it is what was stored. -/
theorem cov_flat {e : EltTy} (arg : Memref sig .tc .vmem S128x1024 e) (x : Vec F S128x1024 e) (l : List (View.Piece (Elt F) S128x1024 e)) :
    arg.view.readCov ((⟨Rect.unit (s := S128x1024) ![0, 0] ![128, 1024] inb_S128x1024_S128x1024_0_0, x⟩ : View.Piece (Elt F) S128x1024 e) :: l)
      (Rect.unit (s := S128x1024) ![0, 0] ![128, 1024] inb_S128x1024_S128x1024_0_0).toLoadRect = x :=
  View.readCov_full arg.view inb_S128x1024_S128x1024_0_0 inb_S128x1024_S128x1024_0_0 x l

/-- A step's body, from the blocks it reads, what the outputs' buffers hold and what it carries, ends with the outputs' buffers at `o`
    and `l` and carries `z`. -/
def Runs (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (x4 : Vec F S1024x128 .bf16) (x5 : Vec F S1024x128 .bf16) (x6 : Vec F S128x1024 .bf16) (x7 : Vec F S1024x128 .bf16) (x8 : Vec F S1x1x1024 .f32) (y z : St F) (o : Vec F S1024x128 .bf16) (l : Vec F S1x1x1024 .f32) : Prop :=
  ∀ (E : Set ℕ) (K : PUnit → sProp 𝕄),
    iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare y.1 ∗ owns (c : Thread nD τ) arg10 fullShare y.2.1 ∗ owns (c : Thread nD τ) arg11 fullShare y.2.2
      ∗ (iprop((arg2.view.loc (c : Thread nD τ) ↦[arg2.view.set]{p2} f2) ∗ (arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare o ∗ owns (c : Thread nD τ) arg8 fullShare l ∗ owns (c : Thread nD τ) arg9 fullShare z.1 ∗ owns (c : Thread nD τ) arg10 fullShare z.2.1 ∗ owns (c : Thread nD τ) arg11 fullShare z.2.2) -∗ K ⟨⟩))
      ⊢ wp frame (wpE (defs₀ (F := F)) Variants.none c none) E (cc0_mla_attn_fwd i arg2 harg2 arg3 harg3 arg4 harg4 arg5 harg5 arg6 harg6 arg7 harg7 arg8 harg8 arg9 harg9 arg10 harg10 arg11 harg11) K

end Cert.Kernel11Ideal.Attn

end
-- ==== Proof.FI.RunFull.lean ====
/- The steps of the attention kernel off the diagonal. -/
module

public import proofs.«01_k».proof.Proof.FI.Steps

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

set_option maxHeartbeats 2000000 in
/-- A step off the diagonal past the first block of keys takes the branch without the mask from what it carries. -/
theorem run_full (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (hf : ¬ (kb (stepOf i)).val = 0) (he : ¬ qb (stepOf i) = kb (stepOf i)) (x4 : Vec F S1024x128 .bf16) (x5 : Vec F S1024x128 .bf16) (x6 : Vec F S128x1024 .bf16) (x7 : Vec F S1024x128 .bf16) (x8 : Vec F S1x1x1024 .f32) (y : St F) :
    Runs c i arg2 harg2 arg3 harg3 arg4 harg4 arg5 harg5 arg6 harg6 arg7 harg7 arg8 harg8 arg9 harg9 arg10 harg10 arg11 harg11 p2 p3 f2 f3 x4 x5 x6 x7 x8 y (stFull x4 x5 x6 y) x7 x8 := by
  have h1 : ¬ isFirst (word c i arg3 f3) = 1#1 := by rw [w3]; exact fun h => hf ((first_iff _).1 h)
  have h2 : isFull (word c i arg2 f2) (word c i arg3 f3) = 1#1 := by rw [w2, w3]; exact (full_iff _).2 he
  have h3 : ¬ isDiag (word c i arg2 f2) (word c i arg3 f3) = 1#1 := by rw [w2, w3]; exact fun h => he ((diag_iff _).1 h)
  have h4 : ¬ k0_cond4 (word c i arg2 f2) (word c i arg3 f3) = 1#1 := by rw [w2, w3]; exact fun h => he ((last_iff _).1 h)
  intro E K
  rw [cc0_mla_attn_fwd_eq_skeleton]
  unfold cc0_mla_attn_fwd_skel
  rw [k0_part3_eq_skeleton, k0_part2_eq_skeleton]
  unfold k0_part3_skel k0_part2_skel
  rw [k0_part1_eq_skeleton]
  unfold k0_part1_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_full]
    simp only [read_square, read_flat, read_row, cov_row, cov_flat]
    rfl
  isplitl [H10]
  · iexists _; isplitr; swap; · iexact H10
    ipureintro
    rw [View.read_writes_full]
    simp only [read_square, read_flat, read_row, cov_row, cov_flat]
    rfl
  · iexists _; isplitr; swap; · iexact H11
    ipureintro
    rw [View.read_writes_full]
    simp only [read_square, read_flat, read_row, cov_row, cov_flat]
    rfl

set_option maxHeartbeats 2000000 in
/-- A step off the diagonal at the first block of keys takes it from the start. -/
theorem run_first (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (hf : (kb (stepOf i)).val = 0) (he : ¬ qb (stepOf i) = kb (stepOf i)) (x4 : Vec F S1024x128 .bf16) (x5 : Vec F S1024x128 .bf16) (x6 : Vec F S128x1024 .bf16) (x7 : Vec F S1024x128 .bf16) (x8 : Vec F S1x1x1024 .f32) (y : St F) :
    Runs c i arg2 harg2 arg3 harg3 arg4 harg4 arg5 harg5 arg6 harg6 arg7 harg7 arg8 harg8 arg9 harg9 arg10 harg10 arg11 harg11 p2 p3 f2 f3 x4 x5 x6 x7 x8 y (stFull x4 x5 x6 (stInit (F := F))) x7 x8 := by
  have h1 : isFirst (word c i arg3 f3) = 1#1 := by rw [w3]; exact (first_iff _).2 hf
  have h2 : isFull (word c i arg2 f2) (word c i arg3 f3) = 1#1 := by rw [w2, w3]; exact (full_iff _).2 he
  have h3 : ¬ isDiag (word c i arg2 f2) (word c i arg3 f3) = 1#1 := by rw [w2, w3]; exact fun h => he ((diag_iff _).1 h)
  have h4 : ¬ k0_cond4 (word c i arg2 f2) (word c i arg3 f3) = 1#1 := by rw [w2, w3]; exact fun h => he ((last_iff _).1 h)
  intro E K
  rw [cc0_mla_attn_fwd_eq_skeleton]
  unfold cc0_mla_attn_fwd_skel
  rw [k0_part3_eq_skeleton, k0_part2_eq_skeleton]
  unfold k0_part3_skel k0_part2_skel
  rw [k0_part1_eq_skeleton]
  unfold k0_part1_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    unfold run_first.sl.v48 run_first.sl.H9_1
    rw [View.read_writes_full]
    simp only [read_square, read_flat, read_row, cov_row, cov_flat]
    rfl
  isplitl [H10]
  · iexists _; isplitr; swap; · iexact H10
    ipureintro
    unfold run_first.sl.v48 run_first.sl.v57 run_first.sl.H9_1 run_first.sl.H10_1
    rw [View.read_writes_full]
    simp only [read_square, read_flat, read_row, cov_row, cov_flat]
    rfl
  · iexists _; isplitr; swap; · iexact H11
    ipureintro
    unfold run_first.sl.v48 run_first.sl.v65 run_first.sl.H9_1 run_first.sl.H11_1
    rw [View.read_writes_full]
    simp only [read_square, read_flat, read_row, cov_row, cov_flat]
    rfl

end Cert.Kernel11Ideal.Attn

end
-- ==== Proof.FI.RunDiag.lean ====
/- The steps of the attention kernel on the diagonal. -/
module

public import proofs.«01_k».proof.Proof.FI.Steps

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

set_option maxHeartbeats 2000000 in
/-- A step on the diagonal past the first block of keys takes the branch with the mask from what it carries, and writes the outputs. -/
theorem run_diag (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (hf : ¬ (kb (stepOf i)).val = 0) (he : qb (stepOf i) = kb (stepOf i)) (x4 : Vec F S1024x128 .bf16) (x5 : Vec F S1024x128 .bf16) (x6 : Vec F S128x1024 .bf16) (x7 : Vec F S1024x128 .bf16) (x8 : Vec F S1x1x1024 .f32) (y : St F) :
    Runs c i arg2 harg2 arg3 harg3 arg4 harg4 arg5 harg5 arg6 harg6 arg7 harg7 arg8 harg8 arg9 harg9 arg10 harg10 arg11 harg11 p2 p3 f2 f3 x4 x5 x6 x7 x8 y (stDiag (stepOf i) x4 x5 x6 y) (outO (stDiag (stepOf i) x4 x5 x6 y)) (outL (stDiag (stepOf i) x4 x5 x6 y)) := by
  have h1 : ¬ isFirst (word c i arg3 f3) = 1#1 := by rw [w3]; exact fun h => hf ((first_iff _).1 h)
  have h2 : ¬ isFull (word c i arg2 f2) (word c i arg3 f3) = 1#1 := by rw [w2, w3]; exact fun h => (full_iff _).1 h he
  have h3 : isDiag (word c i arg2 f2) (word c i arg3 f3) = 1#1 := by rw [w2, w3]; exact (diag_iff _).2 he
  have h4 : k0_cond4 (word c i arg2 f2) (word c i arg3 f3) = 1#1 := by rw [w2, w3]; exact (last_iff _).2 he
  intro E K
  rw [cc0_mla_attn_fwd_eq_skeleton]
  unfold cc0_mla_attn_fwd_skel
  rw [k0_part3_eq_skeleton, k0_part2_eq_skeleton]
  unfold k0_part3_skel k0_part2_skel
  rw [k0_part1_eq_skeleton]
  unfold k0_part1_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    have w2' : run_diag.sl.r c i arg2 f2 = lit0 (stepOf i) := w2
    have w3' : run_diag.sl.r_1 c i arg3 f3 = lit1 (stepOf i) := w3
    unfold run_diag.sl.v41 run_diag.sl.v42 run_diag.sl.H10_1 run_diag.sl.H11_1
    rw [View.read_writes_full]
    simp only [read_square, read_flat, read_row, cov_row, cov_flat, w2', w3']
    rfl
  isplitl [H8]
  · iexists _; isplitr; swap; · iexact H8
    ipureintro
    have w2' : run_diag.sl.r c i arg2 f2 = lit0 (stepOf i) := w2
    have w3' : run_diag.sl.r_1 c i arg3 f3 = lit1 (stepOf i) := w3
    unfold run_diag.sl.v41 run_diag.sl.v48 run_diag.sl.H10_1 run_diag.sl.H9_1
    rw [View.read_writes_full]
    simp only [read_square, read_flat, read_row, cov_row, cov_flat, w2', w3']
    rfl
  isplitl [H9]
  · iexists _; isplitr; swap; · iexact H9
    ipureintro
    have w2' : run_diag.sl.r c i arg2 f2 = lit0 (stepOf i) := w2
    have w3' : run_diag.sl.r_1 c i arg3 f3 = lit1 (stepOf i) := w3
    unfold run_diag.sl.H9_1
    rw [View.read_writes_full]
    simp only [read_square, read_flat, read_row, cov_row, cov_flat, w2', w3']
    rfl
  isplitl [H10]
  · iexists _; isplitr; swap; · iexact H10
    ipureintro
    have w2' : run_diag.sl.r c i arg2 f2 = lit0 (stepOf i) := w2
    have w3' : run_diag.sl.r_1 c i arg3 f3 = lit1 (stepOf i) := w3
    unfold run_diag.sl.H10_1
    rw [View.read_writes_full]
    simp only [read_square, read_flat, read_row, cov_row, cov_flat, w2', w3']
    rfl
  · iexists _; isplitr; swap; · iexact H11
    ipureintro
    have w2' : run_diag.sl.r c i arg2 f2 = lit0 (stepOf i) := w2
    have w3' : run_diag.sl.r_1 c i arg3 f3 = lit1 (stepOf i) := w3
    unfold run_diag.sl.H11_1
    rw [View.read_writes_full]
    simp only [read_square, read_flat, read_row, cov_row, cov_flat, w2', w3']
    rfl

set_option maxHeartbeats 2000000 in
/-- The first block of queries has one step, on the diagonal, from the start. -/
theorem run_sole (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (hf : (kb (stepOf i)).val = 0) (he : qb (stepOf i) = kb (stepOf i)) (x4 : Vec F S1024x128 .bf16) (x5 : Vec F S1024x128 .bf16) (x6 : Vec F S128x1024 .bf16) (x7 : Vec F S1024x128 .bf16) (x8 : Vec F S1x1x1024 .f32) (y : St F) :
    Runs c i arg2 harg2 arg3 harg3 arg4 harg4 arg5 harg5 arg6 harg6 arg7 harg7 arg8 harg8 arg9 harg9 arg10 harg10 arg11 harg11 p2 p3 f2 f3 x4 x5 x6 x7 x8 y (stDiag (stepOf i) x4 x5 x6 (stInit (F := F))) (outO (stDiag (stepOf i) x4 x5 x6 (stInit (F := F)))) (outL (stDiag (stepOf i) x4 x5 x6 (stInit (F := F)))) := by
  have h1 : isFirst (word c i arg3 f3) = 1#1 := by rw [w3]; exact (first_iff _).2 hf
  have h2 : ¬ isFull (word c i arg2 f2) (word c i arg3 f3) = 1#1 := by rw [w2, w3]; exact fun h => (full_iff _).1 h he
  have h3 : isDiag (word c i arg2 f2) (word c i arg3 f3) = 1#1 := by rw [w2, w3]; exact (diag_iff _).2 he
  have h4 : k0_cond4 (word c i arg2 f2) (word c i arg3 f3) = 1#1 := by rw [w2, w3]; exact (last_iff _).2 he
  intro E K
  rw [cc0_mla_attn_fwd_eq_skeleton]
  unfold cc0_mla_attn_fwd_skel
  rw [k0_part3_eq_skeleton, k0_part2_eq_skeleton]
  unfold k0_part3_skel k0_part2_skel
  rw [k0_part1_eq_skeleton]
  unfold k0_part1_skel
  unfold owns
  iintro ⟨Ht0, Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [Ht0]; · iexact Ht0
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    have w2' : run_sole.sl.r c i arg2 f2 = lit0 (stepOf i) := w2
    have w3' : run_sole.sl.r_1 c i arg3 f3 = lit1 (stepOf i) := w3
    unfold run_sole.sl.v41 run_sole.sl.v42 run_sole.sl.H10_2 run_sole.sl.H11_2 run_sole.sl.v59 run_sole.sl.v68 run_sole.sl.v76 run_sole.sl.H9_1 run_sole.sl.H10_1 run_sole.sl.H11_1
    rw [View.read_writes_full]
    simp only [read_square, read_flat, read_row, cov_row, cov_flat, w2', w3']
    rfl
  isplitl [H8]
  · iexists _; isplitr; swap; · iexact H8
    ipureintro
    have w2' : run_sole.sl.r c i arg2 f2 = lit0 (stepOf i) := w2
    have w3' : run_sole.sl.r_1 c i arg3 f3 = lit1 (stepOf i) := w3
    unfold run_sole.sl.v41 run_sole.sl.v48 run_sole.sl.H10_2 run_sole.sl.H9_2 run_sole.sl.v59 run_sole.sl.v68 run_sole.sl.H9_1 run_sole.sl.H10_1
    rw [View.read_writes_full]
    simp only [read_square, read_flat, read_row, cov_row, cov_flat, w2', w3']
    rfl
  isplitl [H9]
  · iexists _; isplitr; swap; · iexact H9
    ipureintro
    have w2' : run_sole.sl.r c i arg2 f2 = lit0 (stepOf i) := w2
    have w3' : run_sole.sl.r_1 c i arg3 f3 = lit1 (stepOf i) := w3
    unfold run_sole.sl.H9_2 run_sole.sl.v59 run_sole.sl.H9_1
    rw [View.read_writes_full]
    simp only [read_square, read_flat, read_row, cov_row, cov_flat, w2', w3']
    rfl
  isplitl [H10]
  · iexists _; isplitr; swap; · iexact H10
    ipureintro
    have w2' : run_sole.sl.r c i arg2 f2 = lit0 (stepOf i) := w2
    have w3' : run_sole.sl.r_1 c i arg3 f3 = lit1 (stepOf i) := w3
    unfold run_sole.sl.H10_2 run_sole.sl.v59 run_sole.sl.v68 run_sole.sl.H9_1 run_sole.sl.H10_1
    rw [View.read_writes_full]
    simp only [read_square, read_flat, read_row, cov_row, cov_flat, w2', w3']
    rfl
  · iexists _; isplitr; swap; · iexact H11
    ipureintro
    have w2' : run_sole.sl.r c i arg2 f2 = lit0 (stepOf i) := w2
    have w3' : run_sole.sl.r_1 c i arg3 f3 = lit1 (stepOf i) := w3
    unfold run_sole.sl.H11_2 run_sole.sl.v59 run_sole.sl.v76 run_sole.sl.H9_1 run_sole.sl.H11_1
    rw [View.read_writes_full]
    simp only [read_square, read_flat, read_row, cov_row, cov_flat, w2', w3']
    rfl

end Cert.Kernel11Ideal.Attn

end
-- ==== Proof.FI.Host.lean ====
/- The memory the attention kernel's region finds: after the host operations before it. -/
module

public import proofs.«01_k».proof.Proof.FI.Maps
public import Idealize.ShloMosaic.Lib.StableHlo.RunRead

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- The buffers the host operations write, in order. -/
abbrev written : List (Ref sig .tc) :=
  [main_c, main_c_0, main_v0, main_cst, main_v1, main_v2, main_v3, main_v4, main_cst_1, main_v5, main_v6, main_v7, main_v8, main_cst_2, main_v9, main_v10, main_v11, main_v12]

theorem writes_written : (hostOps0 : List (HloOp τ sig (Elt F))).Forall fun op => op.writes ⊆ (written.map (Proc.devRef (τ := τ) .tc)).toFinset :=
  StableHlo.forall_writes_sub_of_map rfl

theorem V_arg0 (c : Dev nD) : V m c main_arg0 = m ((c : Thread nD τ).loc main_arg0) :=
  StableHlo.after_of_writes_sub hostOps0 _ writes_written (by decide)

theorem V_arg1 (c : Dev nD) : V m c main_arg1 = m ((c : Thread nD τ).loc main_arg1) :=
  StableHlo.after_of_writes_sub hostOps0 _ writes_written (by decide)

theorem V_arg2 (c : Dev nD) : V m c main_arg2 = m ((c : Thread nD τ).loc main_arg2) :=
  StableHlo.after_of_writes_sub hostOps0 _ writes_written (by decide)

/-- The region finds the two tables in the buffers it prefetches. -/
theorem V_tabs (c : Dev nD) (k : Fin 2) : V m c (pre0.ref k) = (tabs (F := F)) k := by
  match k with
  | 0 =>
    show V m c main_c = (tabs (F := F)) 0
    unfold V
    after_results
    rfl
  | 1 =>
    show V m c main_c_0 = (tabs (F := F)) 1
    unfold V
    after_results
    rfl

end Cert.Kernel11Ideal.Attn

end
-- ==== Proof.FI.Data.lean ====
/- The attention kernel's run: what it carries after every step and the proof data. -/
module

public import proofs.«01_k».proof.Proof.FI.RunFull
public import proofs.«01_k».proof.Proof.FI.RunDiag
public import proofs.«01_k».proof.Proof.FI.Host
public import Idealize.ShloMosaic.Lib.Pipeline.TableIdle
public import Idealize.ShloMosaic.Lib.Pipeline.Frame
public import Idealize.ShloMosaic.Lib.Pipeline.FrameBody
public import Idealize.ShloMosaic.Lib.Claim

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem head_coords (t : Fin grid0.N) : (headOf (grid0.coords t)).val = t.val / 36 % 8 := Pipeline.Grid.coords_val t 0 (by decide) rfl

theorem step_coords (t : Fin grid0.N) : (stepOf (grid0.coords t)).val = t.val % 36 := by
  have e : (grid0.coords t 1).val = t.val / 1 % 36 := Pipeline.Grid.coords_val t 1 (by decide) rfl
  rw [Nat.div_one] at e; exact e

theorem lt_288 (t : Fin grid0.N) : t.val < 288 := lt_of_lt_of_eq t.isLt N_0

/-! ## The blocks -/

/-- A window's block at a step, read off its array as the region finds it. -/
def iblk (c : Dev nD) (w : Fin (cfgA (F := F)).W) (t : Pt F) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The block of queries a step finds, -/
def qB (c : Dev nD) (t : Fin grid0.N) : Vec F S1024x128 .bf16 := iblk m c 0 t
/-- of keys, -/
def kB (c : Dev nD) (t : Fin grid0.N) : Vec F S1024x128 .bf16 := iblk m c 1 t
/-- and of values, transposed. -/
def vB (c : Dev nD) (t : Fin grid0.N) : Vec F S128x1024 .bf16 := iblk m c 2 t

/-! ## What a step carries -/

/-- What a step starts from: a first block of keys starts afresh. -/
def stFrom (n : Fin 36) (y : St F) : St F := if (kb n).val = 0 then stInit else y

/-- One step, from what the one before left. -/
def stStep (n : Fin 36) (q k : Vec F S1024x128 .bf16) (v : Vec F S128x1024 .bf16) (y : St F) : St F :=
  if qb n = kb n then stDiag n q k v (stFrom n y) else stFull q k v (stFrom n y)

/-- The step of a number. -/
def pnt (n : ℕ) : Fin grid0.N := ⟨n % 288, lt_of_lt_of_eq (Nat.mod_lt _ (by decide)) N_0.symm⟩

theorem pnt_val (t : Fin grid0.N) : pnt t.val = t := Fin.ext (Nat.mod_eq_of_lt (lt_288 t))

/-- What is carried after a step. -/
def outs (c : Dev nD) : ℕ → St F
  | 0 => stStep (stepOf (grid0.coords (pnt 0))) (qB m c (pnt 0)) (kB m c (pnt 0)) (vB m c (pnt 0)) stInit
  | n + 1 => stStep (stepOf (grid0.coords (pnt (n + 1)))) (qB m c (pnt (n + 1))) (kB m c (pnt (n + 1))) (vB m c (pnt (n + 1))) (outs c n)

theorem first_zero : ∀ n : Fin 36, n.val = 0 → (kb n).val = 0 := by decide +kernel

theorem stStep_first (n : Fin 36) (h : (kb n).val = 0) (q k : Vec F S1024x128 .bf16) (v : Vec F S128x1024 .bf16) (y y' : St F) :
    stStep n q k v y = stStep n q k v y' := by
  unfold stStep stFrom
  rw [if_pos h, if_pos h]

/-- A step from what is carried. -/
theorem outs_of (c : Dev nD) (t : Fin grid0.N) (y : St F) (hy : t.val ≠ 0 → y = outs m c (t.val - 1)) :
    outs m c t.val = stStep (stepOf (grid0.coords t)) (qB m c t) (kB m c t) (vB m c t) y := by
  obtain ⟨n, hn⟩ := t
  cases n with
  | zero =>
    have e : pnt 0 = (⟨0, hn⟩ : Fin grid0.N) := pnt_val ⟨0, hn⟩
    show stStep (stepOf (grid0.coords (pnt 0))) (qB m c (pnt 0)) (kB m c (pnt 0)) (vB m c (pnt 0)) stInit = _
    rw [e]
    exact stStep_first _ (first_zero _ (step_coords ⟨0, hn⟩)) _ _ _ _ _
  | succ n =>
    have e : pnt (n + 1) = (⟨n + 1, hn⟩ : Fin grid0.N) := pnt_val ⟨n + 1, hn⟩
    rw [hy (Nat.succ_ne_zero n)]
    show stStep (stepOf (grid0.coords (pnt (n + 1)))) (qB m c (pnt (n + 1))) (kB m c (pnt (n + 1))) (vB m c (pnt (n + 1))) (outs m c n) = _
    rw [e]
    rfl

/-- The buffers that carry it. -/
abbrev scr0 : Memref sig .tc .vmem S1x1024 .f32 := Memref.whole cc0_scratch0
abbrev scr1 : Memref sig .tc .vmem S1x1024 .f32 := Memref.whole cc0_scratch1
abbrev scr2 : Memref sig .tc .vmem S128x1024 .f32 := Memref.whole cc0_scratch2

/-- They hold `y`. -/
def carried (c : Dev nD) (y : St F) : sProp 𝕄 :=
  iprop(owns (c : Thread nD τ) scr0 fullShare y.1 ∗ owns (c : Thread nD τ) scr1 fullShare y.2.1 ∗ owns (c : Thread nD τ) scr2 fullShare y.2.2)

/-- The buffers outside the windows hold some `y`. -/
theorem scoped_eq (c : Dev nD) : (Pipeline.scopedRest spec0 c : sProp 𝕄) ⊣⊢ iprop(∃ y : St F, carried c y) := by
  rw [scopedRest0_eq]
  unfold carried
  constructor
  · iintro ⟨⟨%f0, H0⟩, ⟨%f1, H1⟩, ⟨%f2, H2⟩⟩
    iexists ((f0, f1, f2) : St F)
    rw [owns_whole, owns_whole, owns_whole]
    isplitl [H0]; · iexact H0
    isplitl [H1]; · iexact H1
    iexact H2
  · iintro ⟨%y, H⟩
    rw [owns_whole, owns_whole, owns_whole]
    icases H with ⟨H0, H1, H2⟩
    isplitl [H0]; · iexists _; iexact H0
    isplitl [H1]; · iexists _; iexact H1
    iexists _; iexact H2

/-- The proof data: the arrays as the region finds them, the inputs' buffers at their blocks, the outputs' at what is made of the carried
    values; the invariant keeps the carried values and the two tables. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (outs m c t.val)
    | ⟨4, _⟩ => outL (outs m c t.val)
  Φ t := iprop((∃ y : St F, ⌜t.val ≠ 0 → y = outs m c (t.val - 1)⌝ ∗ carried c y) ∗ (∃ r, prngReg c r) ∗ Pipeline.ΦT pre0 (tabs (F := F)) c)
  q _ := fullShare
  owed _ := 0

theorem A_eq (c : Dev nD) (w : Fin (cfgA (F := F)).W) : (dats m 0 c).A w = V m c (Pipeline.arrRef spec0 w) := by
  dsimp only [dats]

theorem after0 (c : Dev nD) (t : Pt F) : (dats m 0 c).after 0 t = iblk m c 0 t := rfl
theorem after1 (c : Dev nD) (t : Pt F) : (dats m 0 c).after 1 t = iblk m c 1 t := rfl
theorem after2 (c : Dev nD) (t : Pt F) : (dats m 0 c).after 2 t = iblk m c 2 t := rfl
theorem after3 (c : Dev nD) (t : Pt F) : (dats m 0 c).after 3 t = outO (outs m c t.val) := rfl
theorem after4 (c : Dev nD) (t : Pt F) : (dats m 0 c).after 4 t = outL (outs m c t.val) := rfl
theorem before0 (c : Dev nD) (t : Pt F) (d) : (dats m 0 c).before 0 t d = iblk m c 0 t :=
  ((dats m 0 c).before_in_eq_fetched 0 rfl (fun _ => rfl) (fun _ _ _ => rfl) (fun _ => rfl) t d).trans rfl
theorem before1 (c : Dev nD) (t : Pt F) (d) : (dats m 0 c).before 1 t d = iblk m c 1 t :=
  ((dats m 0 c).before_in_eq_fetched 1 rfl (fun _ => rfl) (fun _ _ _ => rfl) (fun _ => rfl) t d).trans rfl
theorem before2 (c : Dev nD) (t : Pt F) (d) : (dats m 0 c).before 2 t d = iblk m c 2 t :=
  ((dats m 0 c).before_in_eq_fetched 2 rfl (fun _ => rfl) (fun _ _ _ => rfl) (fun _ => rfl) t d).trans rfl

theorem next_diag : ∀ n n' : Fin 36, ¬ qb n = kb n → n'.val = n.val + 1 → qb n' = qb n := by decide +kernel
theorem off_last : ∀ n : Fin 36, ¬ qb n = kb n → n.val ≠ 35 := by decide +kernel

/-- Off the diagonal the next step visits the same block of queries of the same head. -/
theorem next_same (t t' : Fin grid0.N) (h : ¬ qb (stepOf (grid0.coords t)) = kb (stepOf (grid0.coords t))) (e : t'.val = t.val + 1) :
    qb (stepOf (grid0.coords t')) = qb (stepOf (grid0.coords t)) ∧ headOf (grid0.coords t') = headOf (grid0.coords t) := by
  have h0 := off_last _ h
  rw [step_coords] at h0
  have hl : t'.val < 288 := lt_288 t'
  refine ⟨next_diag _ _ h ?_, Fin.ext ?_⟩
  · rw [step_coords, step_coords]; omega
  · rw [head_coords, head_coords]; omega

/-- An output whose block does not move to the next step is not written back. -/
theorem flush_false {w : Window sig grid0} {t : Fin grid0.N} (ht : t.val + 1 ≠ grid0.N)
    (h : ∀ t' : Fin grid0.N, t'.val = t.val + 1 → w.index t' = w.index t) : w.flush t = false := by
  unfold Window.flush
  have h1 : decide (t.val + 1 = grid0.N) = false := decide_eq_false ht
  have h2 : decide (∃ h : t.val + 1 < grid0.N, w.index ⟨t.val + 1, h⟩ ≠ w.index t) = false :=
    decide_eq_false (by rintro ⟨hh, hne⟩; exact hne (h _ rfl))
  show (w.isOut && (decide (t.val + 1 = grid0.N) || decide _)) = false
  rw [h1, h2]; simp

theorem off_end (t : Fin grid0.N) (h : ¬ qb (stepOf (grid0.coords t)) = kb (stepOf (grid0.coords t))) : t.val + 1 ≠ grid0.N := by
  have h0 := off_last _ h
  rw [step_coords] at h0
  intro h'
  have e : t.val + 1 = 288 := h'.trans N_0
  omega

theorem kept3 (t : Pt F) (h : ¬ qb (stepOf (grid0.coords t)) = kb (stepOf (grid0.coords t))) :
    ((cfgA (F := F)).win 3).flush t = false :=
  flush_false (off_end t h) fun t' e => by
    obtain ⟨e1, e2⟩ := next_same t t' h e
    show cc0_transform_3 k0_off1_inb numel1_S1 (tabs (F := F)) (grid0.coords t') = cc0_transform_3 k0_off1_inb numel1_S1 (tabs (F := F)) (grid0.coords t)
    rw [map3, map3, e1, e2]

theorem kept4 (t : Pt F) (h : ¬ qb (stepOf (grid0.coords t)) = kb (stepOf (grid0.coords t))) :
    ((cfgA (F := F)).win 4).flush t = false :=
  flush_false (off_end t h) fun t' e => by
    obtain ⟨e1, e2⟩ := next_same t t' h e
    show cc0_transform_4 k0_off1_inb numel1_S1 (tabs (F := F)) (grid0.coords t') = cc0_transform_4 k0_off1_inb numel1_S1 (tabs (F := F)) (grid0.coords t)
    rw [map4, map4, e1, e2]

end Cert.Kernel11Ideal.Attn

end
-- ==== Proof.FVal.Blocks.lean ====
/- What the attention kernel's windows read, over real arguments: every block of the heads' columns. -/
module

public import proofs.«01_k».proof.Proof.FI.Data
public import proofs.«01_k».proof.Proof.Val.HostReal
public import Idealize.ShloMosaic.Lib.Pointwise

@[expose] public section

set_option maxRecDepth 16384

noncomputable section

namespace Cert.Kernel11Ideal.Attn

open Cert.KernelIdeal.Attn (row lane ext hQ hV hQ_real hV_real hV2_real)
open Gen
open Idealize.ShloMosaic TcCoe Pointwise Tactic
open Pipeline (Dat Cfg Window)
open Idealize.SL.Sem

/-- The step of a grid point within its head, -/
abbrev stp (t : Fin grid0.N) : Fin 36 := stepOf (grid0.coords t)
/-- and its head. -/
abbrev hd (t : Fin grid0.N) : Fin 8 := headOf (grid0.coords t)

section
variable (m : (ℓ : Loc nD τ sig) → Buf (Elt Ideal) ℓ) (c : Dev nD) (t : Fin grid0.N)

/-- The three arguments. -/
abbrev a0 : FVec Ideal S1x8192x8x96 .f32 := m ((c : Thread nD τ).loc main_arg0)
abbrev a1 : FVec Ideal S1x8192x8x96 .f32 := m ((c : Thread nD τ).loc main_arg1)
abbrev a2 : FVec Ideal S1x8192x8x64 .f32 := m ((c : Thread nD τ).loc main_arg2)

theorem V_v3 : V m c main_v3 = hQ (a0 m c) := by unfold V; after_results; rfl
theorem V_v7 : V m c main_v7 = hQ (a1 m c) := by unfold V; after_results; rfl
theorem V_v12 : V m c main_v12 = transpose S1024x8192 [1, 0] (hV (shapeCast S8192x8x64 (a2 m c) shapeCasts_S1x8192x8x64_S8192x8x64)) transposes_S8192x1024_S1024x8192_1_0 := by
  unfold V; after_results; rfl

theorem idx0 : ((cfgA (F := Ideal)).win 0).index t = ![(qb (stp t)).val, (hd t).val] := map0 _
theorem idx1 : ((cfgA (F := Ideal)).win 1).index t = ![(kb (stp t)).val, (hd t).val] := map1 _
theorem idx2 : ((cfgA (F := Ideal)).win 2).index t = ![(hd t).val, (kb (stp t)).val] := map2 _

theorem qB_at (a : Fin 1024) (x : Fin 128) : qB m c t (ix2 a x) = V m c main_v3 (ix2 (row (qb (stp t)) a) (lane (hd t) x)) := by
  refine congrArg (V m c main_v3) (funext fun b => Fin.ext ?_)
  refine (Window.rect_emb_val ((cfgA (F := Ideal)).win 0) t (ix2 a x) b rfl).trans ?_
  rw [idx0]
  match b with
  | ⟨0, _⟩ => show (qb (stp t)).val * 1024 + a.val = 1024 * (qb (stp t)).val + a.val; omega
  | ⟨1, _⟩ => rfl

theorem kB_at (a : Fin 1024) (x : Fin 128) : kB m c t (ix2 a x) = V m c main_v7 (ix2 (row (kb (stp t)) a) (lane (hd t) x)) := by
  refine congrArg (V m c main_v7) (funext fun b => Fin.ext ?_)
  refine (Window.rect_emb_val ((cfgA (F := Ideal)).win 1) t (ix2 a x) b rfl).trans ?_
  rw [idx1]
  match b with
  | ⟨0, _⟩ => show (kb (stp t)).val * 1024 + a.val = 1024 * (kb (stp t)).val + a.val; omega
  | ⟨1, _⟩ => rfl

theorem vB_at (x : Fin 128) (a : Fin 1024) : vB m c t (ix2 x a) = V m c main_v12 (ix2 (lane (hd t) x) (row (kb (stp t)) a)) := by
  refine congrArg (V m c main_v12) (funext fun b => Fin.ext ?_)
  refine (Window.rect_emb_val ((cfgA (F := Ideal)).win 2) t (ix2 x a) b rfl).trans ?_
  rw [idx2]
  match b with
  | ⟨0, _⟩ => rfl
  | ⟨1, _⟩ => show (kb (stp t)).val * 1024 + a.val = 1024 * (kb (stp t)).val + a.val; omega
end

section
variable {m : (ℓ : Loc nD τ sig) → Buf (Elt Ideal) ℓ} {c : Dev nD}
  {q k : Fin 8192 → Fin 8 → Fin 96 → ℝ} {v : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal))

include h0 in
theorem qB_real (t : Fin grid0.N) (a : Fin 1024) (x : Fin 128) : qB m c t (ix2 a x) = ((ext (q (row (qb (stp t)) a) (hd t)) x : ℝ) : EReal) := by
  rw [qB_at, V_v3]; exact hQ_real h0 _ _ _

include h1 in
theorem kB_real (t : Fin grid0.N) (a : Fin 1024) (x : Fin 128) : kB m c t (ix2 a x) = ((ext (k (row (kb (stp t)) a) (hd t)) x : ℝ) : EReal) := by
  rw [kB_at, V_v7]; exact hQ_real h1 _ _ _

include h2 in
theorem vB_real (t : Fin grid0.N) (x : Fin 128) (a : Fin 1024) : vB m c t (ix2 x a) = ((ext (v (row (kb (stp t)) a) (hd t)) x : ℝ) : EReal) := by
  rw [vB_at, V_v12]
  refine Eq.trans ?_ (hV_real (hV2_real h2) (row (kb (stp t)) a) (hd t) x)
  generalize hV _ = y
  pointwise
end

end Cert.Kernel11Ideal.Attn

end
-- ==== Proof.FVal.Online.lean ====
/- A softmax taken one block of keys at a time: what a row's running maximum, sum and weighted sum are after every block. -/
module

public import proofs.«01_k».proof.Proof.Val.Real

@[expose] public section

set_option maxRecDepth 16384

noncomputable section

namespace Cert.Kernel11Ideal.Attn

open Cert.KernelIdeal.Attn (coe_sum row sum_rows)
open Idealize.ShloMosaic

/-- The maximum after a block of scores, -/
def upM (m : EReal) (s : Fin 1024 → EReal) : EReal := max m (Finset.univ.fold max ⊥ s)

/-- the sum of the weights, -/
def upL (m l : EReal) (s : Fin 1024 → EReal) : EReal := Ideal.exp2 (m - upM m s) * l + ∑ a, Ideal.exp2 (s a - upM m s)

/-- and the weighted sum of some numbers. -/
def upA (m c : EReal) (s v : Fin 1024 → EReal) : EReal := Ideal.exp2 (m - upM m s) * c + ∑ a, v a * Ideal.exp2 (s a - upM m s)

/-- A number as a power's reciprocal. -/
def wt (M : ℝ) : ℝ := Real.exp (-(M * Real.log 2))

theorem wt_pos (M : ℝ) : 0 < wt M := Real.exp_pos _

theorem exp2_sub (x M : ℝ) : Ideal.exp2 ((x : EReal) - (M : EReal)) = ((Real.exp (x * Real.log 2) * wt M : ℝ) : EReal) := by
  rw [← EReal.coe_sub, Ideal.exp2_coe, Real.rpow_eq_pow, Real.rpow_def_of_pos (by norm_num)]
  unfold wt
  rw [← Real.exp_add]
  exact congrArg _ (congrArg Real.exp (by ring))

theorem wt_move (M M' : ℝ) : Ideal.exp2 ((M : EReal) - (M' : EReal)) = ((wt M' / wt M : ℝ) : EReal) := by
  rw [exp2_sub]
  refine congrArg _ ?_
  unfold wt
  rw [← Real.exp_add, ← Real.exp_sub]
  exact congrArg Real.exp (by ring)

/-- A sum over the first blocks of keys. -/
def seen (n : ℕ) (f : Fin 8192 → ℝ) : ℝ := ∑ j : Fin 8, if j.val < n then ∑ a, f (row j a) else 0

theorem seen_zero (f : Fin 8192 → ℝ) : seen 0 f = 0 := by
  unfold seen
  exact Finset.sum_eq_zero fun j _ => if_neg (Nat.not_lt_zero _)

theorem seen_succ (f : Fin 8192 → ℝ) (j : Fin 8) : seen (j.val + 1) f = seen j.val f + ∑ a, f (row j a) := by
  have e : ∑ a, f (row j a) = ∑ j' : Fin 8, if j' = j then ∑ a, f (row j' a) else 0 := by
    rw [Finset.sum_ite_eq' Finset.univ j, if_pos (Finset.mem_univ j)]
  unfold seen
  rw [e, ← Finset.sum_add_distrib]
  refine Finset.sum_congr rfl fun j' _ => ?_
  by_cases h : j' = j
  · subst h
    rw [if_pos (Nat.lt_succ_self _), if_neg (Nat.lt_irrefl _), if_pos rfl, zero_add]
  · have h' : j'.val ≠ j.val := fun e => h (Fin.ext e)
    rw [if_neg h, add_zero]
    by_cases hl : j'.val < j.val
    · rw [if_pos (by omega), if_pos hl]
    · rw [if_neg (by omega), if_neg hl]

theorem seen_all (f : Fin 8192 → ℝ) (i : Fin 8) (hf : ∀ (j : Fin 8) (a : Fin 1024), i < j → f (row j a) = 0) : seen (i.val + 1) f = ∑ j, f j := by
  unfold seen
  rw [sum_rows]
  refine Finset.sum_congr rfl fun j _ => ?_
  by_cases h : j.val < i.val + 1
  · exact if_pos h
  · rw [if_neg h]
    exact (Finset.sum_eq_zero fun a _ => hf j a (by show i.val < j.val; omega)).symm

/-- What a row holds after the first `n` blocks: a maximum `M`, and sums of weights and of weighted numbers relative to it. -/
structure Row {ι : Type} (E : Fin 8192 → ℝ) (v : ι → Fin 8192 → ℝ) (n : ℕ) (m l : EReal) (c : ι → EReal) : Prop where
  first : n = 0 → m = ⊥ ∧ l = 0 ∧ ∀ x, c x = 0
  later : n ≠ 0 → ∃ M : ℝ, m = (M : EReal) ∧ l = ((seen n E * wt M : ℝ) : EReal) ∧ ∀ x, c x = ((seen n (fun j => v x j * E j) * wt M : ℝ) : EReal)

section
variable {s : Fin 1024 → EReal} {S : Fin 1024 → ℝ} {live : Fin 1024 → Prop} [DecidablePred live]

/-- A maximum of real scores, of which there is one, is real. -/
theorem upM_real (hs : ∀ a, s a = if live a then ((S a : ℝ) : EReal) else ⊥) {a : Fin 1024} (ha : live a) {m : EReal} (hm : m < ⊤) :
    ∃ M : ℝ, upM m s = (M : EReal) := by
  refine ⟨(upM m s).toReal, (EReal.coe_toReal ?_ ?_).symm⟩
  · refine ne_of_lt (max_lt hm ((Finset.fold_max_lt _).2 ⟨bot_lt_top, fun j _ => ?_⟩))
    rw [hs]
    split
    · exact EReal.coe_lt_top _
    · exact bot_lt_top
  · refine ne_of_gt (lt_max_of_lt_right ((Finset.lt_fold_max _).2 (.inr ⟨a, Finset.mem_univ _, ?_⟩)))
    rw [hs, if_pos ha]
    exact EReal.bot_lt_coe _

theorem exp2_score (hs : ∀ a, s a = if live a then ((S a : ℝ) : EReal) else ⊥) (a : Fin 1024) (M : ℝ) :
    Ideal.exp2 (s a - (M : EReal)) = (((if live a then Real.exp (S a * Real.log 2) else 0) * wt M : ℝ) : EReal) := by
  rw [hs]
  by_cases h : live a
  · rw [if_pos h, if_pos h, exp2_sub]
  · rw [if_neg h, if_neg h, EReal.bot_sub, zero_mul]; rfl

/-- One block more. -/
theorem Row.next {ι : Type} {E : Fin 8192 → ℝ} {v : ι → Fin 8192 → ℝ} {m l : EReal} {c : ι → EReal} (j : Fin 8) (h : Row E v j.val m l c)
    (hs : ∀ a, s a = if live a then ((S a : ℝ) : EReal) else ⊥) {a : Fin 1024} (ha : live a)
    (hE : ∀ a, E (row j a) = if live a then Real.exp (S a * Real.log 2) else 0) {w : ι → Fin 1024 → EReal} (hw : ∀ x a, w x a = ((v x (row j a) : ℝ) : EReal)) :
    Row E v (j.val + 1) (upM m s) (upL m l s) (fun x => upA m (c x) s (w x)) := by
  have hm : m < ⊤ := by
    by_cases h0 : j.val = 0
    · rw [(h.first h0).1]; exact bot_lt_top
    · obtain ⟨M, e, -⟩ := h.later h0
      rw [e]; exact EReal.coe_lt_top _
  obtain ⟨M', eM⟩ := upM_real hs ha hm
  have old : ∀ {y : EReal} {f : Fin 8192 → ℝ}, (j.val = 0 → y = 0) → (∀ M : ℝ, m = (M : EReal) → y = ((seen j.val f * wt M : ℝ) : EReal)) →
      Ideal.exp2 (m - (M' : EReal)) * y = ((seen j.val f * wt M' : ℝ) : EReal) := by
    intro y f hy0 hy
    by_cases h0 : j.val = 0
    · rw [hy0 h0, mul_zero, h0, seen_zero, zero_mul]; rfl
    · obtain ⟨M, e, -⟩ := h.later h0
      rw [hy M e, e, wt_move, ← EReal.coe_mul]
      refine congrArg _ ?_
      have := (wt_pos M).ne'
      field_simp
  have real : ∀ {M : ℝ}, m = (M : EReal) → j.val ≠ 0 := by
    intro M e h0
    rw [(h.first h0).1] at e
    exact absurd e (EReal.bot_ne_coe M)
  refine ⟨fun h0 => absurd h0 (Nat.succ_ne_zero _), fun _ => ⟨M', eM, ?_, fun x => ?_⟩⟩
  · unfold upL
    rw [eM, old (f := E) (fun h0 => (h.first h0).2.1) fun M e => ?_]
    · simp only [exp2_score hs, ← coe_sum]
      rw [← EReal.coe_add, seen_succ, add_mul, Finset.sum_mul]
      simp only [hE]
    · obtain ⟨M₁, e₁, e₂, -⟩ := h.later (real e)
      rw [EReal.coe_eq_coe_iff.1 (e.symm.trans e₁)]
      exact e₂
  · unfold upA
    rw [eM, old (f := fun j => v x j * E j) (fun h0 => (h.first h0).2.2 x) fun M e => ?_]
    · simp only [exp2_score hs, hw, ← EReal.coe_mul, ← coe_sum]
      rw [← EReal.coe_add, seen_succ, add_mul, Finset.sum_mul]
      simp only [hE, mul_assoc]
    · obtain ⟨M₁, e₁, -, e₂⟩ := h.later (real e)
      rw [EReal.coe_eq_coe_iff.1 (e.symm.trans e₁)]
      exact e₂ x

end

end Cert.Kernel11Ideal.Attn

end
-- ==== Proof.FVal.Step.lean ====
/- What a step of the attention kernel computes: a row's maximum and sums after one block of scores more. -/
module

public import proofs.«01_k».proof.Proof.FI.Steps
public import proofs.«01_k».proof.Proof.FVal.Online
public import proofs.«01_k».proof.Proof.Val.HostReal
public import Idealize.ShloMosaic.Lib.Pointwise

@[expose] public section

set_option maxRecDepth 16384

noncomputable section

namespace Cert.Kernel11Ideal.Attn

open Cert.KernelIdeal.Attn (coe_sum scl ofBits_ninf sle_small)
open Gen
open Idealize.ShloMosaic TcCoe Pointwise
open Idealize.SL.Sem

theorem named_scale2 : Named.named (F := Ideal) κ "scale2" (φ := .f32) 0x3E16C740#32 = ((scl * (Real.log 2)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem named_log2e : Named.named (F := Ideal) κ "log2e" (φ := .f32) 0x3FB8AA3B#32 = (((Real.log 2)⁻¹ : ℝ) : EReal) :=
  IdealRules.named_const.ideal_named_scalar _ _ _ _ rfl

/-- A score to base two. -/
def sc2 (Q K : Fin 1024 → Fin 128 → ℝ) (a b : Fin 1024) : ℝ := (∑ x, K a x * Q b x) * (scl * (Real.log 2)⁻¹)

section
variable {q k : Vec Ideal S1024x128 .bf16} {v : Vec Ideal S128x1024 .bf16} {m l : Vec Ideal S1x1024 .f32} {c : Vec Ideal S128x1024 .f32}
  {Q K : Fin 1024 → Fin 128 → ℝ} {s : Fin 1024 → Fin 1024 → EReal}

theorem pay5_real (hq : ∀ a x, q (ix2 a x) = ((Q a x : ℝ) : EReal)) (hk : ∀ a x, k (ix2 a x) = ((K a x : ℝ) : EReal)) (a b : Fin 1024) :
    k0_pay5 k q (ix2 a b) = ((sc2 Q K a b : ℝ) : EReal) := by
  pointwise [k0_pay5]
  simp only [named_scale2, hq, hk, ← EReal.coe_mul, ← coe_sum]
  rfl

theorem pay11_real {n : Fin 36} (hn : qb n = kb n) (hq : ∀ a x, q (ix2 a x) = ((Q a x : ℝ) : EReal)) (hk : ∀ a x, k (ix2 a x) = ((K a x : ℝ) : EReal))
    (a b : Fin 1024) : k0_pay11 (F := Ideal) (lit0 n) (lit1 n) k q (ix2 a b) = if a ≤ b then ((sc2 Q K a b : ℝ) : EReal) else ⊥ := by
  have e1 : ∀ n : Fin 36, lit1 n = BitVec.ofNat 32 (kb n).val := by decide +kernel
  have e0 : ∀ n : Fin 36, lit0 n = BitVec.ofNat 32 (qb n).val := by decide +kernel
  have em : ∀ (i : Fin 8) (a : Fin 1024), IntOp.addi (Scalar.muli (BitVec.ofNat 32 i.val) 1024#32) (BitVec.ofNat 32 a.val) = BitVec.ofNat 32 (1024 * i.val + a.val) := by
    intro i a
    apply BitVec.eq_of_toNat_eq
    show (BitVec.ofNat 32 i.val * 1024#32 + BitVec.ofNat 32 a.val).toNat = _
    simp; omega
  pointwise [k0_pay11]
  simp only [named_scale2, named_mask, hq, hk, ← EReal.coe_mul, ← coe_sum, e1, e0, em, hn]
  rw [sle_small (by omega) (by omega)]
  by_cases h : a ≤ b
  · have h' : 1024 * (kb n).val + a.val ≤ 1024 * (kb n).val + b.val := by have : a.val ≤ b.val := h; omega
    rw [if_pos h', if_pos h]; rfl
  · have h' : ¬ 1024 * (kb n).val + a.val ≤ 1024 * (kb n).val + b.val := by have : ¬ a.val ≤ b.val := h; omega
    rw [if_neg h', if_neg h]; rfl

/-- A step without a mask, read. -/
theorem stFull_real (hs : ∀ a b, k0_pay5 k q (ix2 a b) = s a b) (b : Fin 1024) :
    (stFull q k v (m, l, c)).1 (ix2 0 b) = upM (m (ix2 0 b)) (fun a => s a b)
    ∧ (stFull q k v (m, l, c)).2.1 (ix2 0 b) = upL (m (ix2 0 b)) (l (ix2 0 b)) (fun a => s a b)
    ∧ ∀ x, (stFull q k v (m, l, c)).2.2 (ix2 x b) = upA (m (ix2 0 b)) (c (ix2 x b)) (fun a => s a b) (fun a => v (ix2 x a)) := by
  have e6 : k0_pay6 k q m (ix2 0 b) = upM (m (ix2 0 b)) (fun a => s a b) := by
    pointwise [k0_pay6]
    simp only [hs, ofBits_ninf]
    rfl
  have e7 : k0_pay7 k q m (ix2 0 b) = Ideal.exp2 (m (ix2 0 b) - upM (m (ix2 0 b)) (fun a => s a b)) := by
    rw [← e6]; rfl
  have e8 : ∀ a, k0_pay8 k q m (ix2 a b) = Ideal.exp2 (s a b - upM (m (ix2 0 b)) (fun a => s a b)) := fun a => by
    pointwise [k0_pay8]
    simp only [hs, e6]
    rfl
  unfold stFull
  refine ⟨?_, ?_, fun x => ?_⟩
  · pointwise [k0_pay20]
    exact e6
  · pointwise [k0_pay9]
    simp only [e7, e8]
    rfl
  · pointwise [k0_pay10]
    simp only [e7, e8]
    rfl

/-- One with a mask. -/
theorem stDiag_real {n : Fin 36} (hs : ∀ a b, k0_pay11 (F := Ideal) (lit0 n) (lit1 n) k q (ix2 a b) = s a b) (b : Fin 1024) :
    (stDiag n q k v (m, l, c)).1 (ix2 0 b) = upM (m (ix2 0 b)) (fun a => s a b)
    ∧ (stDiag n q k v (m, l, c)).2.1 (ix2 0 b) = upL (m (ix2 0 b)) (l (ix2 0 b)) (fun a => s a b)
    ∧ ∀ x, (stDiag n q k v (m, l, c)).2.2 (ix2 x b) = upA (m (ix2 0 b)) (c (ix2 x b)) (fun a => s a b) (fun a => v (ix2 x a)) := by
  have e6 : k0_pay12 (lit0 n) (lit1 n) k q m (ix2 0 b) = upM (m (ix2 0 b)) (fun a => s a b) := by
    pointwise [k0_pay12]
    simp only [hs, ofBits_ninf]
    rfl
  have e7 : k0_pay13 (lit0 n) (lit1 n) k q m (ix2 0 b) = Ideal.exp2 (m (ix2 0 b) - upM (m (ix2 0 b)) (fun a => s a b)) := by
    rw [← e6]; rfl
  have e8 : ∀ a, k0_pay14 (lit0 n) (lit1 n) k q m (ix2 a b) = Ideal.exp2 (s a b - upM (m (ix2 0 b)) (fun a => s a b)) := fun a => by
    pointwise [k0_pay14]
    simp only [hs, e6]
    rfl
  unfold stDiag
  refine ⟨?_, ?_, fun x => ?_⟩
  · pointwise [k0_pay2]
    exact e6
  · pointwise [k0_pay15]
    simp only [e7, e8]
    rfl
  · pointwise [k0_pay1, k0_pay16]
    simp only [e7, e8]
    rfl

/-- What the first block of keys starts from. -/
theorem stInit_real (b : Fin 1024) : (stInit (F := Ideal)).1 (ix2 0 b) = (⊥ : EReal) ∧ (stInit (F := Ideal)).2.1 (ix2 0 b) = (0 : EReal)
    ∧ ∀ x, (stInit (F := Ideal)).2.2 (ix2 x b) = (0 : EReal) := by
  unfold stInit
  refine ⟨?_, ?_, fun x => ?_⟩
  · pointwise [k0_pay17]
    exact named_mask
  · pointwise [k0_pay18]
  · pointwise [k0_pay19]

/-- The output block of a row of queries. -/
theorem outO_real (y : St Ideal) (a : Fin 1024) (x : Fin 128) : outO y (ix2 a x) = Ideal.div (y.2.2 (ix2 x a)) (y.2.1 (ix2 0 a)) := by
  unfold outO
  pointwise [k0_pay3]

/-- Its saved logarithm. -/
theorem outL_real (y : St Ideal) (a : Fin 1024) : outL y (ix3 0 0 a) = (y.1 (ix2 0 a) + Ideal.log (y.2.1 (ix2 0 a)) * (((Real.log 2)⁻¹ : ℝ) : EReal) : EReal) := by
  unfold outL
  pointwise [k0_pay4]
  simp only [named_log2e]

end

end Cert.Kernel11Ideal.Attn

end
-- ==== Proof.FVal.Real.lean ====
/- Attention over the reals from the exponentials of the scores as they are. -/
module

public import proofs.«01_k».proof.Proof.Val.Real
public import proofs.«01_k».proof.Proof.FVal.Online

@[expose] public section

set_option maxRecDepth 16384

noncomputable section

namespace Cert.Kernel11Ideal.Attn

open Cert.KernelIdeal.Attn (Sc Mx Ex Lx Lx_pos Px Ox Lse ext ext_sum ext_mul)

variable (q k : Fin 8192 → Fin 8 → Fin 96 → ℝ) (v : Fin 8192 → Fin 8 → Fin 64 → ℝ)

/-- The exponential of a score; zero of a later key. -/
def Ez (h : Fin 8) (p j : Fin 8192) : ℝ := if j ≤ p then Real.exp (Sc q k h p j) else 0

theorem Ez_eq (h : Fin 8) (p j : Fin 8192) : Ez q k h p j = Ex q k h p j * Real.exp (Mx q k h p) := by
  unfold Ez Ex
  by_cases hj : j ≤ p
  · rw [if_pos hj, if_pos hj, ← Real.exp_add, sub_add_cancel]
  · rw [if_neg hj, if_neg hj, zero_mul]

theorem sum_Ez (h : Fin 8) (p : Fin 8192) : ∑ j, Ez q k h p j = Lx q k h p * Real.exp (Mx q k h p) := by
  unfold Lx
  rw [Finset.sum_mul]
  exact Finset.sum_congr rfl fun j _ => Ez_eq q k h p j

theorem sum_Ez_pos (h : Fin 8) (p : Fin 8192) : 0 < ∑ j, Ez q k h p j := by
  rw [sum_Ez]
  exact mul_pos (Lx_pos q k h p) (Real.exp_pos _)

/-- The output as the quotient of two sums over any maximum. -/
theorem out_eq (h : Fin 8) (p : Fin 8192) (M : ℝ) (x : Fin 128) :
    (∑ j, ext (v j h) x * Ez q k h p j) * wt M * ((∑ j, Ez q k h p j) * wt M)⁻¹ = ext (Ox q k v p h) x := by
  have hO : Ox q k v p h = fun d => ∑ j, v j h d * Px q k h p j := rfl
  have e : ∀ j, ext (fun d => v j h d * Px q k h p j) x = ext (v j h) x * Px q k h p j := fun j => by
    rw [mul_comm (ext (v j h) x), ← ext_mul]
    exact congrArg (fun f => ext f x) (funext fun d => mul_comm _ _)
  rw [hO, ext_sum, sum_Ez, Finset.sum_mul, Finset.sum_mul]
  refine Finset.sum_congr rfl fun j _ => ?_
  have hw := (wt_pos M).ne'
  have hL := (Lx_pos q k h p).ne'
  have hm := (Real.exp_pos (Mx q k h p)).ne'
  rw [e, Ez_eq]
  unfold Px
  field_simp

/-- The saved logarithm likewise. -/
theorem lse_eq (h : Fin 8) (p : Fin 8192) (M : ℝ) : M + Real.log ((∑ j, Ez q k h p j) * wt M) * (Real.log 2)⁻¹ = Lse q k h p := by
  have h2 : Real.log 2 ≠ 0 := (Real.log_pos (by norm_num)).ne'
  rw [Real.log_mul (sum_Ez_pos q k h p).ne' (wt_pos M).ne', sum_Ez, Real.log_mul (Lx_pos q k h p).ne' (Real.exp_pos _).ne', Real.log_exp]
  unfold wt Lse
  rw [Real.log_exp]
  field_simp
  ring

end Cert.Kernel11Ideal.Attn

end
-- ==== Proof.FVal.Rows.lean ====
/- What the attention kernel carries after every step, over real arguments: its rows' maxima and sums over the keys so far. -/
module

public import proofs.«01_k».proof.Proof.FVal.Blocks
public import proofs.«01_k».proof.Proof.FVal.Step
public import proofs.«01_k».proof.Proof.FVal.Real
public import proofs.«01_k».proof.Proof.Val.Accum

@[expose] public section

set_option maxRecDepth 16384

noncomputable section

namespace Cert.Kernel11Ideal.Attn

open Cert.KernelIdeal.Attn (row lane ext sum_ext scl Sc row_le_iff row_lt)
open Gen
open Idealize.ShloMosaic TcCoe Pointwise Tactic
open Idealize.SL.Sem

theorem kb_le : ∀ n : Fin 36, kb n ≤ qb n := by decide +kernel

/-- The step before one that goes on with a row of queries is at the block of keys before. -/
theorem before_step : ∀ n n' : Fin 36, (kb n).val ≠ 0 → n'.val + 1 = n.val → qb n' = qb n ∧ (kb n').val + 1 = (kb n).val := by decide +kernel

section
variable (q k : Fin 8192 → Fin 8 → Fin 96 → ℝ) (v : Fin 8192 → Fin 8 → Fin 64 → ℝ)

/-- The state is that of the queries of block `i` and head `h` after `n` blocks of keys. -/
def Rows (h i : Fin 8) (n : ℕ) (y : St Ideal) : Prop :=
  ∀ b : Fin 1024, Row (Ez q k h (row i b)) (fun x j => ext (v j h) x) n (y.1 (ix2 0 b)) (y.2.1 (ix2 0 b)) (fun x : Fin 128 => y.2.2 (ix2 x b))

theorem sc2_eq (h i j : Fin 8) (a b : Fin 1024) :
    sc2 (fun b x => ext (q (row i b) h) x) (fun a x => ext (k (row j a) h) x) a b = Sc q k h (row i b) (row j a) * (Real.log 2)⁻¹ := by
  unfold sc2 Sc
  rw [sum_ext (by norm_num), ← mul_assoc]
  exact congrArg (fun z => z * scl * (Real.log 2)⁻¹) (Finset.sum_congr rfl fun d _ => mul_comm _ _)

theorem Ez_score (h i j : Fin 8) (b a : Fin 1024) :
    Ez q k h (row i b) (row j a) = if row j a ≤ row i b then Real.exp (Sc q k h (row i b) (row j a) * (Real.log 2)⁻¹ * Real.log 2) else 0 := by
  rw [mul_assoc, inv_mul_cancel₀ (Real.log_pos (by norm_num)).ne', mul_one]
  rfl
end

section
variable {m : (ℓ : Loc nD τ sig) → Buf (Elt Ideal) ℓ} {c : Dev nD}
  {q k : Fin 8192 → Fin 8 → Fin 96 → ℝ} {v : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal))

theorem first_live {i j : Fin 8} (h : j ≤ i) (b : Fin 1024) : row j 0 ≤ row i b := by
  have h' : j.val ≤ i.val := h
  show 1024 * j.val + 0 ≤ 1024 * i.val + b.val
  omega

include h0 h1 h2

/-- A step takes one block of keys more. -/
theorem rows_step (t : Fin grid0.N) {y : St Ideal} (hy : Rows q k v (hd t) (qb (stp t)) (kb (stp t)).val (stFrom (stp t) y)) :
    Rows q k v (hd t) (qb (stp t)) ((kb (stp t)).val + 1) (stStep (stp t) (qB m c t) (kB m c t) (vB m c t) y) := by
  intro b
  have hy := hy b
  unfold stStep
  generalize stFrom (stp t) y = z at hy ⊢
  obtain ⟨zm, zl, zc⟩ := z
  have hw : ∀ (x : Fin 128) (a : Fin 1024), (vB m c t (ix2 x a) : EReal) = ((ext (v (row (kb (stp t)) a) (hd t)) x : ℝ) : EReal) := fun x a => vB_real h2 t x a
  by_cases hn : qb (stp t) = kb (stp t)
  · rw [if_pos hn]
    obtain ⟨e1, e2, e3⟩ := stDiag_real (q := qB m c t) (k := kB m c t) (v := vB m c t) (m := zm) (l := zl) (c := zc)
      (pay11_real hn (qB_real h0 t) (kB_real h1 t)) b
    rw [e1, e2, funext e3]
    refine hy.next (kb (stp t)) (live := fun a => row (kb (stp t)) a ≤ row (qb (stp t)) b) (fun a => ?_) (first_live (kb_le _) b) (fun a => Ez_score q k _ _ _ b a) hw
    rw [sc2_eq]
    refine if_congr ?_ rfl rfl
    rw [hn, row_le_iff]
  · rw [if_neg hn]
    obtain ⟨e1, e2, e3⟩ := stFull_real (q := qB m c t) (k := kB m c t) (v := vB m c t) (m := zm) (l := zl) (c := zc)
      (pay5_real (qB_real h0 t) (kB_real h1 t)) b
    rw [e1, e2, funext e3]
    refine hy.next (kb (stp t)) (live := fun a => row (kb (stp t)) a ≤ row (qb (stp t)) b) (fun a => ?_) (first_live (kb_le _) b) (fun a => Ez_score q k _ _ _ b a) hw
    rw [sc2_eq]
    exact (if_pos (row_lt (lt_of_le_of_ne (kb_le (stp t)) fun e => hn e.symm) a b)).symm

/-- What every step leaves. -/
theorem rows_all (n : ℕ) (t : Fin grid0.N) (et : t.val = n) : Rows q k v (hd t) (qb (stp t)) ((kb (stp t)).val + 1) (outs m c t.val) := by
  induction n using Nat.strong_induction_on generalizing t with
  | _ n ih =>
    rw [outs_of m c t (outs m c (t.val - 1)) fun _ => rfl]
    refine rows_step h0 h1 h2 t ?_
    by_cases hk : (kb (stp t)).val = 0
    · intro b
      unfold stFrom
      rw [if_pos hk, hk]
      exact ⟨fun _ => stInit_real b, fun h => absurd rfl h⟩
    · unfold stFrom
      rw [if_neg hk]
      have hz : ¬ (stp t).val = 0 := fun e => hk (first_zero _ e)
      have es : (stp t).val = t.val % 36 := step_coords t
      have hl := lt_288 t
      have hp : t.val - 1 < grid0.N := lt_of_lt_of_eq (by omega) N_0.symm
      have e1 : (stp ⟨t.val - 1, hp⟩).val + 1 = (stp t).val := by rw [step_coords, step_coords]; show (t.val - 1) % 36 + 1 = t.val % 36; omega
      have e2 : hd ⟨t.val - 1, hp⟩ = hd t := Fin.ext (by rw [head_coords, head_coords]; show (t.val - 1) / 36 % 8 = t.val / 36 % 8; omega)
      obtain ⟨eq, ek⟩ := before_step _ _ hk e1
      have := ih (t.val - 1) (by omega) ⟨t.val - 1, hp⟩ rfl
      rw [e2, eq, ek] at this
      exact this
end

end Cert.Kernel11Ideal.Attn

end
-- ==== Proof.FI.Frame.lean ====
/- The body's obligation at every step, the launch and the frame. -/
module

public import proofs.«01_k».proof.Proof.FI.Data

@[expose] public section

set_option maxRecDepth 16384

noncomputable section

namespace Cert.Kernel11Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Pt F) : Memref sig .tc .vmem S1024x128 .bf16 := spec0_0.stage ((cfgA (F := F)).slots t 0)
abbrev hs0 (t : Pt F) : (ms0 t).IsWhole := hstage0_0 (((cfgA (F := F)).slots t 0).cast nbuf0_0)
abbrev ms1 (t : Pt F) : Memref sig .tc .vmem S1024x128 .bf16 := spec0_1.stage ((cfgA (F := F)).slots t 1)
abbrev hs1 (t : Pt F) : (ms1 t).IsWhole := hstage0_1 (((cfgA (F := F)).slots t 1).cast nbuf0_1)
abbrev ms2 (t : Pt F) : Memref sig .tc .vmem S128x1024 .bf16 := spec0_2.stage ((cfgA (F := F)).slots t 2)
abbrev hs2 (t : Pt F) : (ms2 t).IsWhole := hstage0_2 (((cfgA (F := F)).slots t 2).cast nbuf0_2)
abbrev ms3 (t : Pt F) : Memref sig .tc .vmem S1024x128 .bf16 := spec0_3.stage ((cfgA (F := F)).slots t 3)
abbrev hs3 (t : Pt F) : (ms3 t).IsWhole := hstage0_3 (((cfgA (F := F)).slots t 3).cast nbuf0_3)
abbrev ms4 (t : Pt F) : Memref sig .tc .vmem S1x1x1024 .f32 := spec0_4.stage ((cfgA (F := F)).slots t 4)
abbrev hs4 (t : Pt F) : (ms4 t).IsWhole := hstage0_4 (((cfgA (F := F)).slots t 4).cast nbuf0_4)

/-- The two tables' buffers. -/
abbrev tab0 : Memref sig .tc .smem S36 .i32 := Memref.whole main_c
abbrev tab1 : Memref sig .tc .smem S36 .i32 := Memref.whole main_c_0

/-- The body at a step. -/
abbrev bodyAt (t : Pt F) :=
  cc0_mla_attn_fwd (F := F) (grid0.coords t) tab0 (Memref.isWhole_whole _) tab1 (Memref.isWhole_whole _) (ms0 t) (hs0 t) (ms1 t) (hs1 t) (ms2 t) (hs2 t) (ms3 t) (hs3 t) (ms4 t) (hs4 t) scr0 (Memref.isWhole_whole _) scr1 (Memref.isWhole_whole _) scr2 (Memref.isWhole_whole _)

/-- The tables' share of the invariant, table by table. -/
theorem tables_eq (c : Dev nD) : (Pipeline.ΦT pre0 (tabs (F := F)) c : sProp 𝕄)
    = iprop((tab0.view.loc (c : Thread nD τ) ↦[tab0.view.set]{fullShare.right} (tabs (F := F)) 0)
      ∗ (tab1.view.loc (c : Thread nD τ) ↦[tab1.view.set]{fullShare.right} (tabs (F := F)) 1)) := by
  rw [show tab0.view.set = Finset.univ from View.set_whole main_c, show tab1.view.set = Finset.univ from View.set_whole main_c_0]
  exact bigSep_univ_eq_bigSepL [(0 : Fin 2), (1 : Fin 2)] (by decide) (by decide) _

theorem word0 (c : Dev nD) (i : grid0.Coords) : word (F := F) c i tab0 ((tabs (F := F)) 0) = lit0 (stepOf i) := tabs_at0 (F := F) i
theorem word1 (c : Dev nD) (i : grid0.Coords) : word (F := F) c i tab1 ((tabs (F := F)) 1) = lit1 (stepOf i) := tabs_at1 (F := F) i

/-- A step runs from what it carries to what the step makes of it, and writes the outputs on the diagonal only. -/
theorem run_any (c : Dev nD) (i : grid0.Coords) (arg2 : Memref sig .tc .smem S36 .i32) (harg2 : arg2.IsWhole) (arg3 : Memref sig .tc .smem S36 .i32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p2 p3 : PosShare TreeShare) (f2 : Buf (Elt F) (arg2.view.loc (c : Thread nD τ))) (f3 : Buf (Elt F) (arg3.view.loc (c : Thread nD τ)))
    (w2 : word c i arg2 f2 = lit0 (stepOf i)) (w3 : word c i arg3 f3 = lit1 (stepOf i))
    (x4 : Vec F S1024x128 .bf16) (x5 : Vec F S1024x128 .bf16) (x6 : Vec F S128x1024 .bf16) (x7 : Vec F S1024x128 .bf16) (x8 : Vec F S1x1x1024 .f32) (y : St F) :
    Runs c i arg2 harg2 arg3 harg3 arg4 harg4 arg5 harg5 arg6 harg6 arg7 harg7 arg8 harg8 arg9 harg9 arg10 harg10 arg11 harg11 p2 p3 f2 f3 x4 x5 x6 x7 x8 y (stStep (stepOf i) x4 x5 x6 y)
      (if qb (stepOf i) = kb (stepOf i) then outO (stStep (stepOf i) x4 x5 x6 y) else x7)
      (if qb (stepOf i) = kb (stepOf i) then outL (stStep (stepOf i) x4 x5 x6 y) else x8) := by
  unfold stStep stFrom
  by_cases he : qb (stepOf i) = kb (stepOf i) <;> by_cases hf : (kb (stepOf i)).val = 0 <;> simp only [he, hf, if_true, if_false]
  · exact run_sole c i arg2 harg2 arg3 harg3 arg4 harg4 arg5 harg5 arg6 harg6 arg7 harg7 arg8 harg8 arg9 harg9 arg10 harg10 arg11 harg11 p2 p3 f2 f3 w2 w3 hf he x4 x5 x6 x7 x8 y
  · exact run_diag c i arg2 harg2 arg3 harg3 arg4 harg4 arg5 harg5 arg6 harg6 arg7 harg7 arg8 harg8 arg9 harg9 arg10 harg10 arg11 harg11 p2 p3 f2 f3 w2 w3 hf he x4 x5 x6 x7 x8 y
  · exact run_first c i arg2 harg2 arg3 harg3 arg4 harg4 arg5 harg5 arg6 harg6 arg7 harg7 arg8 harg8 arg9 harg9 arg10 harg10 arg11 harg11 p2 p3 f2 f3 w2 w3 hf he x4 x5 x6 x7 x8 y
  · exact run_full c i arg2 harg2 arg3 harg3 arg4 harg4 arg5 harg5 arg6 harg6 arg7 harg7 arg8 harg8 arg9 harg9 arg10 harg10 arg11 harg11 p2 p3 f2 f3 w2 w3 hf he x4 x5 x6 x7 x8 y

/-- What the body is called with, -/
def bodyPre (c : Dev nD) (t : Pt F) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns: the outputs' buffers written on the diagonal only. -/
def bodyPost (c : Dev nD) (t : Pt F) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare (if qb (stepOf (grid0.coords t)) = kb (stepOf (grid0.coords t)) then (dats m 0 c).after 3 t else (dats m 0 c).before 3 t d))
    ∗ (∃ d, owns (c : Thread nD τ) (ms4 t) fullShare (if qb (stepOf (grid0.coords t)) = kb (stepOf (grid0.coords t)) then (dats m 0 c).after 4 t else (dats m 0 c).before 4 t d)))

theorem inv_eq (c : Dev nD) (t : Fin ((cfgA (F := F)).N + 1)) : (dats m 0 c).Φ t
    = iprop((∃ y : St F, ⌜t.val ≠ 0 → y = outs m c (t.val - 1)⌝ ∗ carried c y) ∗ (∃ r, prngReg c r) ∗ Pipeline.ΦT pre0 (tabs (F := F)) c) := rfl

/-- Before a step, -/
theorem inv_pre (c : Dev nD) (t : Pt F) : (dats m 0 c).Φ t.castSucc
    = iprop((∃ y : St F, ⌜t.val ≠ 0 → y = outs m c (t.val - 1)⌝ ∗ carried c y) ∗ (∃ r, prngReg c r) ∗ Pipeline.ΦT pre0 (tabs (F := F)) c) := by
  rw [inv_eq, Fin.val_castSucc]

/-- and after it. -/
theorem inv_post (c : Dev nD) (t : Pt F) : (dats m 0 c).Φ t.succ
    = iprop((∃ y : St F, ⌜t.val + 1 ≠ 0 → y = outs m c t.val⌝ ∗ carried c y) ∗ (∃ r, prngReg c r) ∗ Pipeline.ΦT pre0 (tabs (F := F)) c) := by
  rw [inv_eq, Fin.val_succ, Nat.add_sub_cancel]

set_option maxHeartbeats 1600000 in
/-- The body at any step. -/
theorem sound_body (c : Dev nD) (t : Pt F) :
    bodyPre m c t ⊢ wp frame (wpE (defs₀ (F := F)) Variants.none c none) Set.univ (bodyAt t) (fun _ => bodyPost m c t) := by
  unfold bodyPre bodyPost
  simp only [before0, before1, before2]
  rw [show (dats m 0 c).owesAt () t.succ = (dats m 0 c).owesAt () t.castSucc from rfl, inv_pre, inv_post, tables_eq, after0, after1, after2, after3, after4]
  unfold carried
  iintro ⟨⟨⟨%y, %hy, C0, C1, C2⟩, Hr, T0, T1⟩, Ho, ⟨%d0, H0⟩, ⟨%d1, H1⟩, ⟨%d2, H2⟩, ⟨%d3, H3⟩, ⟨%d4, H4⟩⟩
  have ho := outs_of m c t y hy
  rw [ho]
  iapply (run_any c (grid0.coords t) tab0 (Memref.isWhole_whole _) tab1 (Memref.isWhole_whole _) (ms0 t) (hs0 t) (ms1 t) (hs1 t) (ms2 t) (hs2 t) (ms3 t) (hs3 t) (ms4 t) (hs4 t) scr0 (Memref.isWhole_whole _) scr1 (Memref.isWhole_whole _) scr2 (Memref.isWhole_whole _)
    fullShare.right fullShare.right ((tabs (F := F)) 0) ((tabs (F := F)) 1)
    (word0 c _) (word1 c _) (iblk m c 0 t) (iblk m c 1 t) (iblk m c 2 t) ((dats m 0 c).before 3 t d3) ((dats m 0 c).before 4 t d4) y Set.univ _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [C0]; · iexact C0
  isplitl [C1]; · iexact C1
  isplitl [C2]; · iexact C2
  iintro ⟨T0, T1, H0, H1, H2, H3, H4, C0, C1, C2⟩
  isplitl [Hr T0 T1 C0 C1 C2]
  · isplitl [C0 C1 C2]
    · iexists _
      isplitr; · ipureintro; exact fun _ => rfl
      isplitl [C0]; · iexact C0
      isplitl [C1]; · iexact C1
      iexact C2
    isplitl [Hr]; · iexact Hr
    isplitl [T0]; · iexact T0
    iexact T1
  isplitl [Ho]; · iexact Ho
  isplitl [H0]; · iexact H0
  isplitl [H1]; · iexact H1
  isplitl [H2]; · iexact H2
  isplitl [H3]; · iexists d3; iexact H3
  iexists d4; iexact H4

theorem defs₀_row (t : Pt F) :
    defs₀ (F := F) .tc (cfgA (F := F)).body ((cfgA (F := F)).bodyArgs t ((cfgA (F := F)).slots t)) = bodyAt t := by
  unfold defs₀; rw [Defs.onTc_tc]

/-- What a step leaves of an output's buffer is what is asked of it, on the diagonal and off. -/
theorem stored {α β : Type} (O : β → sProp 𝕄) (a : β) (b : α → β) {p : Prop} [Decidable p] : ∀ {idle flush : Bool}, idle = !decide p →
    (¬ p → flush = false) → (iprop(∃ d, O (if p then a else b d)) ⊢ (match idle with
      | true => (match flush with | false => iprop(∃ d, O (b d)) | true => O a)
      | false => O a)) := by
  intro idle flush hi hf
  subst hi
  by_cases h : p
  · rw [decide_eq_true h]
    simp only [if_pos h]
    refine (show iprop(∃ d : α, O a) ⊢ O a from ?_)
    iintro ⟨%d, H⟩
    iexact H
  · rw [decide_eq_false h, hf h]
    simp only [if_neg h]
    exact .rfl

theorem body_obligation (c : Dev nD) : BodyObligation (dats (F := F) m 0 c) (defs₀ (F := F)) Variants.none () Set.univ := fun t => by
  rw [bigSep_W0, bigSep_W0, defs₀_row]
  have i3 : (cfgA (F := F)).idle 3 ((cfgA (F := F)).grid.coords t) = !decide (qb (stepOf (grid0.coords t)) = kb (stepOf (grid0.coords t))) := idle_out 3 (.inl rfl) (grid0.coords t)
  have i4 : (cfgA (F := F)).idle 4 ((cfgA (F := F)).grid.coords t) = !decide (qb (stepOf (grid0.coords t)) = kb (stepOf (grid0.coords t))) := idle_out 4 (.inr rfl) (grid0.coords t)
  refine triple_restated (sound_body m c t) rfl .rfl fun _ => ?_
  exact BI.sep_mono (fun _ h => h) <| BI.sep_mono (fun _ h => h) <| BI.sep_mono (fun _ h => h) <| BI.sep_mono (fun _ h => h) <| BI.sep_mono (fun _ h => h) <|
    BI.sep_mono (stored (fun x => owns (c : Thread nD τ) (ms3 t) fullShare x) ((dats m 0 c).after 3 t) ((dats m 0 c).before 3 t) i3 (kept3 t))
      (stored (fun x => owns (c : Thread nD τ) (ms4 t) fullShare x) ((dats m 0 c).after 4 t) ((dats m 0 c).before 4 t) i4 (kept4 t))

/-- The invariant before the first step, -/
theorem inv_in (c : Dev nD) : iprop(Pipeline.ΦA spec0 c ∗ Pipeline.ΦT pre0 (tabs (F := F)) c) ⊢ (dats m 0 c).Φ 0 := by
  rw [inv_eq]
  unfold Pipeline.ΦA
  iintro ⟨⟨HS, Hr⟩, HT⟩
  isplitl [HS]
  · ihave HS' := (scoped_eq (F := F) c).1 $$ HS
    icases HS' with ⟨%y, H⟩
    iexists y
    isplitr; · ipureintro; exact fun h => absurd rfl h
    iexact H
  isplitl [Hr]; · iexact Hr
  iexact HT

/-- and after the last. -/
theorem inv_out (c : Dev nD) : (dats m 0 c).Φ (Fin.last (cfgA (F := F)).N) ⊢ Pipeline.ΦA spec0 c := by
  rw [inv_eq]
  unfold Pipeline.ΦA
  iintro ⟨⟨%y, %hy, H⟩, Hr, -⟩
  isplitl [H]
  · iapply (scoped_eq (F := F) c).2
    iexists y; iexact H
  iexact Hr

set_option backward.isDefEq.respectTransparency.types false in
/-- The launch: every array ends at what the proof data says of it, every other buffer as the region found it, every semaphore at zero. -/
theorem run_main : θ_run defs (onTc (τ := τ) (main (F := F))) (s₀ m ρ)
    (fun r => Pipeline.FramePost (Pipeline.pin pcfgs adm) (dats m) 0 (V m) r ∧ r.2.sem = fun _ => 0) :=
  Pipeline.θ_run_frameP_track (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := fun c k => V_tabs m c k)
    (hin := inv_in m) (hout := inv_out m)

/-- The frame: the arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (show ∀ w : Fin 5, (spec0 w).arr.view.ref ≠ main_arg0 by decide))).trans (V_arg0 m c),
      ((h.1 c).2 main_arg1 (Pipeline.mem_restRefs_of main_arg1 (by decide) (show ∀ w : Fin 5, (spec0 w).arr.view.ref ≠ main_arg1 by decide))).trans (V_arg1 m c),
      ((h.1 c).2 main_arg2 (Pipeline.mem_restRefs_of main_arg2 (by decide) (show ∀ w : Fin 5, (spec0 w).arr.view.ref ≠ main_arg2 by decide))).trans (V_arg2 m c)⟩, h.2⟩) (run_main m ρ)

end Cert.Kernel11Ideal.Attn

end
-- ==== Proof.FVal.Final.lean ====
/- The attention kernel's two outputs when it ends, over real arguments. -/
module

public import proofs.«01_k».proof.Proof.FVal.Rows
public import proofs.«01_k».proof.Proof.FI.Frame
public import proofs.«01_k».proof.Proof.Val.Final

@[expose] public section

set_option maxRecDepth 16384

noncomputable section

namespace Cert.Kernel11Ideal.Attn

open Cert.KernelIdeal.Attn (row lane ext Ox Lse coe_div idx_rows idx_square)
open Gen
open Idealize.ShloMosaic TcCoe Pointwise Tactic
open Pipeline (Dat Cfg Window)
open Idealize.SL.Sem

theorem idx3 (t : Fin grid0.N) : ((cfgA (F := Ideal)).win 3).index t = ![(qb (stp t)).val, (hd t).val] := map3 _
theorem idx4 (t : Fin grid0.N) : ((cfgA (F := Ideal)).win 4).index t = ![(hd t).val, 0, (qb (stp t)).val] := map4 _

/-- A block that the next step moves is written back. -/
theorem flush_moved {w : Window sig grid0} (hw : w.isOut = true) {t : Fin grid0.N} (h : ∀ t' : Fin grid0.N, t'.val = t.val + 1 → w.index t' ≠ w.index t) : w.flush t = true := by
  unfold Window.flush
  rw [hw, Bool.true_and, Bool.or_eq_true]
  by_cases e : t.val + 1 = grid0.N
  · exact Or.inl (decide_eq_true e)
  · exact Or.inr (decide_eq_true ⟨by have := t.isLt; omega, h ⟨t.val + 1, by have := t.isLt; omega⟩ rfl⟩)

/-- A row of queries' last step. -/
def lastStep : Fin 8 → Fin 36 := ![0, 2, 5, 9, 14, 20, 27, 35]

theorem last_step : ∀ i : Fin 8, qb (lastStep i) = i ∧ kb (lastStep i) = i := by decide +kernel
theorem moves : ∀ n n' : Fin 36, qb n = kb n → n'.val = n.val + 1 → ¬ qb n' = qb n := by decide +kernel
theorem ends : ∀ n n' : Fin 36, n.val = 35 → n'.val = 0 → ¬ qb n' = qb n := by decide +kernel

/-- It as a grid point. -/
def lastOf (i h : Fin 8) : Fin grid0.N := ⟨36 * h.val + (lastStep i).val, lt_of_lt_of_eq (by omega) N_0.symm⟩

theorem hd_last (i h : Fin 8) : hd (lastOf i h) = h := Fin.ext (by rw [head_coords]; show (36 * h.val + (lastStep i).val) / 36 % 8 = h.val; omega)
theorem stp_last (i h : Fin 8) : stp (lastOf i h) = lastStep i := Fin.ext (by rw [step_coords]; show (36 * h.val + (lastStep i).val) % 36 = _; omega)

theorem moved_of {t t' : Fin grid0.N} (hq : qb (stp t) = kb (stp t)) (e : t'.val = t.val + 1) : ¬ qb (stp t') = qb (stp t) := by
  have hl := lt_288 t'
  by_cases h : t.val % 36 = 35
  · exact ends _ _ (by rw [step_coords]; exact h) (by rw [step_coords]; omega)
  · exact moves _ _ hq (by rw [step_coords, step_coords]; omega)

theorem last_diag (i h : Fin 8) : qb (stp (lastOf i h)) = kb (stp (lastOf i h)) := by
  rw [stp_last, (last_step i).1, (last_step i).2]

theorem last3 (i h : Fin 8) : ((cfgA (F := Ideal)).win 3).flush (lastOf i h) = true :=
  flush_moved rfl fun t' e hi => by
    rw [idx3, idx3] at hi
    exact moved_of (last_diag i h) e (Fin.ext (congrFun hi 0))

theorem last4 (i h : Fin 8) : ((cfgA (F := Ideal)).win 4).flush (lastOf i h) = true :=
  flush_moved rfl fun t' e hi => by
    rw [idx4, idx4] at hi
    exact moved_of (last_diag i h) e (Fin.ext (congrFun hi 2))

theorem emb3 (t : Fin grid0.N) (a : Fin 1024) (x : Fin 128) :
    (((cfgA (F := Ideal)).win 3).blk t).view.emb (ix2 a x) = (ix2 (row (qb (stp t)) a) (lane (hd t) x) : S8192x1024.Idx) := by
  refine funext fun b => Fin.ext ?_
  refine (Window.rect_emb_val ((cfgA (F := Ideal)).win 3) t (ix2 a x) b rfl).trans ?_
  rw [idx3]
  match b with
  | ⟨0, _⟩ => show (qb (stp t)).val * 1024 + a.val = 1024 * (qb (stp t)).val + a.val; omega
  | ⟨1, _⟩ => rfl

theorem emb4 (t : Fin grid0.N) (a : Fin 1024) :
    (((cfgA (F := Ideal)).win 4).blk t).view.emb (ix3 0 0 a) = (ix3 (hd t) 0 (row (qb (stp t)) a) : S8x1x8192.Idx) := by
  refine funext fun b => Fin.ext ?_
  refine (Window.rect_emb_val ((cfgA (F := Ideal)).win 4) t (ix3 0 0 a) b rfl).trans ?_
  rw [idx4]
  match b with
  | ⟨0, _⟩ => show (hd t).val * 1 + 0 = (hd t).val; omega
  | ⟨1, _⟩ => rfl
  | ⟨2, _⟩ => show (qb (stp t)).val * 1024 + a.val = 1024 * (qb (stp t)).val + a.val; omega

theorem idx_line (y : S1x1x1024.Idx) : ∃ a, y = ix3 0 0 a := ⟨y 2, funext fun b => match b with
  | ⟨0, _⟩ => Fin.ext (by have : (y 0).val < 1 := (y 0).isLt; show (y 0).val = 0; omega)
  | ⟨1, _⟩ => Fin.ext (by have : (y 1).val < 1 := (y 1).isLt; show (y 1).val = 0; omega)
  | ⟨2, _⟩ => rfl⟩

theorem idx_lines (i : S8x1x8192.Idx) : ∃ (j h : Fin 8) (a : Fin 1024), i = ix3 h 0 (row j a) := by
  have e2 : (i 2).val < 8192 := (i 2).isLt
  refine ⟨⟨(i 2).val / 1024, by omega⟩, i 0, ⟨(i 2).val % 1024, by omega⟩, funext fun b => Fin.ext ?_⟩
  match b with
  | ⟨0, _⟩ => rfl
  | ⟨1, _⟩ => have : (i 1).val < 1 := (i 1).isLt; show (i 1).val = 0; omega
  | ⟨2, _⟩ => show (i 2).val = 1024 * ((i 2).val / 1024) + (i 2).val % 1024; omega

section
variable {m : (ℓ : Loc nD τ sig) → Buf (Elt Ideal) ℓ} {c : Dev nD}
  {q k : Fin 8192 → Fin 8 → Fin 96 → ℝ} {v : Fin 8192 → Fin 8 → Fin 64 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix4 0 p h d) = ((v p h d : ℝ) : EReal))

theorem later_dead {i j : Fin 8} (h : i < j) (a b : Fin 1024) (g : Fin 8) : Ez q k g (row i b) (row j a) = 0 := by
  have h' : i.val < j.val := h
  refine if_neg fun e => ?_
  have e' : 1024 * j.val + a.val ≤ 1024 * i.val + b.val := e
  omega

include h0 h1 h2 in
/-- After a row of queries' last step its sums are over all keys. -/
theorem row_end (t : Fin grid0.N) (hq : qb (stp t) = kb (stp t)) (b : Fin 1024) : ∃ M : ℝ,
    (outs m c t.val).1 (ix2 0 b) = (M : EReal)
    ∧ (outs m c t.val).2.1 (ix2 0 b) = (((∑ j, Ez q k (hd t) (row (qb (stp t)) b) j) * wt M : ℝ) : EReal)
    ∧ ∀ x : Fin 128, (outs m c t.val).2.2 (ix2 x b) = (((∑ j, ext (v j (hd t)) x * Ez q k (hd t) (row (qb (stp t)) b) j) * wt M : ℝ) : EReal) := by
  obtain ⟨M, e1, e2, e3⟩ := (rows_all h0 h1 h2 t.val t rfl b).later (Nat.succ_ne_zero _)
  refine ⟨M, e1, e2.trans ?_, fun x => (e3 x).trans ?_⟩
  · rw [← hq, seen_all _ _ fun j a hj => later_dead hj a b _]
  · rw [← hq, seen_all _ _ fun j a hj => by rw [later_dead hj a b _, mul_zero]]

include h0 h1 h2 in
/-- The output. -/
theorem final3 (G : Vec Ideal S8192x1024 .bf16) (hG : ∀ p h x, G (ix2 p (lane h x)) = ((ext (Ox q k v p h) x : ℝ) : EReal)) :
    (dats m 0 c).arrAt 3 (cfgA (F := Ideal)).N = G := by
  refine (dats m 0 c).arrAt_eq_of_emb 3 G (fun t hf y => ?_) fun i => ?_
  · obtain ⟨a, x, rfl⟩ := idx_square y
    have hq : qb (stp t) = kb (stp t) := by
      by_contra hn
      rw [kept3 t hn] at hf
      exact absurd hf (by decide)
    rw [emb3, hG]
    obtain ⟨M, -, e2, e3⟩ := row_end h0 h1 h2 t hq a
    refine (outO_real (outs m c t.val) a x).trans ?_
    rw [e2, e3 x, coe_div _ (mul_pos (sum_Ez_pos q k _ _) (wt_pos M)).ne', out_eq]
  · obtain ⟨j, h, a, x, rfl⟩ := idx_rows i
    refine ⟨lastOf j h, last3 j h, ?_⟩
    have e := emb3 (lastOf j h) a x
    rw [hd_last, stp_last, (last_step j).1] at e
    rw [← e]
    exact View.emb_mem_set _ _

include h0 h1 h2 in
/-- The logarithms of the sums. -/
theorem final4 (G : Vec Ideal S8x1x8192 .f32) (hG : ∀ h p, G (ix3 h 0 p) = ((Lse q k h p : ℝ) : EReal)) :
    (dats m 0 c).arrAt 4 (cfgA (F := Ideal)).N = G := by
  refine (dats m 0 c).arrAt_eq_of_emb 4 G (fun t hf y => ?_) fun i => ?_
  · obtain ⟨a, rfl⟩ := idx_line y
    have hq : qb (stp t) = kb (stp t) := by
      by_contra hn
      rw [kept4 t hn] at hf
      exact absurd hf (by decide)
    rw [emb4, hG]
    obtain ⟨M, e1, e2, -⟩ := row_end h0 h1 h2 t hq a
    refine (outL_real (outs m c t.val) a).trans ?_
    rw [e1, e2, Ideal.log_coe, if_neg (not_le.2 (mul_pos (sum_Ez_pos q k _ _) (wt_pos M))), ← EReal.coe_mul, ← EReal.coe_add, lse_eq]
  · obtain ⟨j, h, a, rfl⟩ := idx_lines i
    refine ⟨lastOf j h, last4 j h, ?_⟩
    have e := emb4 (lastOf j h) a
    rw [hd_last, stp_last, (last_step j).1] at e
    rw [← e]
    exact View.emb_mem_set _ _
end

end Cert.Kernel11Ideal.Attn

end
-- ==== Proof.FVal.Ref.lean ====
/- The attention reference's two results, over real arguments. -/
module

public import proofs.«01_k».proof.Proof.Val.HostReal
public import proofs.«01_k».proof.Proof.Gen.Reference11Ideal.Read
public import Idealize.ShloMosaic.Lib.Pointwise

@[expose] public section

set_option maxRecDepth 16384

noncomputable section

namespace Cert.Reference11Ideal.Attn

open Cert.KernelIdeal.Attn
open Cert.Reference11Ideal Cert.Reference11Ideal.Read
open Idealize.ShloMosaic TcCoe Pointwise Tactic
open Idealize.SL.Sem

variable {q k : Fin 8192 → Fin 8 → Fin 96 → ℝ} {v : Fin 8192 → Fin 8 → Fin 64 → ℝ}
  {x0 x1 : FVec Ideal S1x8192x8x96 .f32} {x2 : FVec Ideal S1x8192x8x64 .f32}

/-- The maximum against minus infinity is the maximum. -/
theorem max_eq : val_main_v11 (F := Ideal) x0 x1 = hM x0 x1 := by
  have e : val_main_v10 (F := Ideal) x0 x1 = val_main_v8 (F := Ideal) x0 x1 := by
    funext i
    rw [val_main_v10_apply, val_main_v9_apply, val_main_cst_2_apply]
    show max (Ideal.ofBits .f32 0xFF800000#32) (val_main_v8 (F := Ideal) x0 x1 i : EReal) = _
    rw [ofBits_ninf]
    exact max_eq_right bot_le
  unfold val_main_v11
  rw [e]
  rfl

theorem out_hO : val_main_v19 (F := Ideal) x0 x1 x2 = hO x0 x1 x2 := by
  have e14 : val_main_v14 (F := Ideal) x0 x1 = hE x0 x1 := by
    unfold val_main_v14 val_main_v13 val_main_v12
    rw [max_eq]
    rfl
  unfold val_main_v19 val_main_v18 val_main_v17 val_main_v16 val_main_v15
  rw [e14]
  rfl

section
variable (h0 : ∀ p h d, x0 (ix4 0 p h d) = ((q p h d : ℝ) : EReal)) (h1 : ∀ p h d, x1 (ix4 0 p h d) = ((k p h d : ℝ) : EReal))
include h0 h1

theorem r46 (h : Fin 8) (p : Fin 8192) : val_main_v46 (F := Ideal) x0 x1 (ix3 h 0 p) = ((Lse q k h p : ℝ) : EReal) := hLse_real h0 h1 h p

variable (h2 : ∀ p h d, x2 (ix4 0 p h d) = ((v p h d : ℝ) : EReal))
include h2

theorem r22 (p : Fin 8192) (h : Fin 8) (d : Fin 64) : val_main_v22 (F := Ideal) x0 x1 x2 (ix3 p h d) = ((Ox q k v p h d : ℝ) : EReal) := by
  refine Eq.trans ?_ (hO_real h0 h1 h2 h d p)
  rw [← out_hO]
  pointwise [val_main_v22, val_main_v21, val_main_v20]

theorem r45 (p : Fin 8192) (h : Fin 8) (x : Fin 128) : val_main_v45 (F := Ideal) x0 x1 x2 (ix2 p (lane h x)) = ((ext (Ox q k v p h) x : ℝ) : EReal) :=
  hV_real (r22 h0 h1 h2) p h x
end

end Cert.Reference11Ideal.Attn

end
-- ==== Proof.FVal.Claims.lean ====
/- The attention kernel's claims: its frames, its named constants, and that it ends with the reference's two results, from finite arguments. -/
module

public import proofs.«01_k».proof.Defs
public import proofs.«01_k».proof.Proof.F.Frame
public import proofs.«01_k».proof.Proof.FVal.Final
public import proofs.«01_k».proof.Proof.FVal.Ref
public import proofs.«01_k».proof.Proof.Gen.Pre_finite11
public import proofs.«01_k».proof.Proof.Gen.Reference11Ideal.Run
public import proofs.«01_k».proof.Proof.Val.Algebraic
public import Idealize.ShloMosaic.Lib.ReduceAll
public import Idealize.ShloMosaic.Lib.Quiescent

@[expose] public section

set_option maxRecDepth 16384

noncomputable section

namespace Cert.Proof.Claims11

open Idealize.ShloMosaic TcCoe Pointwise Idealize.SL.Sem
open Cert.Kernel11Ideal.Attn
open Cert.Proof.Claims (real_of_cmp)

theorem frame_p : Cert.quiescent_Kernel11 := fun m ρ _ => Cert.Kernel11.Attn.frame_main m ρ

theorem frame_pi : Cert.quiescent_Kernel11Ideal := fun m ρ _ => Cert.Kernel11Ideal.Attn.frame_main m ρ

/-- The host reference declares no semaphore. -/
theorem frame_ri : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem preserves : Cert.preserves_Kernel11_Kernel11Ideal :=
  ⟨IdealRules.named_const.statement Cert.Kernel11Ideal.κ "mask" .f32 0xF149F2CA#32 ⊥ rfl,
    IdealRules.named_const.statement Cert.Kernel11Ideal.κ "scale2" .f32 0x3E16C740#32
      (((3424635 / 33554432) * (Real.log 2)⁻¹ : ℝ) : EReal) rfl,
    IdealRules.named_const.statement Cert.Kernel11Ideal.κ "log2e" .f32 0x3FB8AA3B#32 (((Real.log 2)⁻¹ : ℝ) : EReal) rfl⟩

instance : Subsingleton Cert.Pre_finite11.S_.Idx := ⟨fun _ _ => funext fun a => a.elim0⟩

section
open Cert.Pre_finite11
/-- What the precondition says: every entry of the three arguments is a real number. -/
theorem finite_reads (x0 x1 : FVec Ideal S1x8192x8x96 .f32) (x2 : FVec Ideal S1x8192x8x64 .f32)
    (h : Cert.Pre_finite11.fn (F := Ideal) x0 x1 x2 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) := by
  have e := congrFun h (fun a => a.elim0)
  unfold Cert.Pre_finite11.fn at e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i)⟩
end

theorem algebraic : Cert.algebraic_Kernel11Ideal_Reference11Ideal_pre_finite11 := by
  intro m g m' g' hpre hargs
  refine ⟨fun c => Cert.Reference11Ideal.Read.val_main_v45 (F := Ideal) (a0 m c) (a1 m c) (a2 m c),
    fun c => Cert.Reference11Ideal.Read.val_main_v46 (F := Ideal) (a0 m c) (a1 m c), ?_, ?_⟩
  · refine (θ_run Cert.Kernel11Ideal.defs _ _).mono (fun r h c => ?_) (run_main m g)
    obtain ⟨f0, f1, f2⟩ := finite_reads _ _ _ (hpre c)
    have h0 : ∀ p h d, a0 m c (ix4 0 p h d) = (((a0 m c (ix4 0 p h d) : EReal).toReal : ℝ) : EReal) := fun p h d => f0 _
    have h1 : ∀ p h d, a1 m c (ix4 0 p h d) = (((a1 m c (ix4 0 p h d) : EReal).toReal : ℝ) : EReal) := fun p h d => f1 _
    have h2 : ∀ p h d, a2 m c (ix4 0 p h d) = (((a2 m c (ix4 0 p h d) : EReal).toReal : ℝ) : EReal) := fun p h d => f2 _
    refine ⟨((h.1 c).1 3).trans ?_, ((h.1 c).1 4).trans ?_, ?_⟩
    · exact final3 h0 h1 h2 _ (Cert.Reference11Ideal.Attn.r45 h0 h1 h2)
    · exact final4 h0 h1 h2 _ (Cert.Reference11Ideal.Attn.r46 h0 h1)
    · exact ⟨((h.1 c).2 Cert.Kernel11Ideal.main_arg0 (Pipeline.mem_restRefs_of Cert.Kernel11Ideal.main_arg0 (by decide) (show ∀ w : Fin 5, (Cert.Kernel11Ideal.spec0 w).arr.view.ref ≠ Cert.Kernel11Ideal.main_arg0 by decide))).trans (V_arg0 m c),
        ((h.1 c).2 Cert.Kernel11Ideal.main_arg1 (Pipeline.mem_restRefs_of Cert.Kernel11Ideal.main_arg1 (by decide) (show ∀ w : Fin 5, (Cert.Kernel11Ideal.spec0 w).arr.view.ref ≠ Cert.Kernel11Ideal.main_arg1 by decide))).trans (V_arg1 m c),
        ((h.1 c).2 Cert.Kernel11Ideal.main_arg2 (Pipeline.mem_restRefs_of Cert.Kernel11Ideal.main_arg2 (by decide) (show ∀ w : Fin 5, (Cert.Kernel11Ideal.spec0 w).arr.view.ref ≠ Cert.Kernel11Ideal.main_arg2 by decide))).trans (V_arg2 m c)⟩
  · refine (θ_run Cert.Reference11Ideal.defs _ _).mono (fun r h c => ?_) (Cert.Reference11Ideal.Value.run (F := Ideal) m' g')
    obtain ⟨q0, q1, q2⟩ := hargs c
    obtain ⟨e45, e46, eargs⟩ := h c
    refine ⟨e45.trans ((Cert.Reference11Ideal.Read.val_main_v45_eq _ _ _).trans ?_), e46.trans ((Cert.Reference11Ideal.Read.val_main_v46_eq _ _).trans ?_), eargs⟩
    · rw [q0, q1, q2]
    · rw [q0, q1]

end Cert.Proof.Claims11

end
-- ==== Proof.CI.Maps.lean ====
/- The two prefetched tables of the cross attention kernel: entry `n` of the first is block `n` of the queries, every entry of the second
   the one block of keys. This module reads the index maps and the branch conditions off them. -/
module

public import proofs.«01_k».proof.Proof.Gen.Kernel12Ideal.Launch
public import proofs.«01_k».proof.Proof.Gen.Kernel12Ideal.Skeleton
public import Idealize.ShloMosaic.Lib.Pipeline.FrameBody
public import Idealize.ShloMosaic.Lib.Pipeline.TableIdle
public import Idealize.ShloMosaic.Lib.Tactic
public import Idealize.ShloMosaic.Lib.WordCmp

@[expose] public section

set_option maxRecDepth 16384

noncomputable section

namespace Cert.Kernel12Ideal.Attn

open Gen
open Idealize.ShloMosaic TcCoe Tactic
open Pipeline (Dat Cfg Window BodyObligation cellOf)

variable {F : FTy → Type} [FloatOps F] [Named F]

theorem lit0_toNat (n : Fin 8) : (lit0 n).toNat = n.val := by
  revert n; decide +kernel

/-- The tables' contents. -/
def tabs : pre0.Contents (Elt F) := fun k => match k with
  | ⟨0, _⟩ => fun i => lit0 (S8.rowMajor i)
  | ⟨1, _⟩ => constantI S8 32 0#32

/-- The block of queries a grid point visits, -/
abbrev stepOf (i : grid0.Coords) : Fin 8 := i 1

/-- and its head. -/
abbrev headOf (i : grid0.Coords) : Fin 4 := i 0

theorem word_head (i : grid0.Coords) : (BitVec.ofNat 32 (i 0).val).toNat = (headOf i).val := by
  have h : (i 0).val < 4 := (i 0).isLt
  simp only [BitVec.toNat_ofNat]
  exact Nat.mod_eq_of_lt (by omega)

theorem off1_zero (i : grid0.Coords) : k0_off1 i 0 = (stepOf i).val := by
  have h : (i 1).val < 8 := (i 1).isLt
  unfold k0_off1
  simp only [Scalar.indexCast, BitVec.toNat_ofNat]
  exact Nat.mod_eq_of_lt (by omega)

theorem lit0_at {y : S8.Idx} {n : Fin 8} (h : (y 0).val = n.val) : lit0 (S8.rowMajor y) = lit0 n := by
  have e : S8.rowMajor y = n := Fin.ext ((Shape.rowMajor_val_one y).trans h)
  exact congrArg lit0 e

/-- A read of the first table at a point: its block of queries. -/
theorem tabs_at0 (i : grid0.Coords) : (tabs (F := F)).at 0 (Rect.unit (s := S8) (k0_off1 i) S1.size (k0_off1_inb i)) numel1_S1 = lit0 (stepOf i) :=
  lit0_at (by show k0_off1 i 0 + 1 * 0 = _; rw [off1_zero]; omega)

/-- A read of the second. -/
theorem tabs_at1 (i : grid0.Coords) : (tabs (F := F)).at 1 (Rect.unit (s := S8) (k0_off1 i) S1.size (k0_off1_inb i)) numel1_S1 = (0#32 : BitVec 32) := rfl

theorem tabs_atD1 (i : grid0.Coords) : (tabs (F := F)).atD 1 (k0_off1 i) = (0#32 : BitVec 32) := by
  have h : ∀ a, k0_off1 i a + 1 ≤ (pre0.ref 1).ty.shape.size a := fun | ⟨0, _⟩ => k0_off1_inb i 0
  exact dif_pos h

theorem map0 (i : grid0.Coords) : cc0_transform_0 k0_off1_inb numel1_S1 (tabs (F := F)) i = ![(stepOf i).val, (headOf i).val] := by
  show ![((tabs (F := F)).at 0 (Rect.unit (s := S8) (k0_off1 i) S1.size (k0_off1_inb i)) numel1_S1).toNat, (0#32 + BitVec.ofNat 32 (i 0).val).toNat] = _
  rw [tabs_at0, lit0_toNat, BitVec.zero_add, word_head]

theorem map1 (i : grid0.Coords) : cc0_transform_1 k0_off1_inb numel1_S1 (tabs (F := F)) i = ![0, (headOf i).val] := by
  show ![(0#32 : BitVec 32).toNat, (0#32 + BitVec.ofNat 32 (i 0).val).toNat] = _
  rw [BitVec.zero_add, word_head]; rfl

theorem map2 (i : grid0.Coords) : cc0_transform_2 k0_off1_inb numel1_S1 (tabs (F := F)) i = ![(headOf i).val, 0] := by
  show ![(0#32 + BitVec.ofNat 32 (i 0).val).toNat, (0#32 : BitVec 32).toNat] = _
  rw [BitVec.zero_add, word_head]; rfl

theorem map3 (i : grid0.Coords) : cc0_transform_3 k0_off1_inb numel1_S1 (tabs (F := F)) i = ![(stepOf i).val, (headOf i).val] := by
  show ![((tabs (F := F)).at 0 (Rect.unit (s := S8) (k0_off1 i) S1.size (k0_off1_inb i)) numel1_S1).toNat, (BitVec.ofNat 32 (i 0).val).toNat] = _
  rw [tabs_at0, lit0_toNat, word_head]

theorem map4 (i : grid0.Coords) : cc0_transform_4 k0_off1_inb numel1_S1 (tabs (F := F)) i = ![(headOf i).val, 0, (stepOf i).val] := by
  show ![(BitVec.ofNat 32 (i 0).val).toNat, (0#32 : BitVec 32).toNat, ((tabs (F := F)).at 0 (Rect.unit (s := S8) (k0_off1 i) S1.size (k0_off1_inb i)) numel1_S1).toNat] = _
  rw [tabs_at0, lit0_toNat, word_head]; rfl

theorem in_queries (x : Fin 8) (y : Fin 4) : ∃ h : (∀ a, ((![x.val, y.val] : Fin 2 → ℕ) a + 1) * S1024x128.size a ≤ S8192x512.size a),
    EltTy.bits .bf16 = 32 ∨ (Rect.block (s := S8192x512) S1024x128.size ![x.val, y.val] h).WholeWords (EltTy.packing .bf16) := by
  revert x y; decide +kernel

theorem in_keys (y : Fin 4) : ∃ h : (∀ a, ((![0, y.val] : Fin 2 → ℕ) a + 1) * S256x128.size a ≤ S256x512.size a),
    EltTy.bits .bf16 = 32 ∨ (Rect.block (s := S256x512) S256x128.size ![0, y.val] h).WholeWords (EltTy.packing .bf16) := by
  revert y; decide +kernel

theorem in_values (y : Fin 4) : ∃ h : (∀ a, ((![y.val, 0] : Fin 2 → ℕ) a + 1) * S128x256.size a ≤ S512x256.size a),
    EltTy.bits .bf16 = 32 ∨ (Rect.block (s := S512x256) S128x256.size ![y.val, 0] h).WholeWords (EltTy.packing .bf16) := by
  revert y; decide +kernel

theorem in_lines (y : Fin 4) (x : Fin 8) : ∃ h : (∀ a, ((![y.val, 0, x.val] : Fin 3 → ℕ) a + 1) * S1x1x1024.size a ≤ S4x1x8192.size a),
    EltTy.bits .f32 = 32 ∨ (Rect.block (s := S4x1x8192) S1x1x1024.size ![y.val, 0, x.val] h).WholeWords (EltTy.packing .f32) := by
  refine ⟨?_, .inl rfl⟩; revert x y; decide +kernel

/-- The tables are admissible: every block they name lies inside its array, in whole words. -/
theorem ok_tabs : ok0 (tabs (F := F)) := by
  unfold ok0
  refine ⟨?_, ?_, ?_, ?_, ?_⟩ <;> intro i
  · rw [map0]; exact in_queries (stepOf i) (headOf i)
  · rw [map1]; exact in_keys (headOf i)
  · rw [map2]; exact in_values (headOf i)
  · rw [map3]; exact in_queries (stepOf i) (headOf i)
  · rw [map4]; exact in_lines (headOf i) (stepOf i)

/-- The region's admissible tables. -/
abbrev adm : (p : Fin 1) → (pcfgs (F := F) p).Adm := fun _ => ⟨tabs, ok_tabs⟩

/-- The region at its tables. -/
abbrev cfgA : Pipeline.Cfg sig Λ₀ := cfg0 (F := F) (adm 0)

/-- A point of the grid. -/
abbrev Pt (F : FTy → Type) [FloatOps F] [Named F] := Fin (cfgA (F := F)).N

/-- Every point writes both outputs. -/
theorem idle_out (w : Fin 5) (hw : w = 3 ∨ w = 4) (i : grid0.Coords) : idle0 (tabs (F := F)) w i = false := by
  have h : (!(k0_cond2 ((tabs (F := F)).atD 1 (k0_off1 i)) == 1#1)) = false := by
    rw [tabs_atD1]; decide
  rcases hw with rfl | rfl <;> exact h

end Cert.Kernel12Ideal.Attn

end
-- ==== Proof.CI.Body.lean ====
/- What a point of the cross attention kernel computes from its blocks: the one block of keys is a row's first and last. -/
module

public import proofs.«01_k».proof.Proof.CI.Maps
public import Idealize.ShloMosaic.Lib.VecWindow
public import Idealize.ShloMosaic.Lib.WritesUnit

@[expose] public section

set_option maxRecDepth 16384

noncomputable section

namespace Cert.Kernel12Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

section
variable (q : Vec F S1024x128 .bf16) (k : Vec F S256x128 .bf16) (v : Vec F S128x256 .bf16)

/-- The maximum of every query's scores, -/
def topOf : Vec F S1x1024 .f32 := k0_pay2 (k0_pay9 k q (k0_pay5 (F := F)))

/-- the sum of the powers of two of its scores less that maximum, -/
def sumOf : Vec F S1x1024 .f32 := k0_pay12 k q (k0_pay5 (F := F)) (k0_pay6 (F := F))

/-- and the values weighted by those powers. -/
def accOf : Vec F S128x1024 .f32 :=
  k0_pay1 (k0_pay13 k q (k0_pay5 (F := F)) (k0_pay7 (F := F))) (k0_pay14 v) (k0_pay15 k q (k0_pay5 (F := F))) (constant S128x1024 .f32 0x00000000#32)

/-- The block of the output, -/
def outO : Vec F S1024x128 .bf16 := k0_pay3 (sumOf q k) (accOf q k v)

/-- and the logarithms of the sums. -/
def outL : Vec F S1x1x1024 .f32 := k0_pay4 (sumOf q k) (topOf q k)
end

/-- The word a point reads of a table held in a memref. -/
abbrev word (c : Dev nD) (i : grid0.Coords) (arg : Memref sig .tc .smem S8 .i32) (f : Buf (Elt F) (arg.view.loc (c : Thread nD τ))) : BitVec 32 :=
  View.readAt (Elt F) arg.view (Rect.unit (s := S8) (k0_off1 i) S1.size (k0_off1_inb i)).toLoadRect f (Shape.Idx.first (numel1_S1.symm ▸ Nat.one_pos))

/-- A load of the whole of a buffer that holds `x` is `x`. -/
theorem read_queries {e : EltTy} {arg : Memref sig .tc .vmem S1024x128 e} (h : arg.IsWhole) (x : Vec F S1024x128 e) :
    View.readAt (Elt F) arg.view (Rect.unit (s := S1024x128) ![0, 0] ![1024, 128] inb_S1024x128_S1024x128_0_0).toLoadRect (h.unread x) = x :=
  (View.readAt_full _ _ inb_S1024x128_S1024x128_0_0).trans (h.read_unread x)

/-- A load of the whole of a buffer that holds `x` is `x`. -/
theorem read_keys {e : EltTy} {arg : Memref sig .tc .vmem S256x128 e} (h : arg.IsWhole) (x : Vec F S256x128 e) :
    View.readAt (Elt F) arg.view (Rect.unit (s := S256x128) ![0, 0] ![256, 128] inb_S256x128_S256x128_0_0).toLoadRect (h.unread x) = x :=
  (View.readAt_full _ _ inb_S256x128_S256x128_0_0).trans (h.read_unread x)

/-- A load of the whole of a buffer that holds `x` is `x`. -/
theorem read_values {e : EltTy} {arg : Memref sig .tc .vmem S128x256 e} (h : arg.IsWhole) (x : Vec F S128x256 e) :
    View.readAt (Elt F) arg.view (Rect.unit (s := S128x256) ![0, 0] ![128, 256] inb_S128x256_S128x256_0_0).toLoadRect (h.unread x) = x :=
  (View.readAt_full _ _ inb_S128x256_S128x256_0_0).trans (h.read_unread x)

/-- A load of the whole of a buffer after a store of the whole of it is what was stored. -/
theorem cov_row {e : EltTy} (arg : Memref sig .tc .vmem S1x1024 e) (x : Vec F S1x1024 e) (l : List (View.Piece (Elt F) S1x1024 e)) :
    arg.view.readCov ((⟨Rect.unit (s := S1x1024) ![0, 0] ![1, 1024] inb_S1x1024_S1x1024_0_0, x⟩ : View.Piece (Elt F) S1x1024 e) :: l)
      (Rect.unit (s := S1x1024) ![0, 0] ![1, 1024] inb_S1x1024_S1x1024_0_0).toLoadRect = x :=
  View.readCov_full arg.view inb_S1x1024_S1x1024_0_0 inb_S1x1024_S1x1024_0_0 x l

/-- A load of the whole of a buffer after a store of the whole of it is what was stored. -/
theorem cov_flat {e : EltTy} (arg : Memref sig .tc .vmem S128x1024 e) (x : Vec F S128x1024 e) (l : List (View.Piece (Elt F) S128x1024 e)) :
    arg.view.readCov ((⟨Rect.unit (s := S128x1024) ![0, 0] ![128, 1024] inb_S128x1024_S128x1024_0_0, x⟩ : View.Piece (Elt F) S128x1024 e) :: l)
      (Rect.unit (s := S128x1024) ![0, 0] ![128, 1024] inb_S128x1024_S128x1024_0_0).toLoadRect = x :=
  View.readCov_full arg.view inb_S128x1024_S128x1024_0_0 inb_S128x1024_S128x1024_0_0 x l

set_option maxHeartbeats 2000000 in
/-- The body at a point, from the blocks it reads and whatever the other buffers hold, writes both outputs. -/
theorem run (c : Dev nD) (i : grid0.Coords) (arg2 : Memref sig .tc .smem S8 .i32) (harg2 : arg2.IsWhole) (arg3 : Memref sig .tc .smem S8 .i32) (harg3 : arg3.IsWhole) (arg4 : Memref sig .tc .vmem S1024x128 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (p3 : PosShare TreeShare) (f3 : Buf (Elt F) (arg3.view.loc (c : Thread nD τ))) (w3 : word c i arg3 f3 = 0#32)
    (x4 : Vec F S1024x128 .bf16) (x5 : Vec F S256x128 .bf16) (x6 : Vec F S128x256 .bf16) (x7 : Vec F S1024x128 .bf16) (x8 : Vec F S1x1x1024 .f32)
    (x9 x10 : Vec F S1x1024 .f32) (x11 : Vec F S128x1024 .f32) (E : Set ℕ) (K : PUnit → sProp 𝕄) :
    iprop((arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
      ∗ (iprop((arg3.view.loc (c : Thread nD τ) ↦[arg3.view.set]{p3} f3) ∗ owns (c : Thread nD τ) arg4 fullShare x4 ∗ owns (c : Thread nD τ) arg5 fullShare x5 ∗ owns (c : Thread nD τ) arg6 fullShare x6 ∗ owns (c : Thread nD τ) arg7 fullShare (outO x4 x5 x6) ∗ owns (c : Thread nD τ) arg8 fullShare (outL x4 x5) ∗ (∃ y, owns (c : Thread nD τ) arg9 fullShare y) ∗ (∃ y, owns (c : Thread nD τ) arg10 fullShare y) ∗ (∃ y, owns (c : Thread nD τ) arg11 fullShare y)) -∗ K ⟨⟩))
      ⊢ wp frame (wpE (defs₀ (F := F)) Variants.none c none) E (cc0_cross_attn_fwd i arg2 harg2 arg3 harg3 arg4 harg4 arg5 harg5 arg6 harg6 arg7 harg7 arg8 harg8 arg9 harg9 arg10 harg10 arg11 harg11) K := by
  have h1 : Scalar.cmpi .ne (Scalar.extui (Scalar.cmpi .eq (word c i arg3 f3) 0#32)) 0#32 = 1#1 := by rw [w3]; decide
  have h2 : k0_cond2 (word c i arg3 f3) = 1#1 := by rw [w3]; decide
  rw [cc0_cross_attn_fwd_eq_skeleton]
  unfold cc0_cross_attn_fwd_skel
  rw [k0_part1_eq_skeleton]
  unfold k0_part1_skel
  unfold owns
  iintro ⟨Ht1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4; obtain rfl := harg5.eq_unread hf5; obtain rfl := harg6.eq_unread hf6
  sl_exec (disch := first | sl_exact h1 | sl_exact h2)
  sl_step
  iapply Hk
  isplitl [Ht1]; · iexact Ht1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    unfold run.sl.v46 run.sl.v47 run.sl.H10_2 run.sl.H11_2 run.sl.v12 run.sl.v21 run.sl.v29 run.sl.H9_1 run.sl.H10_1 run.sl.H11_1
    rw [View.read_writes_full]
    simp only [read_queries, read_keys, read_values, cov_row, cov_flat]
    rfl
  isplitl [H8]
  · iexists _; isplitr; swap; · iexact H8
    ipureintro
    unfold run.sl.v46 run.sl.v53 run.sl.H10_2 run.sl.H9_2 run.sl.v12 run.sl.v21 run.sl.H9_1 run.sl.H10_1
    rw [View.read_writes_full]
    simp only [read_queries, read_keys, read_values, cov_row, cov_flat]
    rfl
  isplitl [H9]
  · iexists _; iexists _; isplitr; swap; · iexact H9
    ipureintro; rfl
  isplitl [H10]
  · iexists _; iexists _; isplitr; swap; · iexact H10
    ipureintro; rfl
  · iexists _; iexists _; isplitr; swap; · iexact H11
    ipureintro; rfl

end Cert.Kernel12Ideal.Attn

end
-- ==== Proof.CI.Frame.lean ====
/- The memory the cross attention's region finds, the body's obligation at every point, the launch and the frame. -/
module

public import proofs.«01_k».proof.Proof.CI.Body
public import Idealize.ShloMosaic.Lib.StableHlo.RunRead
public import Idealize.ShloMosaic.Lib.Pipeline.Frame
public import Idealize.ShloMosaic.Lib.Claim

@[expose] public section

set_option maxRecDepth 16384

noncomputable section

namespace Cert.Kernel12Ideal.Attn

open Gen
open Idealize.ShloMosaic TcCoe Tactic
open Idealize.SL RA BI
open scoped Idealize.SL.BI
open BI.BIBase BI.Laws ProofMode Sem
open Rounds
open Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memory the region finds -/

/-- A core's buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

/-- The buffers the host operations write, in order. -/
abbrev written : List (Ref sig .tc) := [main_c, main_c_0, main_v0, main_v1, main_v2, main_v3, main_v4, main_v5, main_v6, main_v7]

theorem writes_written : (hostOps0 : List (HloOp τ sig (Elt F))).Forall fun op => op.writes ⊆ (written.map (Proc.devRef (τ := τ) .tc)).toFinset :=
  StableHlo.forall_writes_sub_of_map rfl

/-- A buffer they do not write is as it was. -/
theorem V_kept (c : Dev nD) (b : Ref sig .tc) (h : b ∉ written) : V m c b = m ((c : Thread nD τ).loc b) :=
  StableHlo.after_of_writes_sub hostOps0 _ writes_written h

/-- The region finds the two tables in the buffers it prefetches. -/
theorem V_tabs (c : Dev nD) (k : Fin 2) : V m c (pre0.ref k) = (tabs (F := F)) k := by
  match k with
  | 0 =>
    show V m c main_c = (tabs (F := F)) 0
    unfold V
    after_results
    rfl
  | 1 =>
    show V m c main_c_0 = (tabs (F := F)) 1
    unfold V
    after_results
    rfl

/-! ## The proof data -/

/-- A window's block at a point, read off its array as the region finds it. -/
def iblk (c : Dev nD) (w : Fin (cfgA (F := F)).W) (t : Pt F) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The block of queries a point finds, -/
def qB (c : Dev nD) (t : Fin grid0.N) : Vec F S1024x128 .bf16 := iblk m c 0 t
/-- of keys, -/
def kB (c : Dev nD) (t : Fin grid0.N) : Vec F S256x128 .bf16 := iblk m c 1 t
/-- and of values, transposed. -/
def vB (c : Dev nD) (t : Fin grid0.N) : Vec F S128x256 .bf16 := iblk m c 2 t

/-- The proof data: the arrays as the region finds them, the inputs' buffers at their blocks, the outputs' at what a point computes; the
    invariant keeps the buffers outside the windows, whatever they hold, and the two tables. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (qB m c t) (kB m c t) (vB m c t)
    | ⟨4, _⟩ => outL (qB m c t) (kB m c t)
  Φ _ := iprop(Pipeline.scopedRest spec0 c ∗ (∃ r, prngReg c r) ∗ Pipeline.ΦT pre0 (tabs (F := F)) c)
  q _ := fullShare
  owed _ := 0

theorem A_eq (c : Dev nD) (w : Fin (cfgA (F := F)).W) : (dats m 0 c).A w = V m c (Pipeline.arrRef spec0 w) := by
  dsimp only [dats]

theorem after0 (c : Dev nD) (t : Pt F) : (dats m 0 c).after 0 t = iblk m c 0 t := rfl
theorem after1 (c : Dev nD) (t : Pt F) : (dats m 0 c).after 1 t = iblk m c 1 t := rfl
theorem after2 (c : Dev nD) (t : Pt F) : (dats m 0 c).after 2 t = iblk m c 2 t := rfl
theorem after3 (c : Dev nD) (t : Pt F) : (dats m 0 c).after 3 t = outO (qB m c t) (kB m c t) (vB m c t) := rfl
theorem after4 (c : Dev nD) (t : Pt F) : (dats m 0 c).after 4 t = outL (qB m c t) (kB m c t) := rfl
theorem before0 (c : Dev nD) (t : Pt F) (d) : (dats m 0 c).before 0 t d = iblk m c 0 t :=
  ((dats m 0 c).before_in_eq_fetched 0 rfl (fun _ => rfl) (fun _ _ _ => rfl) (fun _ => rfl) t d).trans rfl
theorem before1 (c : Dev nD) (t : Pt F) (d) : (dats m 0 c).before 1 t d = iblk m c 1 t :=
  ((dats m 0 c).before_in_eq_fetched 1 rfl (fun _ => rfl) (fun _ _ _ => rfl) (fun _ => rfl) t d).trans rfl
theorem before2 (c : Dev nD) (t : Pt F) (d) : (dats m 0 c).before 2 t d = iblk m c 2 t :=
  ((dats m 0 c).before_in_eq_fetched 2 rfl (fun _ => rfl) (fun _ _ _ => rfl) (fun _ => rfl) t d).trans rfl

/-! ## The body at every point -/

abbrev ms0 (t : Pt F) : Memref sig .tc .vmem S1024x128 .bf16 := spec0_0.stage ((cfgA (F := F)).slots t 0)
abbrev hs0 (t : Pt F) : (ms0 t).IsWhole := hstage0_0 (((cfgA (F := F)).slots t 0).cast nbuf0_0)
abbrev ms1 (t : Pt F) : Memref sig .tc .vmem S256x128 .bf16 := spec0_1.stage ((cfgA (F := F)).slots t 1)
abbrev hs1 (t : Pt F) : (ms1 t).IsWhole := hstage0_1 (((cfgA (F := F)).slots t 1).cast nbuf0_1)
abbrev ms2 (t : Pt F) : Memref sig .tc .vmem S128x256 .bf16 := spec0_2.stage ((cfgA (F := F)).slots t 2)
abbrev hs2 (t : Pt F) : (ms2 t).IsWhole := hstage0_2 (((cfgA (F := F)).slots t 2).cast nbuf0_2)
abbrev ms3 (t : Pt F) : Memref sig .tc .vmem S1024x128 .bf16 := spec0_3.stage ((cfgA (F := F)).slots t 3)
abbrev hs3 (t : Pt F) : (ms3 t).IsWhole := hstage0_3 (((cfgA (F := F)).slots t 3).cast nbuf0_3)
abbrev ms4 (t : Pt F) : Memref sig .tc .vmem S1x1x1024 .f32 := spec0_4.stage ((cfgA (F := F)).slots t 4)
abbrev hs4 (t : Pt F) : (ms4 t).IsWhole := hstage0_4 (((cfgA (F := F)).slots t 4).cast nbuf0_4)

/-- The two tables' buffers, -/
abbrev tab0 : Memref sig .tc .smem S8 .i32 := Memref.whole main_c
abbrev tab1 : Memref sig .tc .smem S8 .i32 := Memref.whole main_c_0
/-- and those outside the windows. -/
abbrev scr0 : Memref sig .tc .vmem S1x1024 .f32 := Memref.whole cc0_scratch0
abbrev scr1 : Memref sig .tc .vmem S1x1024 .f32 := Memref.whole cc0_scratch1
abbrev scr2 : Memref sig .tc .vmem S128x1024 .f32 := Memref.whole cc0_scratch2

/-- The body at a point. -/
abbrev bodyAt (t : Pt F) :=
  cc0_cross_attn_fwd (F := F) (grid0.coords t) tab0 (Memref.isWhole_whole _) tab1 (Memref.isWhole_whole _) (ms0 t) (hs0 t) (ms1 t) (hs1 t) (ms2 t) (hs2 t) (ms3 t) (hs3 t) (ms4 t) (hs4 t) scr0 (Memref.isWhole_whole _) scr1 (Memref.isWhole_whole _) scr2 (Memref.isWhole_whole _)

/-- The tables' share of the invariant, table by table. -/
theorem tables_eq (c : Dev nD) : (Pipeline.ΦT pre0 (tabs (F := F)) c : sProp 𝕄)
    = iprop((tab0.view.loc (c : Thread nD τ) ↦[tab0.view.set]{fullShare.right} (tabs (F := F)) 0)
      ∗ (tab1.view.loc (c : Thread nD τ) ↦[tab1.view.set]{fullShare.right} (tabs (F := F)) 1)) := by
  rw [show tab0.view.set = Finset.univ from View.set_whole main_c, show tab1.view.set = Finset.univ from View.set_whole main_c_0]
  exact bigSep_univ_eq_bigSepL [(0 : Fin 2), (1 : Fin 2)] (by decide) (by decide) _

/-- The buffers outside the windows, one by one. -/
theorem scoped_eq (c : Dev nD) : (Pipeline.scopedRest spec0 c : sProp 𝕄)
    = iprop((∃ y, owns (c : Thread nD τ) scr0 fullShare y) ∗ (∃ y, owns (c : Thread nD τ) scr1 fullShare y) ∗ (∃ y, owns (c : Thread nD τ) scr2 fullShare y)) := by
  rw [scopedRest0_eq]
  simp only [owns_whole]
  rfl

theorem word1 (c : Dev nD) (i : grid0.Coords) : word (F := F) c i tab1 ((tabs (F := F)) 1) = 0#32 := tabs_at1 (F := F) i

/-- What the body is called with, -/
def bodyPre (c : Dev nD) (t : Pt F) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Pt F) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem inv_eq (c : Dev nD) (t : Fin ((cfgA (F := F)).N + 1)) : (dats m 0 c).Φ t
    = iprop(Pipeline.scopedRest spec0 c ∗ (∃ r, prngReg c r) ∗ Pipeline.ΦT pre0 (tabs (F := F)) c) := rfl

set_option maxHeartbeats 1600000 in
/-- The body at any point. -/
theorem sound_body (c : Dev nD) (t : Pt F) :
    bodyPre m c t ⊢ wp frame (wpE (defs₀ (F := F)) Variants.none c none) Set.univ (bodyAt t) (fun _ => bodyPost m c t) := by
  unfold bodyPre bodyPost
  simp only [before0, before1, before2]
  rw [show (dats m 0 c).owesAt () t.succ = (dats m 0 c).owesAt () t.castSucc from rfl, inv_eq, inv_eq, tables_eq, scoped_eq, after0, after1, after2, after3, after4]
  iintro ⟨⟨⟨⟨%y0, C0⟩, ⟨%y1, C1⟩, ⟨%y2, C2⟩⟩, Hr, T0, T1⟩, Ho, ⟨%d0, H0⟩, ⟨%d1, H1⟩, ⟨%d2, H2⟩, ⟨%d3, H3⟩, ⟨%d4, H4⟩⟩
  iapply (run c (grid0.coords t) tab0 (Memref.isWhole_whole _) tab1 (Memref.isWhole_whole _) (ms0 t) (hs0 t) (ms1 t) (hs1 t) (ms2 t) (hs2 t) (ms3 t) (hs3 t) (ms4 t) (hs4 t) scr0 (Memref.isWhole_whole _) scr1 (Memref.isWhole_whole _) scr2 (Memref.isWhole_whole _)
    fullShare.right ((tabs (F := F)) 1) (word1 c _) (iblk m c 0 t) (iblk m c 1 t) (iblk m c 2 t) ((dats m 0 c).before 3 t d3) ((dats m 0 c).before 4 t d4) y0 y1 y2 Set.univ _)
  isplitl [T1]; · iexact T1
  isplitl [H0]; · iexact H0
  isplitl [H1]; · iexact H1
  isplitl [H2]; · iexact H2
  isplitl [H3]; · iexact H3
  isplitl [H4]; · iexact H4
  isplitl [C0]; · iexact C0
  isplitl [C1]; · iexact C1
  isplitl [C2]; · iexact C2
  iintro ⟨T1, H0, H1, H2, H3, H4, C0, C1, C2⟩
  isplitl [Hr T0 T1 C0 C1 C2]
  · isplitl [C0 C1 C2]
    · isplitl [C0]; · iexact C0
      isplitl [C1]; · iexact C1
      iexact C2
    isplitl [Hr]; · iexact Hr
    isplitl [T0]; · iexact T0
    iexact T1
  isplitl [Ho]; · iexact Ho
  isplitl [H0]; · iexact H0
  isplitl [H1]; · iexact H1
  isplitl [H2]; · iexact H2
  isplitl [H3]; · iexact H3
  iexact H4

theorem defs₀_row (t : Pt F) :
    defs₀ (F := F) .tc (cfgA (F := F)).body ((cfgA (F := F)).bodyArgs t ((cfgA (F := F)).slots t)) = bodyAt t := by
  unfold defs₀; rw [Defs.onTc_tc]

/-- What a point leaves of an output's buffer, which every point writes, is what is asked of it. -/
theorem stored {A B : sProp 𝕄} : ∀ {idle flush : Bool}, idle = false → (A ⊢ (match idle with
    | true => (match flush with | false => B | true => A)
    | false => A)) := by
  intro idle flush h
  subst h
  exact .rfl

theorem body_obligation (c : Dev nD) : BodyObligation (dats (F := F) m 0 c) (defs₀ (F := F)) Variants.none () Set.univ := fun t => by
  rw [bigSep_W0, bigSep_W0, defs₀_row]
  have i3 : (cfgA (F := F)).idle 3 ((cfgA (F := F)).grid.coords t) = false := idle_out 3 (.inl rfl) (grid0.coords t)
  have i4 : (cfgA (F := F)).idle 4 ((cfgA (F := F)).grid.coords t) = false := idle_out 4 (.inr rfl) (grid0.coords t)
  refine triple_restated (sound_body m c t) rfl .rfl fun _ => ?_
  exact BI.sep_mono (fun _ h => h) <| BI.sep_mono (fun _ h => h) <| BI.sep_mono (fun _ h => h) <| BI.sep_mono (fun _ h => h) <| BI.sep_mono (fun _ h => h) <|
    BI.sep_mono (stored i3) (stored i4)

/-- The invariant before the first point, -/
theorem inv_in (c : Dev nD) : iprop(Pipeline.ΦA spec0 c ∗ Pipeline.ΦT pre0 (tabs (F := F)) c) ⊢ (dats m 0 c).Φ 0 := by
  rw [inv_eq]
  unfold Pipeline.ΦA
  iintro ⟨⟨HS, Hr⟩, HT⟩
  isplitl [HS]; · iexact HS
  isplitl [Hr]; · iexact Hr
  iexact HT

/-- and after the last. -/
theorem inv_out (c : Dev nD) : (dats m 0 c).Φ (Fin.last (cfgA (F := F)).N) ⊢ Pipeline.ΦA spec0 c := by
  rw [inv_eq]
  unfold Pipeline.ΦA
  iintro ⟨HS, Hr, -⟩
  isplitl [HS]; · iexact HS
  iexact Hr

set_option backward.isDefEq.respectTransparency.types false in
/-- The launch: every array ends at what the proof data says of it, every other buffer as the region found it, every semaphore at zero. -/
theorem run_main : θ_run defs (onTc (τ := τ) (main (F := F))) (s₀ m ρ)
    (fun r => Pipeline.FramePost (Pipeline.pin pcfgs adm) (dats m) 0 (V m) r ∧ r.2.sem = fun _ => 0) :=
  Pipeline.θ_run_frameP_track (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := fun c k => V_tabs m c k)
    (hin := inv_in m) (hout := inv_out m)

/-- The frame: the arguments end unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (show ∀ w : Fin 5, (spec0 w).arr.view.ref ≠ main_arg0 by decide))).trans (V_kept m c main_arg0 (by decide)),
      ((h.1 c).2 main_arg1 (Pipeline.mem_restRefs_of main_arg1 (by decide) (show ∀ w : Fin 5, (spec0 w).arr.view.ref ≠ main_arg1 by decide))).trans (V_kept m c main_arg1 (by decide)),
      ((h.1 c).2 main_arg2 (Pipeline.mem_restRefs_of main_arg2 (by decide) (show ∀ w : Fin 5, (spec0 w).arr.view.ref ≠ main_arg2 by decide))).trans (V_kept m c main_arg2 (by decide))⟩, h.2⟩) (run_main m ρ)

end Cert.Kernel12Ideal.Attn

end
-- ==== Proof.CVal.Step.lean ====
/- The cross attention over the reals, and what a point of its kernel computes from real blocks: the maximum it subtracts drops out. -/
module

public import proofs.«01_k».proof.Proof.CI.Body
public import proofs.«01_k».proof.Proof.FVal.Online
public import proofs.«01_k».proof.Proof.Val.HostReal
public import Idealize.ShloMosaic.Lib.Pointwise

@[expose] public section

set_option maxRecDepth 16384

noncomputable section

namespace Cert.Kernel12Ideal.Attn

open Cert.KernelIdeal.Attn (coe_sum coe_div ofBits_ninf)
open Cert.Kernel11Ideal.Attn (wt wt_pos exp2_sub)
open Gen
open Idealize.ShloMosaic TcCoe Pointwise
open Idealize.SL.Sem

/-! ## The mathematics -/

/-- The scale of the scores. -/
def sclX : ℝ := 11863283 / 134217728

/-- A maximum of real scores, of which there is one, is real. -/
theorem max_coe (s : Fin 256 → ℝ) : Finset.univ.fold max (⊥ : EReal) (fun j => ((s j : ℝ) : EReal))
    = (((Finset.univ.fold max (⊥ : EReal) (fun j => ((s j : ℝ) : EReal))).toReal : ℝ) : EReal) := by
  refine (EReal.coe_toReal ?_ ?_).symm
  · exact ne_of_lt ((Finset.fold_max_lt _).2 ⟨bot_lt_top, fun j _ => EReal.coe_lt_top _⟩)
  · exact ne_of_gt ((Finset.lt_fold_max _).2 (.inr ⟨0, Finset.mem_univ _, EReal.bot_lt_coe _⟩))

section
variable (Q : Fin 128 → ℝ) (K : Fin 256 → Fin 128 → ℝ) (W : Fin 256 → ℝ)

/-- A query's score of a key, -/
def scoreX (j : Fin 256) : ℝ := (∑ d, Q d * K j d) * sclX
/-- its weight, -/
def expX (j : Fin 256) : ℝ := Real.exp (scoreX Q K j)
/-- the sum of the weights, -/
def sumX : ℝ := ∑ j, expX Q K j
/-- the mean of some numbers by them, -/
def meanX : ℝ := (∑ j, W j * expX Q K j) * (sumX Q K)⁻¹
/-- and the logarithm of the sum to base two. -/
def lseX : ℝ := Real.log (sumX Q K) * (Real.log 2)⁻¹

theorem sumX_pos : 0 < sumX Q K := Finset.sum_pos (fun j _ => Real.exp_pos _) ⟨0, Finset.mem_univ _⟩

/-- The weights less a common number are the weights up to a factor. -/
theorem exp_less (M : ℝ) (j : Fin 256) : Real.exp (scoreX Q K j - M) = expX Q K j * Real.exp (-M) := by
  unfold expX; rw [← Real.exp_add]; rfl

theorem mean_of {w : ℝ} (hw : w ≠ 0) : (∑ j, W j * expX Q K j) * w * (sumX Q K * w)⁻¹ = meanX Q K W := by
  unfold meanX
  have := (sumX_pos Q K).ne'
  field_simp

theorem log_of (M : ℝ) : M + Real.log (sumX Q K * wt M) * (Real.log 2)⁻¹ = lseX Q K := by
  unfold lseX wt
  rw [Real.log_mul (sumX_pos Q K).ne' (Real.exp_pos _).ne', Real.log_exp]
  have : Real.log 2 ≠ 0 := (Real.log_pos (by norm_num)).ne'
  field_simp
  ring
end

/-! ## A point -/

theorem named_scale2 : Named.named (F := Ideal) κ "scale2" (φ := .f32) 0x3E0293EE#32 = ((sclX * (Real.log 2)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem named_log2e : Named.named (F := Ideal) κ "log2e" (φ := .f32) 0x3FB8AA3B#32 = (((Real.log 2)⁻¹ : ℝ) : EReal) :=
  IdealRules.named_const.ideal_named_scalar _ _ _ _ rfl

section
variable {q : Vec Ideal S1024x128 .bf16} {k : Vec Ideal S256x128 .bf16} {v : Vec Ideal S128x256 .bf16}
  {Q : Fin 1024 → Fin 128 → ℝ} {K : Fin 256 → Fin 128 → ℝ} {W : Fin 128 → Fin 256 → ℝ}
  (hq : ∀ a x, q (ix2 a x) = ((Q a x : ℝ) : EReal)) (hk : ∀ a x, k (ix2 a x) = ((K a x : ℝ) : EReal))
include hq hk

theorem pay8_real (j : Fin 256) (b : Fin 1024) : k0_pay8 k q (ix2 j b) = ((scoreX (Q b) K j * (Real.log 2)⁻¹ : ℝ) : EReal) := by
  pointwise [k0_pay8]
  simp only [named_scale2, hq, hk, ← EReal.coe_mul, ← coe_sum]
  refine congrArg _ ?_
  unfold scoreX
  rw [mul_assoc]
  simp only [mul_comm (K j _)]

/-- The maximum a point takes is real, -/
theorem top_real (b : Fin 1024) : ∃ M : ℝ, k0_pay9 k q (k0_pay5 (F := Ideal)) (ix2 0 b) = (M : EReal) := by
  refine ⟨_, Eq.trans ?_ (max_coe fun j => scoreX (Q b) K j * (Real.log 2)⁻¹)⟩
  pointwise [k0_pay9, k0_pay5]
  simp only [pay8_real hq hk, ofBits_ninf, named_mask]
  exact max_eq_right bot_le

/-- what a point starts from is gone, -/
theorem old_gone {b : Fin 1024} {M : ℝ} (hM : k0_pay9 k q (k0_pay5 (F := Ideal)) (ix2 0 b) = (M : EReal)) :
    k0_pay10 k q (k0_pay5 (F := Ideal)) (ix2 0 b) = (0 : EReal) := by
  have e : k0_pay5 (F := Ideal) (ix2 0 b) = (⊥ : EReal) := by
    pointwise [k0_pay5]
    exact named_mask
  pointwise [k0_pay10]
  rw [e, hM, EReal.bot_sub]
  rfl

/-- and the weights are the reference's, up to a factor of the query. -/
theorem weight_real {b : Fin 1024} {M : ℝ} (hM : k0_pay9 k q (k0_pay5 (F := Ideal)) (ix2 0 b) = (M : EReal)) (j : Fin 256) :
    k0_pay11 k q (k0_pay5 (F := Ideal)) (ix2 j b) = ((expX (Q b) K j * wt M : ℝ) : EReal) := by
  pointwise [k0_pay11]
  rw [pay8_real hq hk, hM]
  refine (exp2_sub _ _).trans (congrArg _ (congrArg (· * wt M) ?_))
  unfold expX
  have : Real.log 2 ≠ 0 := (Real.log_pos (by norm_num)).ne'
  rw [mul_assoc, inv_mul_cancel₀ this, mul_one]

theorem sum_real {b : Fin 1024} {M : ℝ} (hM : k0_pay9 k q (k0_pay5 (F := Ideal)) (ix2 0 b) = (M : EReal)) :
    sumOf q k (ix2 0 b) = ((sumX (Q b) K * wt M : ℝ) : EReal) := by
  unfold sumOf
  pointwise [k0_pay12]
  simp only [old_gone hq hk hM, weight_real hq hk hM, zero_mul, zero_add, ← coe_sum]
  unfold sumX
  rw [Finset.sum_mul]

theorem acc_real (hv : ∀ x a, v (ix2 x a) = ((W x a : ℝ) : EReal)) {b : Fin 1024} {M : ℝ} (hM : k0_pay9 k q (k0_pay5 (F := Ideal)) (ix2 0 b) = (M : EReal)) (x : Fin 128) :
    accOf q k v (ix2 x b) = (((∑ j, W x j * expX (Q b) K j) * wt M : ℝ) : EReal) := by
  unfold accOf
  pointwise [k0_pay1, k0_pay13, k0_pay14, k0_pay15]
  simp only [old_gone hq hk hM, weight_real hq hk hM, hv, zero_mul, zero_add, ← EReal.coe_mul, ← coe_sum]
  rw [Finset.sum_mul]
  simp only [mul_assoc]

/-- The output of a query: the mean of the values by the weights. -/
theorem outO_real (hv : ∀ x a, v (ix2 x a) = ((W x a : ℝ) : EReal)) (b : Fin 1024) (x : Fin 128) :
    outO q k v (ix2 b x) = ((meanX (Q b) K (W x) : ℝ) : EReal) := by
  obtain ⟨M, hM⟩ := top_real hq hk b
  have e : outO q k v (ix2 b x) = Ideal.div (accOf q k v (ix2 x b)) (sumOf q k (ix2 0 b)) := by
    unfold outO
    pointwise [k0_pay3]
  rw [e, sum_real hq hk hM, acc_real hq hk hv hM, coe_div _ (mul_pos (sumX_pos _ _) (wt_pos M)).ne', mean_of _ _ _ (wt_pos M).ne']

/-- The logarithm of its sum. -/
theorem outL_real (b : Fin 1024) : outL q k (ix3 0 0 b) = ((lseX (Q b) K : ℝ) : EReal) := by
  obtain ⟨M, hM⟩ := top_real hq hk b
  have e : outL q k (ix3 0 0 b) = (topOf q k (ix2 0 b) + Ideal.log (sumOf q k (ix2 0 b)) * (((Real.log 2)⁻¹ : ℝ) : EReal) : EReal) := by
    unfold outL
    pointwise [k0_pay4]
    simp only [named_log2e]
  have et : topOf q k (ix2 0 b) = (M : EReal) := by
    unfold topOf
    pointwise [k0_pay2]
    exact hM
  rw [e, et, sum_real hq hk hM, Ideal.log_coe, if_neg (not_le.2 (mul_pos (sumX_pos _ _) (wt_pos M))), ← EReal.coe_mul, ← EReal.coe_add, log_of]
end

end Cert.Kernel12Ideal.Attn

end
-- ==== Proof.CVal.Final.lean ====
/- What the cross attention's windows read, over real arguments, and its two outputs when it ends. -/
module

public import proofs.«01_k».proof.Proof.CI.Frame
public import proofs.«01_k».proof.Proof.CVal.Step
public import Idealize.ShloMosaic.Lib.Pipeline.ValueKit.Geometry

@[expose] public section

set_option maxRecDepth 16384

noncomputable section

namespace Cert.Kernel12Ideal.Attn

open Cert.KernelIdeal.Attn (row)
open Gen
open Idealize.ShloMosaic TcCoe Pointwise Tactic
open Pipeline (Dat Cfg Window)
open Idealize.SL.Sem

/-- A head's columns, -/
def lane4 (h : Fin 4) (x : Fin 128) : Fin 512 := ⟨h.val * 128 + x.val, by omega⟩

/-- and among the keys' and values', where the values come second. -/
def lane8 (h : Fin 4) (x : Fin 128) : Fin 1024 := ⟨512 + (h.val * 128 + x.val), by omega⟩

/-- The block of queries of a grid point -/
abbrev blkOf (t : Fin grid0.N) : Fin 8 := stepOf (grid0.coords t)
/-- and its head. -/
abbrev hd (t : Fin grid0.N) : Fin 4 := headOf (grid0.coords t)

theorem hd_val (t : Fin grid0.N) : (hd t).val = t.val / 8 % 4 := Pipeline.Grid.coords_val t 0 (by decide) rfl

theorem blk_val (t : Fin grid0.N) : (blkOf t).val = t.val % 8 := by
  have e : (grid0.coords t 1).val = t.val / 1 % 8 := Pipeline.Grid.coords_val t 1 (by decide) rfl
  rw [Nat.div_one] at e; exact e

section
variable (m : (ℓ : Loc nD τ sig) → Buf (Elt Ideal) ℓ) (c : Dev nD) (t : Fin grid0.N)

/-- The three arguments. -/
abbrev a0 : FVec Ideal S1x8192x4x128 .f32 := m ((c : Thread nD τ).loc main_arg0)
abbrev a1 : FVec Ideal S1x256x4x128 .f32 := m ((c : Thread nD τ).loc main_arg1)
abbrev a2 : FVec Ideal S1x256x1024 .f32 := m ((c : Thread nD τ).loc main_arg2)

theorem V_v5 (p : Fin 8192) (h : Fin 4) (x : Fin 128) : V m c main_v5 (ix2 p (lane4 h x)) = a0 m c (ix4 0 p h x) := by
  have e : V m c main_v5 = (truncf .bf16 (shapeCast S8192x512 (a0 m c) shapeCasts_S1x8192x4x128_S8192x512) bitsLt_bf16_f32 : FVec Ideal S8192x512 .bf16) := by
    unfold V; after_results; rfl
  rw [e]
  refine shapeCast_apply (a0 m c) shapeCasts_S1x8192x4x128_S8192x512 (ix2 p (lane4 h x)) (ix4 0 p h x) ?_
  rw [Shape.rowMajor_val_two, Shape.rowMajor_val_four]
  show ((0 * 8192 + p.val) * 4 + h.val) * 128 + x.val = p.val * 512 + (h.val * 128 + x.val)
  omega

theorem V_v7 (p : Fin 256) (h : Fin 4) (x : Fin 128) : V m c main_v7 (ix2 p (lane4 h x)) = a1 m c (ix4 0 p h x) := by
  have e : V m c main_v7 = (truncf .bf16 (shapeCast S256x512 (a1 m c) shapeCasts_S1x256x4x128_S256x512) bitsLt_bf16_f32 : FVec Ideal S256x512 .bf16) := by
    unfold V; after_results; rfl
  rw [e]
  refine shapeCast_apply (a1 m c) shapeCasts_S1x256x4x128_S256x512 (ix2 p (lane4 h x)) (ix4 0 p h x) ?_
  rw [Shape.rowMajor_val_two, Shape.rowMajor_val_four]
  show ((0 * 256 + p.val) * 4 + h.val) * 128 + x.val = p.val * 512 + (h.val * 128 + x.val)
  omega

theorem V_v3 (p : Fin 256) (h : Fin 4) (x : Fin 128) : V m c main_v3 (ix2 (lane4 h x) p) = a2 m c (ix3 0 p (lane8 h x)) := by
  have e : V m c main_v3 = (truncf .bf16 (transpose S512x256 [1, 0] (shapeCast S256x512 (extractStridedSlice S1x256x512 ![0, 0, 512] (a2 m c) slices_S1x256x1024_S1x256x512_0_0_512) shapeCasts_S1x256x512_S256x512) transposes_S256x512_S512x256_1_0) bitsLt_bf16_f32 : FVec Ideal S512x256 .bf16) := by
    unfold V; after_results; rfl
  rw [e]
  generalize a2 m c = y
  pointwise
  rfl

theorem idx0 : ((cfgA (F := Ideal)).win 0).index t = ![(blkOf t).val, (hd t).val] := map0 _
theorem idx1 : ((cfgA (F := Ideal)).win 1).index t = ![0, (hd t).val] := map1 _
theorem idx2 : ((cfgA (F := Ideal)).win 2).index t = ![(hd t).val, 0] := map2 _
theorem idx3 : ((cfgA (F := Ideal)).win 3).index t = ![(blkOf t).val, (hd t).val] := map3 _
theorem idx4 : ((cfgA (F := Ideal)).win 4).index t = ![(hd t).val, 0, (blkOf t).val] := map4 _

theorem qB_at (a : Fin 1024) (x : Fin 128) : qB m c t (ix2 a x) = a0 m c (ix4 0 (row (blkOf t) a) (hd t) x) := by
  refine Eq.trans (congrArg (V m c main_v5) (funext fun b => Fin.ext ?_)) (V_v5 m c _ _ _)
  refine (Window.rect_emb_val ((cfgA (F := Ideal)).win 0) t (ix2 a x) b rfl).trans ?_
  rw [idx0]
  match b with
  | ⟨0, _⟩ => show (blkOf t).val * 1024 + a.val = 1024 * (blkOf t).val + a.val; omega
  | ⟨1, _⟩ => rfl

theorem kB_at (j : Fin 256) (x : Fin 128) : kB m c t (ix2 j x) = a1 m c (ix4 0 j (hd t) x) := by
  refine Eq.trans (congrArg (V m c main_v7) (funext fun b => Fin.ext ?_)) (V_v7 m c _ _ _)
  refine (Window.rect_emb_val ((cfgA (F := Ideal)).win 1) t (ix2 j x) b rfl).trans ?_
  rw [idx1]
  match b with
  | ⟨0, _⟩ => show 0 * 256 + j.val = j.val; omega
  | ⟨1, _⟩ => rfl

theorem vB_at (x : Fin 128) (j : Fin 256) : vB m c t (ix2 x j) = a2 m c (ix3 0 j (lane8 (hd t) x)) := by
  refine Eq.trans (congrArg (V m c main_v3) (funext fun b => Fin.ext ?_)) (V_v3 m c _ _ _)
  refine (Window.rect_emb_val ((cfgA (F := Ideal)).win 2) t (ix2 x j) b rfl).trans ?_
  rw [idx2]
  match b with
  | ⟨0, _⟩ => rfl
  | ⟨1, _⟩ => show 0 * 256 + j.val = j.val; omega

theorem emb3 (a : Fin 1024) (x : Fin 128) :
    (((cfgA (F := Ideal)).win 3).blk t).view.emb (ix2 a x) = (ix2 (row (blkOf t) a) (lane4 (hd t) x) : S8192x512.Idx) := by
  refine funext fun b => Fin.ext ?_
  refine (Window.rect_emb_val ((cfgA (F := Ideal)).win 3) t (ix2 a x) b rfl).trans ?_
  rw [idx3]
  match b with
  | ⟨0, _⟩ => show (blkOf t).val * 1024 + a.val = 1024 * (blkOf t).val + a.val; omega
  | ⟨1, _⟩ => rfl

theorem emb4 (a : Fin 1024) :
    (((cfgA (F := Ideal)).win 4).blk t).view.emb (ix3 0 0 a) = (ix3 (hd t) 0 (row (blkOf t) a) : S4x1x8192.Idx) := by
  refine funext fun b => Fin.ext ?_
  refine (Window.rect_emb_val ((cfgA (F := Ideal)).win 4) t (ix3 0 0 a) b rfl).trans ?_
  rw [idx4]
  match b with
  | ⟨0, _⟩ => show (hd t).val * 1 + 0 = (hd t).val; omega
  | ⟨1, _⟩ => rfl
  | ⟨2, _⟩ => show (blkOf t).val * 1024 + a.val = 1024 * (blkOf t).val + a.val; omega
end

/-- The grid point of a block of queries and a head. -/
def pointOf (i : Fin 8) (h : Fin 4) : Fin grid0.N := ⟨8 * h.val + i.val, lt_of_lt_of_eq (by omega) N_0.symm⟩

theorem hd_point (i : Fin 8) (h : Fin 4) : hd (pointOf i h) = h := Fin.ext (by rw [hd_val]; show (8 * h.val + i.val) / 8 % 4 = h.val; omega)
theorem blk_point (i : Fin 8) (h : Fin 4) : blkOf (pointOf i h) = i := Fin.ext (by rw [blk_val]; show (8 * h.val + i.val) % 8 = i.val; omega)

/-- A block that the next point moves is written back. -/
theorem flush_moved {w : Window sig grid0} (hw : w.isOut = true) {t : Fin grid0.N} (h : ∀ t' : Fin grid0.N, t'.val = t.val + 1 → w.index t' ≠ w.index t) : w.flush t = true := by
  unfold Window.flush
  rw [hw, Bool.true_and, Bool.or_eq_true]
  by_cases e : t.val + 1 = grid0.N
  · exact Or.inl (decide_eq_true e)
  · exact Or.inr (decide_eq_true ⟨by have := t.isLt; omega, h ⟨t.val + 1, by have := t.isLt; omega⟩ rfl⟩)

/-- Every point's successor has another block of queries. -/
theorem moved (t t' : Fin grid0.N) (e : t'.val = t.val + 1) : (blkOf t').val ≠ (blkOf t).val := by
  rw [blk_val, blk_val]; omega

theorem flush3 (t : Fin grid0.N) : ((cfgA (F := Ideal)).win 3).flush t = true :=
  flush_moved rfl fun t' e hi => by
    rw [idx3, idx3] at hi
    exact moved t t' e (congrFun hi 0)

theorem flush4 (t : Fin grid0.N) : ((cfgA (F := Ideal)).win 4).flush t = true :=
  flush_moved rfl fun t' e hi => by
    rw [idx4, idx4] at hi
    exact moved t t' e (congrFun hi 2)

theorem idx_block (y : S1024x128.Idx) : ∃ a x, y = ix2 a x := ⟨y 0, y 1, funext fun b => match b with | ⟨0, _⟩ => rfl | ⟨1, _⟩ => rfl⟩

theorem idx_line (y : S1x1x1024.Idx) : ∃ a, y = ix3 0 0 a := ⟨y 2, funext fun b => match b with
  | ⟨0, _⟩ => Fin.ext (by have : (y 0).val < 1 := (y 0).isLt; show (y 0).val = 0; omega)
  | ⟨1, _⟩ => Fin.ext (by have : (y 1).val < 1 := (y 1).isLt; show (y 1).val = 0; omega)
  | ⟨2, _⟩ => rfl⟩

theorem idx_rows (i : S8192x512.Idx) : ∃ (j : Fin 8) (h : Fin 4) (a : Fin 1024) (x : Fin 128), i = ix2 (row j a) (lane4 h x) := by
  have e0 : (i 0).val < 8192 := (i 0).isLt
  have e1 : (i 1).val < 512 := (i 1).isLt
  refine ⟨⟨(i 0).val / 1024, by omega⟩, ⟨(i 1).val / 128, by omega⟩, ⟨(i 0).val % 1024, by omega⟩, ⟨(i 1).val % 128, by omega⟩, funext fun b => Fin.ext ?_⟩
  match b with
  | ⟨0, _⟩ => show (i 0).val = 1024 * ((i 0).val / 1024) + (i 0).val % 1024; omega
  | ⟨1, _⟩ => show (i 1).val = (i 1).val / 128 * 128 + (i 1).val % 128; omega

theorem idx_lines (i : S4x1x8192.Idx) : ∃ (j : Fin 8) (h : Fin 4) (a : Fin 1024), i = ix3 h 0 (row j a) := by
  have e2 : (i 2).val < 8192 := (i 2).isLt
  refine ⟨⟨(i 2).val / 1024, by omega⟩, i 0, ⟨(i 2).val % 1024, by omega⟩, funext fun b => Fin.ext ?_⟩
  match b with
  | ⟨0, _⟩ => rfl
  | ⟨1, _⟩ => have : (i 1).val < 1 := (i 1).isLt; show (i 1).val = 0; omega
  | ⟨2, _⟩ => show (i 2).val = 1024 * ((i 2).val / 1024) + (i 2).val % 1024; omega

section
variable {m : (ℓ : Loc nD τ sig) → Buf (Elt Ideal) ℓ} {c : Dev nD}
  {q : Fin 8192 → Fin 4 → Fin 128 → ℝ} {k v : Fin 256 → Fin 4 → Fin 128 → ℝ}
  (h0 : ∀ p h d, a0 m c (ix4 0 p h d) = ((q p h d : ℝ) : EReal)) (h1 : ∀ p h d, a1 m c (ix4 0 p h d) = ((k p h d : ℝ) : EReal))
  (h2 : ∀ p h d, a2 m c (ix3 0 p (lane8 h d)) = ((v p h d : ℝ) : EReal))

include h0 h1 h2 in
/-- The output. -/
theorem final3 (G : Vec Ideal S8192x512 .bf16) (hG : ∀ p h x, G (ix2 p (lane4 h x)) = ((meanX (q p h) (fun j => k j h) (fun j => v j h x) : ℝ) : EReal)) :
    (dats m 0 c).arrAt 3 (cfgA (F := Ideal)).N = G := by
  refine (dats m 0 c).arrAt_eq_of_emb 3 G (fun t hf y => ?_) fun i => ?_
  · obtain ⟨a, x, rfl⟩ := idx_block y
    rw [emb3, hG]
    exact outO_real (Q := fun a => q (row (blkOf t) a) (hd t)) (K := fun j => k j (hd t)) (W := fun x j => v j (hd t) x)
      (fun a x => (qB_at m c t a x).trans (h0 _ _ _)) (fun j x => (kB_at m c t j x).trans (h1 _ _ _)) (fun x j => (vB_at m c t x j).trans (h2 _ _ _)) a x
  · obtain ⟨j, h, a, x, rfl⟩ := idx_rows i
    refine ⟨pointOf j h, flush3 _, ?_⟩
    have e := emb3 (pointOf j h) a x
    rw [hd_point, blk_point] at e
    rw [← e]
    exact View.emb_mem_set _ _

include h0 h1 in
/-- The logarithms of the sums. -/
theorem final4 (G : Vec Ideal S4x1x8192 .f32) (hG : ∀ h p, G (ix3 h 0 p) = ((lseX (q p h) (fun j => k j h) : ℝ) : EReal)) :
    (dats m 0 c).arrAt 4 (cfgA (F := Ideal)).N = G := by
  refine (dats m 0 c).arrAt_eq_of_emb 4 G (fun t hf y => ?_) fun i => ?_
  · obtain ⟨a, rfl⟩ := idx_line y
    rw [emb4, hG]
    exact outL_real (Q := fun a => q (row (blkOf t) a) (hd t)) (K := fun j => k j (hd t))
      (fun a x => (qB_at m c t a x).trans (h0 _ _ _)) (fun j x => (kB_at m c t j x).trans (h1 _ _ _)) a
  · obtain ⟨j, h, a, rfl⟩ := idx_lines i
    refine ⟨pointOf j h, flush4 _, ?_⟩
    have e := emb4 (pointOf j h) a
    rw [hd_point, blk_point] at e
    rw [← e]
    exact View.emb_mem_set _ _
end

end Cert.Kernel12Ideal.Attn

end
-- ==== Proof.CVal.Ref.lean ====
/- The cross attention reference's two results, over real arguments. -/
module

public import proofs.«01_k».proof.Proof.CVal.Final
public import proofs.«01_k».proof.Proof.Gen.Reference12Ideal.Read
public import Idealize.ShloMosaic.Lib.Pointwise

@[expose] public section

set_option maxRecDepth 16384

noncomputable section

namespace Cert.Reference12Ideal.Attn

open Cert.KernelIdeal.Attn (coe_sum coe_div ofBits_ninf ofBits_two)
open Cert.Kernel12Ideal.Attn
open Cert.Reference12Ideal Cert.Reference12Ideal.Read
open Idealize.ShloMosaic TcCoe Pointwise Tactic
open Idealize.SL.Sem

theorem ofBits_sclX : Ideal.ofBits .f32 0x3DB504F3#32 = ((sclX : ℝ) : EReal) := by
  simp [Ideal.ofBits, Ideal.ieee, sclX, -EReal.coe_mul]; norm_num

/-- The largest of a query's scores. -/
def topX (Q : Fin 128 → ℝ) (K : Fin 256 → Fin 128 → ℝ) : ℝ := (Finset.univ.fold max (⊥ : EReal) fun j => ((scoreX Q K j : ℝ) : EReal)).toReal

variable {q : Fin 8192 → Fin 4 → Fin 128 → ℝ} {k v : Fin 256 → Fin 4 → Fin 128 → ℝ}
  {x0 : FVec Ideal S1x8192x4x128 .f32} {x1 : FVec Ideal S1x256x4x128 .f32} {x2 : FVec Ideal S1x256x1024 .f32}

/-- The scores are computed twice over, -/
theorem scores_eq : val_main_v19 (F := Ideal) x0 x1 = val_main_v4 (F := Ideal) x0 x1 := rfl

/-- and once with the maximum taken against minus infinity, which is the maximum. -/
theorem top_eq : val_main_v22 (F := Ideal) x0 x1 = val_main_v5 (F := Ideal) x0 x1 := by
  funext i
  rw [val_main_v22_apply, val_main_v21_apply, val_main_cst_5_apply]
  show max (Ideal.ofBits .f32 0xFF800000#32) (val_main_v20 (F := Ideal) x0 x1 i : EReal) = _
  rw [ofBits_ninf]
  exact max_eq_right bot_le

theorem weights_eq : val_main_v26 (F := Ideal) x0 x1 = val_main_v9 (F := Ideal) x0 x1 := by
  unfold val_main_v26 val_main_v25 val_main_v24 val_main_v23
  rw [top_eq, scores_eq]
  rfl

theorem sums_eq : val_main_v28 (F := Ideal) x0 x1 = val_main_v11 (F := Ideal) x0 x1 := by
  unfold val_main_v28 val_main_v27
  rw [weights_eq]
  rfl

section
variable (h0 : ∀ p h d, x0 (ix4 0 p h d) = ((q p h d : ℝ) : EReal)) (h1 : ∀ p h d, x1 (ix4 0 p h d) = ((k p h d : ℝ) : EReal))
include h0 h1

theorem score_real (h : Fin 4) (p : Fin 8192) (j : Fin 256) : val_main_v4 (F := Ideal) x0 x1 (ix4 0 h p j) = ((scoreX (q p h) (fun j => k j h) j : ℝ) : EReal) := by
  pointwise [val_main_v4, val_main_v3, val_main_v2, val_main_cst]
  simp only [h0, h1, ofBits_sclX, ← EReal.coe_mul, ← coe_sum]
  rfl

theorem top_real (h : Fin 4) (p : Fin 8192) : val_main_v6 (F := Ideal) x0 x1 (ix4 0 h p 0) = ((topX (q p h) (fun j => k j h) : ℝ) : EReal) := by
  pointwise [val_main_v6, val_main_v5, val_main_cst_0]
  simp only [score_real h0 h1, ofBits_ninf]
  exact max_coe _

theorem weight_real (h : Fin 4) (p : Fin 8192) (j : Fin 256) :
    val_main_v9 (F := Ideal) x0 x1 (ix4 0 h p j) = ((expX (q p h) (fun j => k j h) j * Real.exp (-topX (q p h) (fun j => k j h)) : ℝ) : EReal) := by
  pointwise [val_main_v9, val_main_v8, val_main_v7]
  simp only [score_real h0 h1, top_real h0 h1]
  rw [← EReal.coe_sub, ← exp_less]
  exact Ideal.exp_coe _

theorem sum_real (h : Fin 4) (p : Fin 8192) :
    val_main_v11 (F := Ideal) x0 x1 (ix4 0 h p 0) = ((sumX (q p h) (fun j => k j h) * Real.exp (-topX (q p h) (fun j => k j h)) : ℝ) : EReal) := by
  pointwise [val_main_v11, val_main_v10, val_main_cst_1]
  simp only [weight_real h0 h1, ← coe_sum, zero_add]
  unfold sumX
  rw [Finset.sum_mul]

/-- The logarithm of the sum to base two. -/
theorem log_real (h : Fin 4) (p : Fin 8192) : val_main_v16 (F := Ideal) x0 x1 (ix4 0 h p 0) = ((lseX (q p h) (fun j => k j h) : ℝ) : EReal) := by
  rw [val_main_v16_apply, val_main_v13_apply, val_main_v12_apply, val_main_v15_apply, val_main_v14_apply, val_main_cst_2_apply, top_real h0 h1, sum_real h0 h1]
  have hs := sumX_pos (q p h) (fun j => k j h)
  have he := Real.exp_pos (-topX (q p h) (fun j => k j h))
  show Ideal.div (((topX (q p h) (fun j => k j h) : ℝ) : EReal) + Ideal.log ((sumX (q p h) (fun j => k j h) * Real.exp (-topX (q p h) (fun j => k j h)) : ℝ) : EReal)) (Ideal.log (Ideal.ofBits .f32 0x40000000#32)) = _
  rw [ofBits_two, Ideal.log_coe, Ideal.log_coe, if_neg (not_le.2 (mul_pos hs he)), if_neg (not_le.2 (by norm_num : (0 : ℝ) < 2)), ← EReal.coe_add]
  refine (coe_div _ (Real.log_pos (by norm_num)).ne').trans (congrArg _ ?_)
  rw [Real.log_mul hs.ne' he.ne', Real.log_exp, add_neg_cancel_comm_assoc]
  rfl

theorem r36 (h : Fin 4) (p : Fin 8192) : val_main_v36 (F := Ideal) x0 x1 (ix3 h 0 p) = ((lseX (q p h) (fun j => k j h) : ℝ) : EReal) := by
  refine Eq.trans ?_ (log_real h0 h1 h p)
  unfold val_main_v36
  generalize val_main_v16 (F := Ideal) x0 x1 = y
  refine shapeCast_apply y _ _ _ ?_
  rw [Shape.rowMajor_val_three, Shape.rowMajor_val_four]
  show ((0 * 4 + h.val) * 8192 + p.val) * 1 + 0 = (h.val * 1 + 0) * 8192 + p.val
  omega

theorem prob_real (h : Fin 4) (p : Fin 8192) (j : Fin 256) : val_main_v30 (F := Ideal) x0 x1 (ix4 0 h p j)
    = ((expX (q p h) (fun j => k j h) j * Real.exp (-topX (q p h) (fun j => k j h)) * (sumX (q p h) (fun j => k j h) * Real.exp (-topX (q p h) (fun j => k j h)))⁻¹ : ℝ) : EReal) := by
  unfold val_main_v30 val_main_v29
  rw [weights_eq, sums_eq]
  pointwise
  simp only [weight_real h0 h1, sum_real h0 h1]
  exact coe_div _ (mul_pos (sumX_pos _ _) (Real.exp_pos _)).ne'

variable (h2 : ∀ p h d, x2 (ix3 0 p (lane8 h d)) = ((v p h d : ℝ) : EReal))
include h2

omit h0 h1 in
theorem val_real (j : Fin 256) (h : Fin 4) (d : Fin 128) : val_main_v1 (F := Ideal) x2 (ix4 0 j h d) = ((v j h d : ℝ) : EReal) := by
  refine Eq.trans ?_ (h2 j h d)
  pointwise [val_main_v1, val_main_v0]
  rfl

theorem mean_real (h : Fin 4) (d : Fin 128) (p : Fin 8192) :
    val_main_v31 (F := Ideal) x0 x1 x2 (ix4 0 h d p) = ((meanX (q p h) (fun j => k j h) (fun j => v j h d) : ℝ) : EReal) := by
  pointwise [val_main_v31]
  simp only [val_real h2, prob_real h0 h1, ← EReal.coe_mul, ← coe_sum]
  refine congrArg _ (Eq.trans ?_ (mean_of (q p h) (fun j => k j h) (fun j => v j h d) (Real.exp_pos (-topX (q p h) (fun j => k j h))).ne'))
  rw [Finset.sum_mul, Finset.sum_mul]
  exact Finset.sum_congr rfl fun j _ => by rw [mul_assoc, mul_assoc, mul_assoc]

theorem r35 (p : Fin 8192) (h : Fin 4) (x : Fin 128) :
    val_main_v35 (F := Ideal) x0 x1 x2 (ix2 p (lane4 h x)) = ((meanX (q p h) (fun j => k j h) (fun j => v j h x) : ℝ) : EReal) := by
  refine Eq.trans ?_ (mean_real h0 h1 h2 h x p)
  refine (show _ = val_main_v34 (F := Ideal) x0 x1 x2 (ix2 p (lane4 h x)) from rfl).trans ?_
  unfold val_main_v34 val_main_v33 val_main_v32
  generalize val_main_v31 (F := Ideal) x0 x1 x2 = y
  refine (shapeCast_apply _ Facts₀.shapeCasts_S1x8192x512_S8192x512 (ix2 p (lane4 h x)) (ix3 0 p (lane4 h x)) ?_).trans
    ((shapeCast_apply _ Facts₀.shapeCasts_S1x8192x4x128_S1x8192x512 (ix3 0 p (lane4 h x)) (ix4 0 p h x) ?_).trans ?_)
  · rw [Shape.rowMajor_val_two, Shape.rowMajor_val_three]
    show (0 * 8192 + p.val) * 512 + (h.val * 128 + x.val) = p.val * 512 + (h.val * 128 + x.val)
    omega
  · rw [Shape.rowMajor_val_three, Shape.rowMajor_val_four]
    show ((0 * 8192 + p.val) * 4 + h.val) * 128 + x.val = (0 * 8192 + p.val) * 512 + (h.val * 128 + x.val)
    omega
  · pointwise
end

end Cert.Reference12Ideal.Attn

end
-- ==== Proof.CVal.Claims.lean ====
/- The cross attention kernel's claims: its frames, its named constants, and that it ends with the reference's two results, from finite arguments. -/
module

public import proofs.«01_k».proof.Defs
public import proofs.«01_k».proof.Proof.C.Frame
public import proofs.«01_k».proof.Proof.CVal.Final
public import proofs.«01_k».proof.Proof.CVal.Ref
public import proofs.«01_k».proof.Proof.Gen.Pre_finite12
public import proofs.«01_k».proof.Proof.Gen.Reference12Ideal.Run
public import proofs.«01_k».proof.Proof.Val.Algebraic
public import Idealize.ShloMosaic.Lib.ReduceAll
public import Idealize.ShloMosaic.Lib.Quiescent

@[expose] public section

set_option maxRecDepth 16384

noncomputable section

namespace Cert.Proof.Claims12

open Idealize.ShloMosaic TcCoe Pointwise Idealize.SL.Sem
open Cert.Kernel12Ideal.Attn
open Cert.Proof.Claims (real_of_cmp)

theorem frame_p : Cert.quiescent_Kernel12 := fun m ρ _ => Cert.Kernel12.Attn.frame_main m ρ

theorem frame_pi : Cert.quiescent_Kernel12Ideal := fun m ρ _ => Cert.Kernel12Ideal.Attn.frame_main m ρ

/-- The host reference declares no semaphore. -/
theorem frame_ri : Cert.quiescent_Reference12Ideal := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

theorem preserves : Cert.preserves_Kernel12_Kernel12Ideal :=
  ⟨IdealRules.named_const.statement Cert.Kernel12Ideal.κ "mask" .f32 0xF149F2CA#32 ⊥ rfl,
    IdealRules.named_const.statement Cert.Kernel12Ideal.κ "scale2" .f32 0x3E0293EE#32
      (((11863283 / 134217728) * (Real.log 2)⁻¹ : ℝ) : EReal) rfl,
    IdealRules.named_const.statement Cert.Kernel12Ideal.κ "log2e" .f32 0x3FB8AA3B#32 (((Real.log 2)⁻¹ : ℝ) : EReal) rfl⟩

instance : Subsingleton Cert.Pre_finite12.S_.Idx := ⟨fun _ _ => funext fun a => a.elim0⟩

section
open Cert.Pre_finite12
/-- What the precondition says: every entry of the three arguments is a real number. -/
theorem finite_reads (x0 : FVec Ideal S1x8192x4x128 .f32) (x1 : FVec Ideal S1x256x4x128 .f32) (x2 : FVec Ideal S1x256x1024 .f32)
    (h : Cert.Pre_finite12.fn (F := Ideal) x0 x1 x2 = fun _ => 1#1) :
    (∀ i, (x0 i : EReal) = (((x0 i : EReal).toReal : ℝ) : EReal)) ∧ (∀ i, (x1 i : EReal) = (((x1 i : EReal).toReal : ℝ) : EReal))
      ∧ (∀ i, (x2 i : EReal) = (((x2 i : EReal).toReal : ℝ) : EReal)) := by
  have e := congrFun h (fun a => a.elim0)
  unfold Cert.Pre_finite12.fn at e
  obtain ⟨e, e2⟩ := IntOp.andi_eq_one.1 e
  obtain ⟨e0, e1⟩ := IntOp.andi_eq_one.1 e
  exact ⟨fun i => real_of_cmp (Host.reduce_andi_all _ _ _ _ _ e0 i), fun i => real_of_cmp (Host.reduce_andi_all _ _ _ _ _ e1 i),
    fun i => real_of_cmp (Host.reduce_andi_all _ _ _ _ _ e2 i)⟩
end

theorem algebraic : Cert.algebraic_Kernel12Ideal_Reference12Ideal_pre_finite12 := by
  intro m g m' g' hpre hargs
  refine ⟨fun c => Cert.Reference12Ideal.Read.val_main_v35 (F := Ideal) (a0 m c) (a1 m c) (a2 m c),
    fun c => Cert.Reference12Ideal.Read.val_main_v36 (F := Ideal) (a0 m c) (a1 m c), ?_, ?_⟩
  · refine (θ_run Cert.Kernel12Ideal.defs _ _).mono (fun r h c => ?_) (run_main m g)
    obtain ⟨f0, f1, f2⟩ := finite_reads _ _ _ (hpre c)
    have h0 : ∀ p h d, a0 m c (ix4 0 p h d) = (((a0 m c (ix4 0 p h d) : EReal).toReal : ℝ) : EReal) := fun p h d => f0 _
    have h1 : ∀ p h d, a1 m c (ix4 0 p h d) = (((a1 m c (ix4 0 p h d) : EReal).toReal : ℝ) : EReal) := fun p h d => f1 _
    have h2 : ∀ p h d, a2 m c (ix3 0 p (lane8 h d)) = (((a2 m c (ix3 0 p (lane8 h d)) : EReal).toReal : ℝ) : EReal) := fun p h d => f2 _
    refine ⟨((h.1 c).1 3).trans ?_, ((h.1 c).1 4).trans ?_, ?_⟩
    · exact final3 h0 h1 h2 _ (Cert.Reference12Ideal.Attn.r35 h0 h1 h2)
    · exact final4 h0 h1 _ (Cert.Reference12Ideal.Attn.r36 h0 h1)
    · exact ⟨((h.1 c).2 Cert.Kernel12Ideal.main_arg0 (Pipeline.mem_restRefs_of Cert.Kernel12Ideal.main_arg0 (by decide) (show ∀ w : Fin 5, (Cert.Kernel12Ideal.spec0 w).arr.view.ref ≠ Cert.Kernel12Ideal.main_arg0 by decide))).trans (V_kept m c Cert.Kernel12Ideal.main_arg0 (by decide)),
        ((h.1 c).2 Cert.Kernel12Ideal.main_arg1 (Pipeline.mem_restRefs_of Cert.Kernel12Ideal.main_arg1 (by decide) (show ∀ w : Fin 5, (Cert.Kernel12Ideal.spec0 w).arr.view.ref ≠ Cert.Kernel12Ideal.main_arg1 by decide))).trans (V_kept m c Cert.Kernel12Ideal.main_arg1 (by decide)),
        ((h.1 c).2 Cert.Kernel12Ideal.main_arg2 (Pipeline.mem_restRefs_of Cert.Kernel12Ideal.main_arg2 (by decide) (show ∀ w : Fin 5, (Cert.Kernel12Ideal.spec0 w).arr.view.ref ≠ Cert.Kernel12Ideal.main_arg2 by decide))).trans (V_kept m c Cert.Kernel12Ideal.main_arg2 (by decide))⟩
  · refine (θ_run Cert.Reference12Ideal.defs _ _).mono (fun r h c => ?_) (Cert.Reference12Ideal.Value.run (F := Ideal) m' g')
    obtain ⟨q0, q1, q2⟩ := hargs c
    obtain ⟨e35, e36, eargs⟩ := h c
    refine ⟨e35.trans ((Cert.Reference12Ideal.Read.val_main_v35_eq _ _ _).trans ?_), e36.trans ((Cert.Reference12Ideal.Read.val_main_v36_eq _ _).trans ?_), eargs⟩
    · rw [q0, q1, q2]
    · rw [q0, q1]

end Cert.Proof.Claims12

end
-- ==== Proof.Prod.Common.lean ====
/- What the products share: where a block lies in its array, and a sum of 8192 rows taken in four blocks of 2048. -/
module

public import Idealize.ShloMosaic.Lib.Pointwise
public import Idealize.ShloMosaic.Lib.Pipeline.ValueKit
public import Idealize.ShloMosaic.Lib.Pipeline.ValueKit.Acc
public import Idealize.ShloMosaic.Lib.Quiescent

@[expose] public section

set_option maxRecDepth 16384

noncomputable section

namespace Cert.Prod

open Idealize.ShloMosaic

/-- An index with two coordinates. -/
theorem idx_two {A B : ℕ} (y : (⟨2, ![A, B]⟩ : Shape).Idx) : ∃ (a : Fin A) (b : Fin B), y = ix2 a b :=
  ⟨y 0, y 1, funext fun d => match d with | ⟨0, _⟩ => rfl | ⟨1, _⟩ => rfl⟩

/-- A fact of both coordinates is a fact of every coordinate. -/
theorem two {P : Fin 2 → Prop} (h0 : P ⟨0, by decide⟩) (h1 : P ⟨1, by decide⟩) (d : Fin 2) : P d := match d with | ⟨0, _⟩ => h0 | ⟨1, _⟩ => h1

theorem off {a b : ℕ} (h : a = b) : 0 + a = b := (Nat.zero_add a).trans h

/-- Where an element of a block lies in the window's array. -/
theorem blk_eq {sig : RefSig} {G : Pipeline.Grid} (w : Pipeline.Window sig G) (hk : w.kind = .blocked) (t : Fin G.N)
    (y : (w.xblock (G.coords t)).Idx) (i : w.shape.Idx) (h : ∀ d, w.index t d * w.size d + (y d).val = (i d).val) : (w.rect t).emb y = i :=
  funext fun d => Fin.ext ((Pipeline.Window.rect_emb_val w t y d hk).trans (h d))

/-- A row of one of the eight blocks of rows. -/
def row8 {t : ℕ} (ht : t < 8) (a : Fin 1024) : Fin 8192 := ⟨t * 1024 + a.val, by omega⟩

theorem row_lt {s : ℕ} (h : s ≤ 3) (r : Fin 2048) : s * 2048 + r.val < 8192 := by omega

/-- A block that starts at zero and gains, at each of the four steps of its run, the sum of `f` over that step's rows, ends
    with the sum of `f` over all rows. -/
theorem acc_rows {N : ℕ} {ι : Type*} (z : ι → EReal) (a : (n : ℕ) → n < N → ι → EReal) (g : (n : ℕ) → n < N → (ι → EReal) → ι → EReal) (f : Fin 8192 → EReal)
    (b : ℕ) (h : b + 3 < N) (j : ι) (hz : z j = 0)
    (ha : ∀ (n : ℕ) (h : n < N), a n h = g n h z)
    (hg : ∀ (s : ℕ) (h : b + s < N) (hs : s ≤ 3) (acc : ι → EReal), g (b + s) h acc j = acc j + ∑ r : Fin 2048, f ⟨s * 2048 + r.val, row_lt hs r⟩) :
    Pipeline.accAt a g b 3 h j = ∑ k, f k := by
  have e : Pipeline.accAt a g b 3 h j
      = ∑ s : Fin 4, ∑ r : Fin 2048, f ⟨s.val * 2048 + r.val, row_lt (Nat.lt_succ_iff.1 s.isLt) r⟩ := by
    have e0 : g b (by omega) z j = z j + ∑ r : Fin 2048, f ⟨0 * 2048 + r.val, row_lt (by decide) r⟩ := hg 0 (by omega) (by decide) z
    rw [Pipeline.accAt_succ, hg 3 _ (by decide), Pipeline.accAt_succ, hg 2 _ (by decide), Pipeline.accAt_succ, hg 1 _ (by decide), Pipeline.accAt_zero, ha, e0, hz, zero_add]
    exact (Fin.sum_univ_four (fun s : Fin 4 => ∑ r : Fin 2048, f ⟨s.val * 2048 + r.val, row_lt (Nat.lt_succ_iff.1 s.isLt) r⟩)).symm
  exact e.trans (Fin.sum_mul_add_congr (S := 4) (n := 2048) fun s k hl => rfl)

end Cert.Prod

end
-- ==== Proof.Prod.Dx.lean ====
/- The products' gradients by their first factor: `ffn_up_dx` (the two halves of the columns summed), `ffn_down_dx`, `proj_dx` (four products summed) and `mix_out_dx`. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel32Ideal.Value
public import proofs.«01_k».proof.Proof.Gen.Reference32Ideal.Run
public import proofs.«01_k».proof.Proof.Gen.Reference32Ideal.Read
public import proofs.«01_k».proof.Proof.Prod.Common
public import proofs.«01_k».proof.Defs

@[expose] public section

set_option maxRecDepth 16384

noncomputable section

open Idealize.ShloMosaic TcCoe Pointwise Tactic
open Pipeline (Dat Cfg Window)
open Idealize.SL.Sem Cert.Prod

namespace Cert.Kernel2Ideal.UpDx

open Gen Reference2Ideal.Read

/-- What a point stores, at an index: the sum of the two halves' products. -/
theorem pay_at (x0 x2 : Vec Ideal S512x2816 .bf16) (x1 x3 : Vec Ideal S1024x2816 .bf16) (a : Fin 512) (b : Fin 1024) :
    k0_pay1 x0 x1 x2 x3 (ix2 a b) = (∑ k : Fin 2816, x0 (ix2 a k) * x1 (ix2 b k)) + ∑ k : Fin 2816, x2 (ix2 a k) * x3 (ix2 b k) := by
  pointwise [k0_pay1]

section
variable (m : (ℓ : Loc nD τ sig) → Buf (Elt Ideal) ℓ) (c : Dev nD)

/-- The gradient of the product, -/
abbrev a0 : Vec Ideal S8192x5632 .f32 := m ((c : Thread nD τ).loc main_arg0)
/-- and the weights. -/
abbrev a1 : Vec Ideal S1024x5632 .f32 := m ((c : Thread nD τ).loc main_arg1)

/-- A column of the first half, -/
def lo (k : Fin 2816) : Fin 5632 := ⟨k.val, by omega⟩
/-- and of the second. -/
def hi (k : Fin 2816) : Fin 5632 := ⟨2816 + k.val, by omega⟩

/-- The halves of the arguments, as the grid takes them. -/
def gLo (x : FVec Ideal S8192x5632 .f32) : FVec Ideal S8192x2816 .bf16 := extractStridedSlice S8192x2816 ![0, 0] (truncf .bf16 x bitsLt_bf16_f32) slices_S8192x5632_S8192x2816_0_0
def gHi (x : FVec Ideal S8192x5632 .f32) : FVec Ideal S8192x2816 .bf16 := extractStridedSlice S8192x2816 ![0, 2816] (truncf .bf16 x bitsLt_bf16_f32) slices_S8192x5632_S8192x2816_0_2816
def wLo (x : FVec Ideal S1024x5632 .f32) : FVec Ideal S1024x2816 .bf16 := extractStridedSlice S1024x2816 ![0, 0] (truncf .bf16 x bitsLt_bf16_f32) slices_S1024x5632_S1024x2816_0_0
def wHi (x : FVec Ideal S1024x5632 .f32) : FVec Ideal S1024x2816 .bf16 := extractStridedSlice S1024x2816 ![0, 2816] (truncf .bf16 x bitsLt_bf16_f32) slices_S1024x5632_S1024x2816_0_2816

theorem V_v2 : V m c main_v2 = gLo (a0 m c) := by unfold V; after_results; rfl
theorem V_v3 : V m c main_v3 = wLo (a1 m c) := by unfold V; after_results; rfl
theorem V_v4 : V m c main_v4 = gHi (a0 m c) := by unfold V; after_results; rfl
theorem V_v5 : V m c main_v5 = wHi (a1 m c) := by unfold V; after_results; rfl

theorem gLo_at (x : FVec Ideal S8192x5632 .f32) (p : Fin 8192) (k : Fin 2816) : gLo x (ix2 p k) = x (ix2 p (lo k)) :=
  congrArg x (funext fun a => Fin.ext (by match a with | ⟨0, _⟩ => exact Nat.zero_add _ | ⟨1, _⟩ => exact Nat.zero_add _))
theorem gHi_at (x : FVec Ideal S8192x5632 .f32) (p : Fin 8192) (k : Fin 2816) : gHi x (ix2 p k) = x (ix2 p (hi k)) :=
  congrArg x (funext fun a => Fin.ext (by match a with | ⟨0, _⟩ => exact Nat.zero_add _ | ⟨1, _⟩ => rfl))
theorem wLo_at (x : FVec Ideal S1024x5632 .f32) (p : Fin 1024) (k : Fin 2816) : wLo x (ix2 p k) = x (ix2 p (lo k)) :=
  congrArg x (funext fun a => Fin.ext (by match a with | ⟨0, _⟩ => exact Nat.zero_add _ | ⟨1, _⟩ => exact Nat.zero_add _))
theorem wHi_at (x : FVec Ideal S1024x5632 .f32) (p : Fin 1024) (k : Fin 2816) : wHi x (ix2 p k) = x (ix2 p (hi k)) :=
  congrArg x (funext fun a => Fin.ext (by match a with | ⟨0, _⟩ => exact Nat.zero_add _ | ⟨1, _⟩ => rfl))

/-! ## The blocks -/

variable (t : Fin cfg0.N)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val, 0] := by decide +kernel
theorem idx3 : ∀ t : Fin cfg0.N, (cfg0.win 3).index t = ![0, 0] := by decide +kernel
theorem idx4 : ∀ t : Fin cfg0.N, (cfg0.win 4).index t = ![t.val, 0] := by decide +kernel

theorem lt_16 : t.val < 16 := t.isLt

/-- A row of the block of a point. -/
def row (a : Fin 512) : Fin 8192 := ⟨t.val * 512 + a.val, by have := lt_16 t; omega⟩

theorem b0_at (a : Fin 512) (k : Fin 2816) : iblk m c 0 t (ix2 a k) = a0 m c (ix2 (row t a) (lo k)) := by
  rw [← gLo_at (a0 m c), ← V_v2]
  refine congrArg (V m c main_v2) (blk_eq (cfg0.win 0) rfl t _ _ ?_)
  rw [idx0]; exact two rfl (off rfl)
theorem b2_at (a : Fin 512) (k : Fin 2816) : iblk m c 2 t (ix2 a k) = a0 m c (ix2 (row t a) (hi k)) := by
  rw [← gHi_at (a0 m c), ← V_v4]
  refine congrArg (V m c main_v4) (blk_eq (cfg0.win 2) rfl t _ _ ?_)
  rw [idx2]; exact two rfl (off rfl)
theorem b1_at (a : Fin 1024) (k : Fin 2816) : iblk m c 1 t (ix2 a k) = a1 m c (ix2 a (lo k)) := by
  rw [← wLo_at (a1 m c), ← V_v3]
  refine congrArg (V m c main_v3) (blk_eq (cfg0.win 1) rfl t _ _ ?_)
  rw [idx1]; exact two (off rfl) (off rfl)
theorem b3_at (a : Fin 1024) (k : Fin 2816) : iblk m c 3 t (ix2 a k) = a1 m c (ix2 a (hi k)) := by
  rw [← wHi_at (a1 m c), ← V_v5]
  refine congrArg (V m c main_v5) (blk_eq (cfg0.win 3) rfl t _ _ ?_)
  rw [idx3]; exact two (off rfl) (off rfl)

theorem emb4 (a : Fin 512) (b : Fin 1024) : ((cfg0.win 4).blk t).view.emb (ix2 a b) = (ix2 (row t a) b : S8192x1024.Idx) := by
  refine blk_eq (cfg0.win 4) rfl t _ _ ?_
  rw [idx4]; exact two rfl (off rfl)

/-! ## The result -/

/-- The reference's product at an index, the two halves of the columns apart. -/
theorem ref_at (x0 : FVec Ideal S8192x5632 .f32) (x1 : FVec Ideal S1024x5632 .f32) (p : Fin 8192) (q : Fin 1024) :
    val_main_v2 (F := Ideal) x0 x1 (ix2 p q)
      = (∑ k : Fin 2816, x0 (ix2 p (lo k)) * x1 (ix2 q (lo k))) + ∑ k : Fin 2816, x0 (ix2 p (hi k)) * x1 (ix2 q (hi k)) := by
  refine (val_main_v2_apply x0 x1 (ix2 p q)).trans ?_
  have e0 : ∀ k, lidx_main_v2 (ix2 p q) k = (ix2 p k : S8192x5632.Idx) := fun k => funext fun a => by match a with | ⟨0, _⟩ => rfl | ⟨1, _⟩ => rfl
  have e1 : ∀ k, ridx_main_v2 (ix2 p q) k = (ix2 q k : S1024x5632.Idx) := fun k => funext fun a => by match a with | ⟨0, _⟩ => rfl | ⟨1, _⟩ => rfl
  simp only [e0, e1]
  exact Fin.sum_univ_add (fun k : Fin (2816 + 2816) => x0 (ix2 p k) * x1 (ix2 q k))

/-- What the kernel leaves in its output array is the reference's result. -/
theorem final : (dats m 0 c).arrAt 4 cfg0.N = val_main_v2 (F := Ideal) (a0 m c) (a1 m c) := by
  refine (dats m 0 c).arrAt_eq_of_covers 4 _ (by decide +kernel) fun t hf y => ?_
  obtain ⟨a, b, rfl⟩ := idx_two (A := 512) (B := 1024) y
  rw [emb4, ref_at]
  show (dats m 0 c).after 4 t (ix2 a b) = _
  rw [after0_4]
  refine (congrFun (by frame_out [] : out0_4 (iblk m c 0 t) (iblk m c 1 t) (iblk m c 2 t) (iblk m c 3 t) = k0_pay1 (iblk m c 0 t) (iblk m c 1 t) (iblk m c 2 t) (iblk m c 3 t)) (ix2 a b)).trans ?_
  rw [pay_at]
  simp only [b0_at, b1_at, b2_at, b3_at]
end

/-- Over real arguments the kernel's product and the reference's are equal. -/
theorem algebraic : algebraic_Kernel2Ideal_Reference2Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference2Ideal.defs _ _).mono (fun r h c => ⟨(h c).1.trans ((val_main_v2_eq _ _).trans ?_), (h c).2⟩) (Reference2Ideal.Value.run (F := Ideal) m' g')⟩
  rw [(hargs c).1, (hargs c).2]

end Cert.Kernel2Ideal.UpDx

namespace Cert.Kernel4Ideal.DownDx

open Gen Reference4Ideal.Read

section
variable (m : (ℓ : Loc nD τ sig) → Buf (Elt Ideal) ℓ) (c : Dev nD)

/-- The gradient of the layer's output, -/
abbrev a0 : Vec Ideal S8192x1024 .f32 := m ((c : Thread nD τ).loc main_arg0)
/-- and the weights. -/
abbrev a1 : Vec Ideal S2816x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val / 2, 0] ∧ (cfg0.win 1).index t = ![t.val % 2, 0] ∧ (cfg0.win 2).index t = ![t.val / 2, t.val % 2] := by decide +kernel

/-- What the kernel leaves in its output array is the reference's result. -/
theorem final : (dats m 0 c).arrAt 2 cfg0.N = val_main_v2 (F := Ideal) (a0 m c) (a1 m c) := by
  refine (dats m 0 c).arrAt_eq_of_covers 2 _ (by decide +kernel) fun t hf y => ?_
  obtain ⟨a, b, rfl⟩ := idx_two (A := 1024) (B := 1408) y
  refine Eq.trans ?_ (congrArg _ (blk_eq (cfg0.win 2) rfl t (ix2 a b) (ix2 (row8 (show t.val / 2 < 8 from Nat.div_lt_of_lt_mul t.isLt) a) ⟨t.val % 2 * 1408 + b.val, by omega⟩) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two rfl (off rfl)
  · rw [(idx t).2.2]; exact two rfl rfl
end

/-- Over real arguments the kernel's product and the reference's are equal. -/
theorem algebraic : algebraic_Kernel4Ideal_Reference4Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference4Ideal.defs _ _).mono (fun r h c => ⟨(h c).1.trans ((val_main_v2_eq _ _).trans ?_), (h c).2⟩) (Reference4Ideal.Value.run (F := Ideal) m' g')⟩
  rw [(hargs c).1, (hargs c).2]

end Cert.Kernel4Ideal.DownDx

namespace Cert.Kernel6Ideal.ProjDx

open Gen Reference6Ideal.Read

/-- What a point stores, at an index: the sum of the four products. -/
theorem pay_at (x0 : Vec Ideal S512x768 .bf16) (x1 : Vec Ideal S1024x768 .bf16) (x2 : Vec Ideal S512x512 .bf16) (x3 : Vec Ideal S1024x512 .bf16)
    (x4 : Vec Ideal S512x512 .bf16) (x5 : Vec Ideal S1024x512 .bf16) (x6 : Vec Ideal S512x3072 .bf16) (x7 : Vec Ideal S1024x3072 .bf16) (a : Fin 512) (b : Fin 1024) :
    k0_pay1 x0 x1 x2 x3 x4 x5 x6 x7 (ix2 a b)
      = (∑ k : Fin 768, x0 (ix2 a k) * x1 (ix2 b k)) + (∑ k : Fin 512, x2 (ix2 a k) * x3 (ix2 b k)) + (∑ k : Fin 512, x4 (ix2 a k) * x5 (ix2 b k))
        + ∑ k : Fin 3072, x6 (ix2 a k) * x7 (ix2 b k) := by
  pointwise [k0_pay1]

section
variable (m : (ℓ : Loc nD τ sig) → Buf (Elt Ideal) ℓ) (c : Dev nD)

/-- The gradient of the projection to the latent queries, keys and rotary key, and its weights. -/
abbrev a0 : Vec Ideal S8192x768 .f32 := m ((c : Thread nD τ).loc main_arg0)
abbrev a1 : Vec Ideal S1024x768 .f32 := m ((c : Thread nD τ).loc main_arg1)
/-- The gradient of the projection to the state space, and its weights. -/
abbrev a2 : Vec Ideal S8192x512 .f32 := m ((c : Thread nD τ).loc main_arg2)
abbrev a3 : Vec Ideal S1024x512 .f32 := m ((c : Thread nD τ).loc main_arg3)
/-- The gradient of the projection to the queries of the cross attention, and its weights. -/
abbrev a4 : Vec Ideal S8192x512 .f32 := m ((c : Thread nD τ).loc main_arg4)
abbrev a5 : Vec Ideal S1024x512 .f32 := m ((c : Thread nD τ).loc main_arg5)
/-- The gradient of the projection to the gates, and its weights. -/
abbrev a6 : Vec Ideal S8192x3072 .f32 := m ((c : Thread nD τ).loc main_arg6)
abbrev a7 : Vec Ideal S1024x3072 .f32 := m ((c : Thread nD τ).loc main_arg7)

theorem V_v0 (i) : V m c main_v0 i = a0 m c i := by unfold V; after_results; rfl
theorem V_v1 (i) : V m c main_v1 i = a1 m c i := by unfold V; after_results; rfl
theorem V_v2 (i) : V m c main_v2 i = a2 m c i := by unfold V; after_results; rfl
theorem V_v3 (i) : V m c main_v3 i = a3 m c i := by unfold V; after_results; rfl
theorem V_v4 (i) : V m c main_v4 i = a4 m c i := by unfold V; after_results; rfl
theorem V_v5 (i) : V m c main_v5 i = a5 m c i := by unfold V; after_results; rfl
theorem V_v6 (i) : V m c main_v6 i = a6 m c i := by unfold V; after_results; rfl
theorem V_v7 (i) : V m c main_v7 i = a7 m c i := by unfold V; after_results; rfl

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![t.val, 0] := by decide +kernel
theorem idx3 : ∀ t : Fin cfg0.N, (cfg0.win 3).index t = ![0, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![t.val, 0] := by decide +kernel
theorem idx7 : ∀ t : Fin cfg0.N, (cfg0.win 7).index t = ![0, 0] := by decide +kernel
theorem idx8 : ∀ t : Fin cfg0.N, (cfg0.win 8).index t = ![t.val, 0] := by decide +kernel

variable (t : Fin cfg0.N)

theorem lt_16 : t.val < 16 := t.isLt

/-- A row of the block of a point. -/
def row (a : Fin 512) : Fin 8192 := ⟨t.val * 512 + a.val, by have := lt_16 t; omega⟩

theorem b0_at (a : Fin 512) (k : Fin 768) : iblk m c 0 t (ix2 a k) = a0 m c (ix2 (row t a) k) := by
  refine (congrArg (V m c main_v0) (blk_eq (cfg0.win 0) rfl t _ _ ?_)).trans (V_v0 m c _)
  rw [idx0]; exact two rfl (off rfl)
theorem b1_at (a : Fin 1024) (k : Fin 768) : iblk m c 1 t (ix2 a k) = a1 m c (ix2 (a) k) := by
  refine (congrArg (V m c main_v1) (blk_eq (cfg0.win 1) rfl t _ _ ?_)).trans (V_v1 m c _)
  rw [idx1]; exact two (off rfl) (off rfl)
theorem b2_at (a : Fin 512) (k : Fin 512) : iblk m c 2 t (ix2 a k) = a2 m c (ix2 (row t a) k) := by
  refine (congrArg (V m c main_v2) (blk_eq (cfg0.win 2) rfl t _ _ ?_)).trans (V_v2 m c _)
  rw [idx2]; exact two rfl (off rfl)
theorem b3_at (a : Fin 1024) (k : Fin 512) : iblk m c 3 t (ix2 a k) = a3 m c (ix2 (a) k) := by
  refine (congrArg (V m c main_v3) (blk_eq (cfg0.win 3) rfl t _ _ ?_)).trans (V_v3 m c _)
  rw [idx3]; exact two (off rfl) (off rfl)
theorem b4_at (a : Fin 512) (k : Fin 512) : iblk m c 4 t (ix2 a k) = a4 m c (ix2 (row t a) k) := by
  refine (congrArg (V m c main_v4) (blk_eq (cfg0.win 4) rfl t _ _ ?_)).trans (V_v4 m c _)
  rw [idx4]; exact two rfl (off rfl)
theorem b5_at (a : Fin 1024) (k : Fin 512) : iblk m c 5 t (ix2 a k) = a5 m c (ix2 (a) k) := by
  refine (congrArg (V m c main_v5) (blk_eq (cfg0.win 5) rfl t _ _ ?_)).trans (V_v5 m c _)
  rw [idx5]; exact two (off rfl) (off rfl)
theorem b6_at (a : Fin 512) (k : Fin 3072) : iblk m c 6 t (ix2 a k) = a6 m c (ix2 (row t a) k) := by
  refine (congrArg (V m c main_v6) (blk_eq (cfg0.win 6) rfl t _ _ ?_)).trans (V_v6 m c _)
  rw [idx6]; exact two rfl (off rfl)
theorem b7_at (a : Fin 1024) (k : Fin 3072) : iblk m c 7 t (ix2 a k) = a7 m c (ix2 (a) k) := by
  refine (congrArg (V m c main_v7) (blk_eq (cfg0.win 7) rfl t _ _ ?_)).trans (V_v7 m c _)
  rw [idx7]; exact two (off rfl) (off rfl)

theorem emb8 (a : Fin 512) (b : Fin 1024) : ((cfg0.win 8).blk t).view.emb (ix2 a b) = (ix2 (row t a) b : S8192x1024.Idx) := by
  refine blk_eq (cfg0.win 8) rfl t _ _ ?_
  rw [idx8]; exact two rfl (off rfl)

/-- The reference's sum at an index, in its order. -/
theorem ref_at (x0 : FVec Ideal S8192x768 .f32) (x1 : FVec Ideal S1024x768 .f32) (x2 : FVec Ideal S8192x512 .f32) (x3 : FVec Ideal S1024x512 .f32) (x4 : FVec Ideal S8192x512 .f32) (x5 : FVec Ideal S1024x512 .f32) (x6 : FVec Ideal S8192x3072 .f32) (x7 : FVec Ideal S1024x3072 .f32) (p : Fin 8192) (q : Fin 1024) :
    val_main_v11 (F := Ideal) x0 x1 x2 x3 x4 x5 x6 x7 (ix2 p q)
      = (∑ k : Fin 3072, x6 (ix2 p k) * x7 (ix2 q k)) + (∑ k : Fin 512, x4 (ix2 p k) * x5 (ix2 q k)) + (∑ k : Fin 512, x2 (ix2 p k) * x3 (ix2 q k)) + (∑ k : Fin 768, x0 (ix2 p k) * x1 (ix2 q k)) := by
  refine congrArg₂ (· + ·) (congrArg₂ (· + ·) (congrArg₂ (· + ·)
    ((val_main_v5_apply x6 x7 (ix2 p q)).trans (Finset.sum_congr rfl fun k _ => congrArg₂ (fun a b => x6 a * x7 b) (funext fun a => ?_) (funext fun a => ?_)))
    ((val_main_v6_apply x4 x5 (ix2 p q)).trans (Finset.sum_congr rfl fun k _ => congrArg₂ (fun a b => x4 a * x5 b) (funext fun a => ?_) (funext fun a => ?_))))
    ((val_main_v8_apply x2 x3 (ix2 p q)).trans (Finset.sum_congr rfl fun k _ => congrArg₂ (fun a b => x2 a * x3 b) (funext fun a => ?_) (funext fun a => ?_))))
    ((val_main_v10_apply x0 x1 (ix2 p q)).trans (Finset.sum_congr rfl fun k _ => congrArg₂ (fun a b => x0 a * x1 b) (funext fun a => ?_) (funext fun a => ?_))) <;>
    match a with | ⟨0, _⟩ => rfl | ⟨1, _⟩ => rfl

/-- What the kernel leaves in its output array is the reference's result. -/
theorem final : (dats m 0 c).arrAt 8 cfg0.N
    = val_main_v11 (F := Ideal) (a0 m c) (a1 m c) (a2 m c) (a3 m c) (a4 m c) (a5 m c) (a6 m c) (a7 m c) := by
  refine (dats m 0 c).arrAt_eq_of_covers 8 _ (by decide +kernel) fun t hf y => ?_
  obtain ⟨a, b, rfl⟩ := idx_two (A := 512) (B := 1024) y
  rw [emb8, ref_at]
  show (dats m 0 c).after 8 t (ix2 a b) = _
  rw [after0_8]
  refine (congrFun (by frame_out [] : out0_8 (iblk m c 0 t) (iblk m c 1 t) (iblk m c 2 t) (iblk m c 3 t) (iblk m c 4 t) (iblk m c 5 t) (iblk m c 6 t) (iblk m c 7 t)
    = k0_pay1 (iblk m c 0 t) (iblk m c 1 t) (iblk m c 2 t) (iblk m c 3 t) (iblk m c 4 t) (iblk m c 5 t) (iblk m c 6 t) (iblk m c 7 t)) (ix2 a b)).trans ?_
  rw [pay_at]
  simp only [b0_at, b1_at, b2_at, b3_at, b4_at, b5_at, b6_at, b7_at]
  ac_rfl
end

/-- Over real arguments the kernel's product and the reference's are equal. -/
theorem algebraic : algebraic_Kernel6Ideal_Reference6Ideal := by
  intro m g m' g' hpre hargs
  refine ⟨fun c => val_main_v11 (F := Ideal) (a0 m c) (a1 m c) (a2 m c) (a3 m c) (a4 m c) (a5 m c) (a6 m c) (a7 m c),
    (θ_run defs _ _).mono (fun r h c => ⟨(h c).1.trans (final m c), (h c).2⟩) (Value.run_blocks m g),
    (θ_run Reference6Ideal.defs _ _).mono (fun r h c => ⟨(h c).1.trans ((val_main_v11_eq _ _ _ _ _ _ _ _).trans ?_), (h c).2⟩) (Reference6Ideal.Value.run (F := Ideal) m' g')⟩
  rw [(hargs c).1, (hargs c).2.1, (hargs c).2.2.1, (hargs c).2.2.2.1, (hargs c).2.2.2.2.1, (hargs c).2.2.2.2.2.1, (hargs c).2.2.2.2.2.2.1, (hargs c).2.2.2.2.2.2.2]

end Cert.Kernel6Ideal.ProjDx

namespace Cert.Kernel13Ideal.MixDx

open Gen Reference13Ideal.Read

section
variable (m : (ℓ : Loc nD τ sig) → Buf (Elt Ideal) ℓ) (c : Dev nD)

/-- The gradient of the product, -/
abbrev a0 : Vec Ideal S8192x1024 .f32 := m ((c : Thread nD τ).loc main_arg0)
/-- and the weights. -/
abbrev a1 : Vec Ideal S1024x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v2 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel13Ideal_Reference13Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference13Ideal.defs _ _).mono (fun r h c => ⟨(h c).1.trans ((val_main_v2_eq _ _).trans ?_), (h c).2⟩) (Reference13Ideal.Value.run (F := Ideal) m' g')⟩
  rw [(hargs c).1, (hargs c).2]

end Cert.Kernel13Ideal.MixDx

namespace Cert.Kernel23Ideal.S5Dx

open Gen Reference23Ideal.Read

section
variable (m : (ℓ : Loc nD τ sig) → Buf (Elt Ideal) ℓ) (c : Dev nD)

/-- The gradient of the product, -/
abbrev a0 : Vec Ideal S8192x1024 .f32 := m ((c : Thread nD τ).loc main_arg0)
/-- and the weights. -/
abbrev a1 : Vec Ideal S512x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v2 (F := Ideal) (a0 m c) (a1 m c) := by
  refine (dats m 0 c).arrAt_eq_of_covers 2 _ (by decide +kernel) fun t hf y => ?_
  obtain ⟨a, b, rfl⟩ := idx_two (A := 1024) (B := 512) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel23Ideal_Reference23Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference23Ideal.defs _ _).mono (fun r h c => ⟨(h c).1.trans ((val_main_v2_eq _ _).trans ?_), (h c).2⟩) (Reference23Ideal.Value.run (F := Ideal) m' g')⟩
  rw [(hargs c).1, (hargs c).2]

end Cert.Kernel23Ideal.S5Dx

namespace Cert.Kernel24Ideal.CrossDx

open Gen Reference24Ideal.Read

section
variable (m : (ℓ : Loc nD τ sig) → Buf (Elt Ideal) ℓ) (c : Dev nD)

/-- The gradient of the product, -/
abbrev a0 : Vec Ideal S8192x1024 .f32 := m ((c : Thread nD τ).loc main_arg0)
/-- and the weights. -/
abbrev a1 : Vec Ideal S512x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v3 (F := Ideal) (a0 m c) (a1 m c) := by
  refine (dats m 0 c).arrAt_eq_of_covers 2 _ (by decide +kernel) fun t hf y => ?_
  obtain ⟨a, b, rfl⟩ := idx_two (A := 1024) (B := 512) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel24Ideal_Reference24Ideal := by
  intro m g m' g' hpre hargs
  refine ⟨fun c => val_main_v3 (F := Ideal) (a0 m c) (a1 m c),
    (θ_run defs _ _).mono (fun r h c => ⟨(h c).1.trans (final m c), (h c).2⟩) (Value.run_blocks m g),
    (θ_run Reference24Ideal.defs _ _).mono (fun r h c => ⟨(h c).1.trans ((val_main_v3_eq _ _).trans ?_), (h c).2⟩) (Reference24Ideal.Value.run (F := Ideal) m' g')⟩
  rw [(hargs c).1, (hargs c).2]

end Cert.Kernel24Ideal.CrossDx

namespace Cert.Kernel25Ideal.AttnDx

open Gen Reference25Ideal.Read

section
variable (m : (ℓ : Loc nD τ sig) → Buf (Elt Ideal) ℓ) (c : Dev nD)

/-- The gradient of the product, -/
abbrev a0 : Vec Ideal S8192x1024 .f32 := m ((c : Thread nD τ).loc main_arg0)
/-- and the weights. -/
abbrev a1 : Vec Ideal S1024x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v3 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel25Ideal_Reference25Ideal := by
  intro m g m' g' hpre hargs
  refine ⟨fun c => val_main_v3 (F := Ideal) (a0 m c) (a1 m c),
    (θ_run defs _ _).mono (fun r h c => ⟨(h c).1.trans (final m c), (h c).2⟩) (Value.run_blocks m g),
    (θ_run Reference25Ideal.defs _ _).mono (fun r h c => ⟨(h c).1.trans ((val_main_v3_eq _ _).trans ?_), (h c).2⟩) (Reference25Ideal.Value.run (F := Ideal) m' g')⟩
  rw [(hargs c).1, (hargs c).2]

end Cert.Kernel25Ideal.AttnDx

namespace Cert.Kernel27Ideal.QDx

open Gen Reference27Ideal.Read

section
variable (m : (ℓ : Loc nD τ sig) → Buf (Elt Ideal) ℓ) (c : Dev nD)

/-- The gradient of the product, -/
abbrev a0 : Vec Ideal S8192x1024 .f32 := m ((c : Thread nD τ).loc main_arg0)
/-- and the weights. -/
abbrev a1 : Vec Ideal S384x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v2 (F := Ideal) (a0 m c) (a1 m c) := by
  refine (dats m 0 c).arrAt_eq_of_covers 2 _ (by decide +kernel) fun t hf y => ?_
  obtain ⟨a, b, rfl⟩ := idx_two (A := 1024) (B := 384) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel27Ideal_Reference27Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference27Ideal.defs _ _).mono (fun r h c => ⟨(h c).1.trans ((val_main_v2_eq _ _).trans ?_), (h c).2⟩) (Reference27Ideal.Value.run (F := Ideal) m' g')⟩
  rw [(hargs c).1, (hargs c).2]

end Cert.Kernel27Ideal.QDx

namespace Cert.Kernel30Ideal.GluDx

open Gen Reference30Ideal.Read

section
variable (m : (ℓ : Loc nD τ sig) → Buf (Elt Ideal) ℓ) (c : Dev nD)

/-- The gradient of the product, -/
abbrev a0 : Vec Ideal S8192x512 .f32 := m ((c : Thread nD τ).loc main_arg0)
/-- and the weights. -/
abbrev a1 : Vec Ideal S512x512 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v2 (F := Ideal) (a0 m c) (a1 m c) := by
  refine (dats m 0 c).arrAt_eq_of_covers 2 _ (by decide +kernel) fun t hf y => ?_
  obtain ⟨a, b, rfl⟩ := idx_two (A := 1024) (B := 512) y
  refine Eq.trans ?_ (congrArg _ (blk_eq (cfg0.win 2) rfl t (ix2 a b) (ix2 (row8 t.isLt a) b) ?_)).symm
  · refine Eq.trans ?_ (val_main_v2_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel30Ideal_Reference30Ideal := by
  intro m g m' g' hpre hargs
  refine ⟨fun c => val_main_v2 (F := Ideal) (a0 m c) (a1 m c),
    (θ_run defs _ _).mono (fun r h c => ⟨(h c).1.trans (final m c), (h c).2⟩) (Value.run_blocks m g),
    (θ_run Reference30Ideal.defs _ _).mono (fun r h c => ⟨(h c).1.trans ((val_main_v2_eq _ _).trans ?_), (h c).2⟩) (Reference30Ideal.Value.run (F := Ideal) m' g')⟩
  rw [(hargs c).1, (hargs c).2]

end Cert.Kernel30Ideal.GluDx

namespace Cert.Kernel32Ideal.KvDx

open Gen Reference32Ideal.Read

/-- What a point stores, at an index: the sum of the two products. -/
theorem pay_at (x0 : Vec Ideal S1024x1024 .bf16) (x1 : Vec Ideal S256x1024 .bf16) (x2 : Vec Ideal S1024x1024 .f32) (x3 : Vec Ideal S256x1024 .bf16) (a : Fin 1024) (b : Fin 256) :
    k0_pay1 x0 x1 x2 x3 (ix2 a b) = (∑ k : Fin 1024, x0 (ix2 a k) * x1 (ix2 b k)) + ∑ k : Fin 1024, x2 (ix2 a k) * x3 (ix2 b k) := by
  pointwise [k0_pay1]

section
variable (m : (ℓ : Loc nD τ sig) → Buf (Elt Ideal) ℓ) (c : Dev nD)

/-- The gradient of the keys, and their weights, -/
abbrev a0 : Vec Ideal S8192x1024 .f32 := m ((c : Thread nD τ).loc main_arg0)
abbrev a1 : Vec Ideal S256x1024 .f32 := m ((c : Thread nD τ).loc main_arg1)
/-- and the gradient of the values, and theirs. -/
abbrev a2 : Vec Ideal S8192x1024 .f32 := m ((c : Thread nD τ).loc main_arg2)
abbrev a3 : Vec Ideal S256x1024 .f32 := m ((c : Thread nD τ).loc main_arg3)

theorem V_v0 (i) : V m c main_v0 i = a0 m c i := by unfold V; after_results; rfl
theorem V_v1 (i) : V m c main_v1 i = a1 m c i := by unfold V; after_results; rfl
theorem V_a2 (i) : V m c main_arg2 i = a2 m c i := by unfold V; after_results
theorem V_v2 (i) : V m c main_v2 i = a3 m c i := by unfold V; after_results; rfl

theorem idx : ∀ t : Fin cfg0.N, (cfg0.win 0).index t = ![t.val, 0] ∧ (cfg0.win 1).index t = ![0, 0] ∧ (cfg0.win 2).index t = ![t.val, 0]
    ∧ (cfg0.win 3).index t = ![0, 0] ∧ (cfg0.win 4).index t = ![t.val, 0] := by decide +kernel

/-- What the kernel leaves in its output array is the reference's result. -/
theorem final : (dats m 0 c).arrAt 4 cfg0.N = val_main_v5 (F := Ideal) (a0 m c) (a1 m c) (a2 m c) (a3 m c) := by
  refine (dats m 0 c).arrAt_eq_of_covers 4 _ (by decide +kernel) fun t hf y => ?_
  obtain ⟨a, b, rfl⟩ := idx_two (A := 1024) (B := 256) y
  refine Eq.trans ?_ (congrArg _ (blk_eq (cfg0.win 4) rfl t (ix2 a b) (ix2 (row8 t.isLt a) b) ?_)).symm
  · refine Eq.trans ?_ ((congrArg₂ (· + ·) (val_main_v3_apply (a2 m c) (a3 m c) _) (val_main_v4_apply (a0 m c) (a1 m c) _)).trans (add_comm _ _)).symm
    show (dats m 0 c).after 4 t (ix2 a b) = _
    rw [after0_4]
    refine (congrFun (by frame_out [] : out0_4 (iblk m c 0 t) (iblk m c 1 t) (iblk m c 2 t) (iblk m c 3 t) = k0_pay1 (iblk m c 0 t) (iblk m c 1 t) (iblk m c 2 t) (iblk m c 3 t)) (ix2 a b)).trans ((pay_at _ _ _ _ a b).trans ?_)
    refine congrArg₂ (· + ·)
      (Finset.sum_congr rfl fun k _ => congrArg₂ (· * ·)
        ((congrArg (V m c main_v0) (blk_eq (cfg0.win 0) rfl t _ _ ?_)).trans (V_v0 m c _))
        ((congrArg (V m c main_v1) (blk_eq (cfg0.win 1) rfl t _ _ ?_)).trans (V_v1 m c _)))
      (Finset.sum_congr rfl fun k _ => congrArg₂ (· * ·)
        ((congrArg (V m c main_arg2) (blk_eq (cfg0.win 2) rfl t _ _ ?_)).trans (V_a2 m c _))
        ((congrArg (V m c main_v2) (blk_eq (cfg0.win 3) rfl t _ _ ?_)).trans (V_v2 m c _)))
    · rw [(idx t).1]; exact two rfl (off rfl)
    · rw [(idx t).2.1]; exact two (off rfl) (off rfl)
    · rw [(idx t).2.2.1]; exact two rfl (off rfl)
    · rw [(idx t).2.2.2.1]; exact two (off rfl) (off rfl)
  · rw [(idx t).2.2.2.2]; exact two rfl (off rfl)
end

/-- Over real arguments the kernel's sum of products and the reference's are equal. -/
theorem algebraic : algebraic_Kernel32Ideal_Reference32Ideal := by
  intro m g m' g' hpre hargs
  refine ⟨fun c => val_main_v5 (F := Ideal) (a0 m c) (a1 m c) (a2 m c) (a3 m c),
    (θ_run defs _ _).mono (fun r h c => ⟨(h c).1.trans (final m c), (h c).2⟩) (Value.run_blocks m g),
    (θ_run Reference32Ideal.defs _ _).mono (fun r h c => ⟨(h c).1.trans ((val_main_v5_eq _ _ _ _).trans ?_), (h c).2⟩) (Reference32Ideal.Value.run (F := Ideal) m' g')⟩
  rw [(hargs c).1, (hargs c).2.1, (hargs c).2.2.1, (hargs c).2.2.2]

end Cert.Kernel32Ideal.KvDx

namespace Cert.Proof.Claims

/-! The host references declare no semaphore. -/

theorem frame_r2 : quiescent_Reference2Ideal := fun m ρ _ =>
  (θ_run Reference2Ideal.defs _ _).mono (fun r h => ⟨fun c => (h c).2, sem_eq_zero_of_no_sems (by decide) r.2⟩) (Reference2Ideal.Value.run (F := Ideal) m ρ)
theorem frame_r4 : quiescent_Reference4Ideal := fun m ρ _ =>
  (θ_run Reference4Ideal.defs _ _).mono (fun r h => ⟨fun c => (h c).2, sem_eq_zero_of_no_sems (by decide) r.2⟩) (Reference4Ideal.Value.run (F := Ideal) m ρ)
theorem frame_r6 : quiescent_Reference6Ideal := fun m ρ _ =>
  (θ_run Reference6Ideal.defs _ _).mono (fun r h => ⟨fun c => (h c).2, sem_eq_zero_of_no_sems (by decide) r.2⟩) (Reference6Ideal.Value.run (F := Ideal) m ρ)
theorem frame_r13 : quiescent_Reference13Ideal := fun m ρ _ =>
  (θ_run Reference13Ideal.defs _ _).mono (fun r h => ⟨fun c => (h c).2, sem_eq_zero_of_no_sems (by decide) r.2⟩) (Reference13Ideal.Value.run (F := Ideal) m ρ)
theorem frame_r23 : quiescent_Reference23Ideal := fun m ρ _ =>
  (θ_run Reference23Ideal.defs _ _).mono (fun r h => ⟨fun c => (h c).2, sem_eq_zero_of_no_sems (by decide) r.2⟩) (Reference23Ideal.Value.run (F := Ideal) m ρ)
theorem frame_r24 : quiescent_Reference24Ideal := fun m ρ _ =>
  (θ_run Reference24Ideal.defs _ _).mono (fun r h => ⟨fun c => (h c).2, sem_eq_zero_of_no_sems (by decide) r.2⟩) (Reference24Ideal.Value.run (F := Ideal) m ρ)
theorem frame_r25 : quiescent_Reference25Ideal := fun m ρ _ =>
  (θ_run Reference25Ideal.defs _ _).mono (fun r h => ⟨fun c => (h c).2, sem_eq_zero_of_no_sems (by decide) r.2⟩) (Reference25Ideal.Value.run (F := Ideal) m ρ)
theorem frame_r27 : quiescent_Reference27Ideal := fun m ρ _ =>
  (θ_run Reference27Ideal.defs _ _).mono (fun r h => ⟨fun c => (h c).2, sem_eq_zero_of_no_sems (by decide) r.2⟩) (Reference27Ideal.Value.run (F := Ideal) m ρ)
theorem frame_r30 : quiescent_Reference30Ideal := fun m ρ _ =>
  (θ_run Reference30Ideal.defs _ _).mono (fun r h => ⟨fun c => (h c).2, sem_eq_zero_of_no_sems (by decide) r.2⟩) (Reference30Ideal.Value.run (F := Ideal) m ρ)
theorem frame_r32 : quiescent_Reference32Ideal := fun m ρ _ =>
  (θ_run Reference32Ideal.defs _ _).mono (fun r h => ⟨fun c => (h c).2, sem_eq_zero_of_no_sems (by decide) r.2⟩) (Reference32Ideal.Value.run (F := Ideal) m ρ)

end Cert.Proof.Claims

end
-- ==== Proof.Prod.Dw.lean ====
/- The products' gradients by their weights: of the gated layer (`ffn_up_dw_g`, `ffn_up_dw_v`, `ffn_down_dw`), of the projections (`proj_gate_dw`, `proj_u_dw`,
   `proj_qkv_dw`) and of the output products (`mix_out_dw`, `s5_o_dw`), each summed over four blocks of rows. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Prod.Common
public import proofs.«01_k».proof.Defs

@[expose] public section

set_option maxRecDepth 16384

noncomputable section

open Idealize.ShloMosaic TcCoe Pointwise Tactic
open Pipeline (Dat Cfg Window)
open Idealize.SL.Sem Cert.Prod

namespace Cert.Kernel3Ideal.UpDw

open Gen Reference3Ideal.Read

section
variable (m : (ℓ : Loc nD τ sig) → Buf (Elt Ideal) ℓ) (c : Dev nD)

/-- The layer's input, -/
abbrev a0 : Vec Ideal S8192x1024 .f32 := m ((c : Thread nD τ).loc main_arg0)
/-- and the gradient of one half of its product. -/
abbrev a1 : Vec Ideal S8192x2816 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 8 % 2] ∧ (cfg0.win 1).index t = ![t.val % 4, t.val / 4 % 2] := by decide +kernel

/-- What the kernel leaves in its output array is the reference's result: a step of a block's run adds the products of its rows. -/
theorem final : Value.G2 m c = val_main_v3 (F := Ideal) (a0 m c) (a1 m c) := by
  funext i
  have h0 : (i 0).val < 1024 := (i 0).isLt
  have h1 : (i 1).val < 2816 := (i 1).isLt
  have hr : 4 * Value.run2Of i + 3 < cfg0.N := lt_of_lt_of_eq (by show 4 * (2 * ((i 0).val / 512 - 0) + 1 * ((i 1).val / 1408 - 0)) + 3 < 16; omega) N_0.symm
  have e (acc : Vec Ideal S512x1408 .f32) (x0 : Vec Ideal S2048x512 .bf16) (x1 : Vec Ideal S2048x1408 .bf16) (j : S512x1408.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (2 * ((i 0).val / 512 - 0) + 1 * ((i 1).val / 1408 - 0)) + s) / 8 % 2 * 512 + (i 0).val % 512 = (i 0).val; omega)
    · rw [(idx _).2]; exact two (by show (4 * Value.run2Of i + s) % 4 * 2048 + r.val = s * 2048 + r.val; omega) (by show (4 * (2 * ((i 0).val / 512 - 0) + 1 * ((i 1).val / 1408 - 0)) + s) / 4 % 2 * 1408 + (i 1).val % 1408 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel3Ideal_Reference3Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference3Ideal.defs _ _).mono (fun r h c => ⟨(h c).1.trans ((val_main_v3_eq _ _).trans ?_), (h c).2⟩) (Reference3Ideal.Value.run (F := Ideal) m' g')⟩
  rw [(hargs c).1, (hargs c).2]

end Cert.Kernel3Ideal.UpDw

namespace Cert.Kernel5Ideal.DownDw

open Gen Reference5Ideal.Read

section
variable (m : (ℓ : Loc nD τ sig) → Buf (Elt Ideal) ℓ) (c : Dev nD)

/-- The activations, -/
abbrev a0 : Vec Ideal S8192x2816 .f32 := m ((c : Thread nD τ).loc main_arg0)
/-- and the gradient of the layer's output. -/
abbrev a1 : Vec Ideal S8192x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 4 % 2] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 2816 := (i 0).isLt
  have h1 : (i 1).val < 1024 := (i 1).isLt
  have hr : 4 * Value.run2Of i + 3 < cfg0.N := lt_of_lt_of_eq (by show 4 * (1 * ((i 0).val / 1408 - 0) + 1 * ((i 1).val / 1024 - 0)) + 3 < 8; omega) N_0.symm
  have e (acc : Vec Ideal S1408x1024 .f32) (x0 : Vec Ideal S2048x1408 .bf16) (x1 : Vec Ideal S2048x1024 .bf16) (j : S1408x1024.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (1 * ((i 0).val / 1408 - 0) + 1 * ((i 1).val / 1024 - 0)) + s) / 4 % 2 * 1408 + (i 0).val % 1408 = (i 0).val; omega)
    · rw [(idx _).2]; exact two (by show (4 * Value.run2Of i + s) % 4 * 2048 + r.val = s * 2048 + r.val; omega) (by show 0 * 1024 + (i 1).val % 1024 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel5Ideal_Reference5Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference5Ideal.defs _ _).mono (fun r h c => ⟨(h c).1.trans ((val_main_v3_eq _ _).trans ?_), (h c).2⟩) (Reference5Ideal.Value.run (F := Ideal) m' g')⟩
  rw [(hargs c).1, (hargs c).2]

end Cert.Kernel5Ideal.DownDw

namespace Cert.Kernel7Ideal.GateDw

open Gen Reference7Ideal.Read

section
variable (m : (ℓ : Loc nD τ sig) → Buf (Elt Ideal) ℓ) (c : Dev nD)

/-- The mixers' input, -/
abbrev a0 : Vec Ideal S8192x1024 .f32 := m ((c : Thread nD τ).loc main_arg0)
/-- and the gradient of the gates' logits. -/
abbrev a1 : Vec Ideal S8192x3072 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 8 % 2] ∧ (cfg0.win 1).index t = ![t.val % 4, t.val / 4 % 2] := by decide +kernel

/-- What the kernel leaves in its output array is the reference's result: a step of a block's run adds the products of its rows. -/
theorem final : Value.G2 m c = val_main_v3 (F := Ideal) (a0 m c) (a1 m c) := by
  funext i
  have h0 : (i 0).val < 1024 := (i 0).isLt
  have h1 : (i 1).val < 3072 := (i 1).isLt
  have hr : 4 * Value.run2Of i + 3 < cfg0.N := lt_of_lt_of_eq (by show 4 * (2 * ((i 0).val / 512 - 0) + 1 * ((i 1).val / 1536 - 0)) + 3 < 16; omega) N_0.symm
  have e (acc : Vec Ideal S512x1536 .f32) (x0 : Vec Ideal S2048x512 .bf16) (x1 : Vec Ideal S2048x1536 .bf16) (j : S512x1536.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (2 * ((i 0).val / 512 - 0) + 1 * ((i 1).val / 1536 - 0)) + s) / 8 % 2 * 512 + (i 0).val % 512 = (i 0).val; omega)
    · rw [(idx _).2]; exact two (by show (4 * Value.run2Of i + s) % 4 * 2048 + r.val = s * 2048 + r.val; omega) (by show (4 * (2 * ((i 0).val / 512 - 0) + 1 * ((i 1).val / 1536 - 0)) + s) / 4 % 2 * 1536 + (i 1).val % 1536 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel7Ideal_Reference7Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference7Ideal.defs _ _).mono (fun r h c => ⟨(h c).1.trans ((val_main_v3_eq _ _).trans ?_), (h c).2⟩) (Reference7Ideal.Value.run (F := Ideal) m' g')⟩
  rw [(hargs c).1, (hargs c).2]

end Cert.Kernel7Ideal.GateDw

namespace Cert.Kernel14Ideal.MixDw

open Gen Reference14Ideal.Read

section
variable (m : (ℓ : Loc nD τ sig) → Buf (Elt Ideal) ℓ) (c : Dev nD)

/-- The merged mixers, -/
abbrev a0 : Vec Ideal S8192x1024 .f32 := m ((c : Thread nD τ).loc main_arg0)
/-- and the gradient of the product. -/
abbrev a1 : Vec Ideal S8192x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 4 % 2] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 1024 := (i 0).isLt
  have h1 : (i 1).val < 1024 := (i 1).isLt
  have hr : 4 * Value.run2Of i + 3 < cfg0.N := lt_of_lt_of_eq (by show 4 * (1 * ((i 0).val / 512 - 0) + 1 * ((i 1).val / 1024 - 0)) + 3 < 8; omega) N_0.symm
  have e (acc : Vec Ideal S512x1024 .f32) (x0 : Vec Ideal S2048x512 .bf16) (x1 : Vec Ideal S2048x1024 .bf16) (j : S512x1024.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (1 * ((i 0).val / 512 - 0) + 1 * ((i 1).val / 1024 - 0)) + s) / 4 % 2 * 512 + (i 0).val % 512 = (i 0).val; omega)
    · rw [(idx _).2]; exact two (by show (4 * Value.run2Of i + s) % 4 * 2048 + r.val = s * 2048 + r.val; omega) (by show 0 * 1024 + (i 1).val % 1024 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel14Ideal_Reference14Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference14Ideal.defs _ _).mono (fun r h c => ⟨(h c).1.trans ((val_main_v3_eq _ _).trans ?_), (h c).2⟩) (Reference14Ideal.Value.run (F := Ideal) m' g')⟩
  rw [(hargs c).1, (hargs c).2]

end Cert.Kernel14Ideal.MixDw

namespace Cert.Kernel16Ideal.DwU

open Gen Reference16Ideal.Read

section
variable (m : (ℓ : Loc nD τ sig) → Buf (Elt Ideal) ℓ) (c : Dev nD)

/-- The input, -/
abbrev a0 : Vec Ideal S8192x1024 .f32 := m ((c : Thread nD τ).loc main_arg0)
/-- and the gradient of the product. -/
abbrev a1 : Vec Ideal S8192x512 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 4 % 2] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 1024 := (i 0).isLt
  have h1 : (i 1).val < 512 := (i 1).isLt
  have hr : 4 * Value.run2Of i + 3 < cfg0.N := lt_of_lt_of_eq (by show 4 * (1 * ((i 0).val / 512 - 0) + 1 * ((i 1).val / 512 - 0)) + 3 < 8; omega) N_0.symm
  have e (acc : Vec Ideal S512x512 .f32) (x0 : Vec Ideal S2048x512 .bf16) (x1 : Vec Ideal S2048x512 .bf16) (j : S512x512.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (1 * ((i 0).val / 512 - 0) + 1 * ((i 1).val / 512 - 0)) + s) / 4 % 2 * 512 + (i 0).val % 512 = (i 0).val; omega)
    · rw [(idx _).2]; exact two (by show (4 * Value.run2Of i + s) % 4 * 2048 + r.val = s * 2048 + r.val; omega) (by show 0 * 512 + (i 1).val % 512 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel16Ideal_Reference16Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference16Ideal.defs _ _).mono (fun r h c => ⟨(h c).1.trans ((val_main_v3_eq _ _).trans ?_), (h c).2⟩) (Reference16Ideal.Value.run (F := Ideal) m' g')⟩
  rw [(hargs c).1, (hargs c).2]

end Cert.Kernel16Ideal.DwU

namespace Cert.Kernel17Ideal.DwQkv

open Gen Reference17Ideal.Read

section
variable (m : (ℓ : Loc nD τ sig) → Buf (Elt Ideal) ℓ) (c : Dev nD)

/-- The input, -/
abbrev a0 : Vec Ideal S8192x1024 .f32 := m ((c : Thread nD τ).loc main_arg0)
/-- and the gradient of the product. -/
abbrev a1 : Vec Ideal S8192x768 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, t.val / 4 % 2] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 1024 := (i 0).isLt
  have h1 : (i 1).val < 768 := (i 1).isLt
  have hr : 4 * Value.run2Of i + 3 < cfg0.N := lt_of_lt_of_eq (by show 4 * (1 * ((i 0).val / 512 - 0) + 1 * ((i 1).val / 768 - 0)) + 3 < 8; omega) N_0.symm
  have e (acc : Vec Ideal S512x768 .f32) (x0 : Vec Ideal S2048x512 .bf16) (x1 : Vec Ideal S2048x768 .bf16) (j : S512x768.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show (4 * (1 * ((i 0).val / 512 - 0) + 1 * ((i 1).val / 768 - 0)) + s) / 4 % 2 * 512 + (i 0).val % 512 = (i 0).val; omega)
    · rw [(idx _).2]; exact two (by show (4 * Value.run2Of i + s) % 4 * 2048 + r.val = s * 2048 + r.val; omega) (by show 0 * 768 + (i 1).val % 768 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel17Ideal_Reference17Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference17Ideal.defs _ _).mono (fun r h c => ⟨(h c).1.trans ((val_main_v3_eq _ _).trans ?_), (h c).2⟩) (Reference17Ideal.Value.run (F := Ideal) m' g')⟩
  rw [(hargs c).1, (hargs c).2]

end Cert.Kernel17Ideal.DwQkv

namespace Cert.Kernel18Ideal.DwO

open Gen Reference18Ideal.Read

section
variable (m : (ℓ : Loc nD τ sig) → Buf (Elt Ideal) ℓ) (c : Dev nD)

/-- The branch's output, -/
abbrev a0 : Vec Ideal S8192x512 .f32 := m ((c : Thread nD τ).loc main_arg0)
/-- and the gradient of the product. -/
abbrev a1 : Vec Ideal S8192x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, 0] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 512 := (i 0).isLt
  have h1 : (i 1).val < 1024 := (i 1).isLt
  have hr : 4 * Value.run2Of i + 3 < cfg0.N := lt_of_lt_of_eq (by show 4 * (1 * ((i 0).val / 512 - 0) + 1 * ((i 1).val / 1024 - 0)) + 3 < 4; omega) N_0.symm
  have e (acc : Vec Ideal S512x1024 .f32) (x0 : Vec Ideal S2048x512 .bf16) (x1 : Vec Ideal S2048x1024 .bf16) (j : S512x1024.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show 0 * 512 + (i 0).val % 512 = (i 0).val; omega)
    · rw [(idx _).2]; exact two (by show (4 * Value.run2Of i + s) % 4 * 2048 + r.val = s * 2048 + r.val; omega) (by show 0 * 1024 + (i 1).val % 1024 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel18Ideal_Reference18Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference18Ideal.defs _ _).mono (fun r h c => ⟨(h c).1.trans ((val_main_v3_eq _ _).trans ?_), (h c).2⟩) (Reference18Ideal.Value.run (F := Ideal) m' g')⟩
  rw [(hargs c).1, (hargs c).2]

end Cert.Kernel18Ideal.DwO

namespace Cert.Kernel28Ideal.QDw

open Gen Reference28Ideal.Read

section
variable (m : (ℓ : Loc nD τ sig) → Buf (Elt Ideal) ℓ) (c : Dev nD)

/-- The latent queries, -/
abbrev a0 : Vec Ideal S8192x384 .f32 := m ((c : Thread nD τ).loc main_arg0)
/-- and the gradient of the product. -/
abbrev a1 : Vec Ideal S8192x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, 0] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 384 := (i 0).isLt
  have h1 : (i 1).val < 1024 := (i 1).isLt
  have hr : 4 * Value.run2Of i + 3 < cfg0.N := lt_of_lt_of_eq (by show 4 * (1 * ((i 0).val / 384 - 0) + 1 * ((i 1).val / 1024 - 0)) + 3 < 4; omega) N_0.symm
  have e (acc : Vec Ideal S384x1024 .f32) (x0 : Vec Ideal S2048x384 .bf16) (x1 : Vec Ideal S2048x1024 .bf16) (j : S384x1024.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show 0 * 384 + (i 0).val % 384 = (i 0).val; omega)
    · rw [(idx _).2]; exact two (by show (4 * Value.run2Of i + s) % 4 * 2048 + r.val = s * 2048 + r.val; omega) (by show 0 * 1024 + (i 1).val % 1024 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel28Ideal_Reference28Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference28Ideal.defs _ _).mono (fun r h c => ⟨(h c).1.trans ((val_main_v3_eq _ _).trans ?_), (h c).2⟩) (Reference28Ideal.Value.run (F := Ideal) m' g')⟩
  rw [(hargs c).1, (hargs c).2]

end Cert.Kernel28Ideal.QDw

namespace Cert.Kernel31Ideal.GluDw

open Gen Reference31Ideal.Read

section
variable (m : (ℓ : Loc nD τ sig) → Buf (Elt Ideal) ℓ) (c : Dev nD)

/-- The branch's output, -/
abbrev a0 : Vec Ideal S8192x512 .f32 := m ((c : Thread nD τ).loc main_arg0)
/-- and the gradient of the product. -/
abbrev a1 : Vec Ideal S8192x512 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val % 4, 0] ∧ (cfg0.win 1).index t = ![t.val % 4, 0] := by decide +kernel

/-- What the kernel leaves in its output array is the reference's result: a step of a block's run adds the products of its rows. -/
theorem final : Value.G2 m c = val_main_v3 (F := Ideal) (a0 m c) (a1 m c) := by
  funext i
  have h0 : (i 0).val < 512 := (i 0).isLt
  have h1 : (i 1).val < 512 := (i 1).isLt
  have hr : 4 * Value.run2Of i + 3 < cfg0.N := lt_of_lt_of_eq (by show 4 * (1 * ((i 0).val / 512 - 0) + 1 * ((i 1).val / 512 - 0)) + 3 < 4; omega) N_0.symm
  have e (acc : Vec Ideal S512x512 .f32) (x0 : Vec Ideal S2048x512 .bf16) (x1 : Vec Ideal S2048x512 .bf16) (j : S512x512.Idx) :
      k0_pay2 acc x0 x1 j = acc j + ∑ r : Fin 2048, x0 (ix2 r (j 0)) * x1 (ix2 r (j 1)) := by pointwise [k0_pay2]
  unfold Value.G2
  rw [dif_pos hr]
  refine (acc_rows (k0_pay1 (F := Ideal)) (Value.reset2 m c) (Value.step2 m c) (fun k => (a0 m c (ix2 k (i 0)) : EReal) * a1 m c (ix2 k (i 1)))
    (4 * Value.run2Of i) hr (Value.loc2Of i) (by pointwise [k0_pay1]) (fun n h => by unfold Value.reset2 Value.step2; rfl) (fun s h hs acc => ?_)).trans ?_
  · unfold Value.step2
    refine (e acc _ _ _).trans (congrArg (acc _ + ·) (Finset.sum_congr rfl fun r _ => congrArg₂ (· * ·)
      ((congrArg (V m c main_v0) (blk_eq (cfg0.win 0) rfl _ _ _ ?_)).trans (V_v0 m c _))
      ((congrArg (V m c main_v1) (blk_eq (cfg0.win 1) rfl _ _ _ ?_)).trans (V_v1 m c _))))
    · rw [(idx _).1]; exact two (by show (4 * Value.run2Of i + s) % 4 * 2048 + r.val = s * 2048 + r.val; omega) (by show 0 * 512 + (i 0).val % 512 = (i 0).val; omega)
    · rw [(idx _).2]; exact two (by show (4 * Value.run2Of i + s) % 4 * 2048 + r.val = s * 2048 + r.val; omega) (by show 0 * 512 + (i 1).val % 512 = (i 1).val; omega)
  rw [val_main_v3_apply, val_main_v2_apply]
  refine Finset.sum_congr rfl fun k _ => (mul_comm _ _).trans ?_
  refine congrArg₂ (fun a b => a1 m c a * a0 m c b) (funext fun d => ?_) (funext fun d => ?_) <;> match d with | ⟨0, _⟩ => rfl | ⟨1, _⟩ => rfl
end

/-- Over real arguments the kernel's product and the reference's are equal. -/
theorem algebraic : algebraic_Kernel31Ideal_Reference31Ideal := by
  intro m g m' g' hpre hargs
  refine ⟨fun c => val_main_v3 (F := Ideal) (a0 m c) (a1 m c),
    (θ_run defs _ _).mono (fun r h c => ⟨(h c).1.trans (final m c), (h c).2⟩) (Value.run m g),
    (θ_run Reference31Ideal.defs _ _).mono (fun r h c => ⟨(h c).1.trans ((val_main_v3_eq _ _).trans ?_), (h c).2⟩) (Reference31Ideal.Value.run (F := Ideal) m' g')⟩
  rw [(hargs c).1, (hargs c).2]

end Cert.Kernel31Ideal.GluDw

namespace Cert.Proof.Claims

/-! The host references declare no semaphore. -/

theorem frame_r3 : quiescent_Reference3Ideal := fun m ρ _ =>
  (θ_run Reference3Ideal.defs _ _).mono (fun r h => ⟨fun c => (h c).2, sem_eq_zero_of_no_sems (by decide) r.2⟩) (Reference3Ideal.Value.run (F := Ideal) m ρ)
theorem frame_r5 : quiescent_Reference5Ideal := fun m ρ _ =>
  (θ_run Reference5Ideal.defs _ _).mono (fun r h => ⟨fun c => (h c).2, sem_eq_zero_of_no_sems (by decide) r.2⟩) (Reference5Ideal.Value.run (F := Ideal) m ρ)
theorem frame_r7 : quiescent_Reference7Ideal := fun m ρ _ =>
  (θ_run Reference7Ideal.defs _ _).mono (fun r h => ⟨fun c => (h c).2, sem_eq_zero_of_no_sems (by decide) r.2⟩) (Reference7Ideal.Value.run (F := Ideal) m ρ)
theorem frame_r14 : quiescent_Reference14Ideal := fun m ρ _ =>
  (θ_run Reference14Ideal.defs _ _).mono (fun r h => ⟨fun c => (h c).2, sem_eq_zero_of_no_sems (by decide) r.2⟩) (Reference14Ideal.Value.run (F := Ideal) m ρ)
theorem frame_r16 : quiescent_Reference16Ideal := fun m ρ _ =>
  (θ_run Reference16Ideal.defs _ _).mono (fun r h => ⟨fun c => (h c).2, sem_eq_zero_of_no_sems (by decide) r.2⟩) (Reference16Ideal.Value.run (F := Ideal) m ρ)
theorem frame_r17 : quiescent_Reference17Ideal := fun m ρ _ =>
  (θ_run Reference17Ideal.defs _ _).mono (fun r h => ⟨fun c => (h c).2, sem_eq_zero_of_no_sems (by decide) r.2⟩) (Reference17Ideal.Value.run (F := Ideal) m ρ)
theorem frame_r18 : quiescent_Reference18Ideal := fun m ρ _ =>
  (θ_run Reference18Ideal.defs _ _).mono (fun r h => ⟨fun c => (h c).2, sem_eq_zero_of_no_sems (by decide) r.2⟩) (Reference18Ideal.Value.run (F := Ideal) m ρ)
theorem frame_r28 : quiescent_Reference28Ideal := fun m ρ _ =>
  (θ_run Reference28Ideal.defs _ _).mono (fun r h => ⟨fun c => (h c).2, sem_eq_zero_of_no_sems (by decide) r.2⟩) (Reference28Ideal.Value.run (F := Ideal) m ρ)
theorem frame_r31 : quiescent_Reference31Ideal := fun m ρ _ =>
  (θ_run Reference31Ideal.defs _ _).mono (fun r h => ⟨fun c => (h c).2, sem_eq_zero_of_no_sems (by decide) r.2⟩) (Reference31Ideal.Value.run (F := Ideal) m ρ)

end Cert.Proof.Claims

end
-- ==== Proof.Prod.Fwd.lean ====
/- The forward products: the gated layer's (`ffn_up`, `ffn_down`), the projections (`proj_gate`, `proj_u`, `proj_qkv`) and the output products (`mix_out`, `s5_o`). -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Prod.Common
public import proofs.«01_k».proof.Defs

@[expose] public section

set_option maxRecDepth 16384

noncomputable section

open Idealize.ShloMosaic TcCoe Pointwise Tactic
open Pipeline (Dat Cfg Window)
open Idealize.SL.Sem Cert.Prod

namespace Cert.Kernel8Ideal.FfnUp

open Gen Reference8Ideal.Read

section
variable (m : (ℓ : Loc nD τ sig) → Buf (Elt Ideal) ℓ) (c : Dev nD)

/-- The layer's normalised input, -/
abbrev a0 : Vec Ideal S8192x1024 .f32 := m ((c : Thread nD τ).loc main_arg0)
/-- and the weights. -/
abbrev a1 : Vec Ideal S1024x5632 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val / 4, 0] ∧ (cfg0.win 1).index t = ![0, t.val % 4] ∧ (cfg0.win 2).index t = ![t.val / 4, t.val % 4] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 1408) y
  refine Eq.trans ?_ (congrArg _ (blk_eq (cfg0.win 2) rfl t (ix2 a b) (ix2 (row8 (show t.val / 4 < 8 from Nat.div_lt_of_lt_mul t.isLt) a) ⟨t.val % 4 * 1408 + b.val, by omega⟩) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) rfl
  · rw [(idx t).2.2]; exact two rfl rfl
end

/-- Over real arguments the kernel's product and the reference's are equal. -/
theorem algebraic : algebraic_Kernel8Ideal_Reference8Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference8Ideal.defs _ _).mono (fun r h c => ⟨(h c).1.trans ((val_main_v0_eq _ _).trans ?_), (h c).2⟩) (Reference8Ideal.Value.run (F := Ideal) m' g')⟩
  rw [(hargs c).1, (hargs c).2]

end Cert.Kernel8Ideal.FfnUp

namespace Cert.Kernel9Ideal.FfnDown

open Gen Reference9Ideal.Read

section
variable (m : (ℓ : Loc nD τ sig) → Buf (Elt Ideal) ℓ) (c : Dev nD)

/-- The layer's input, -/
abbrev a0 : Vec Ideal S8192x1024 .f32 := m ((c : Thread nD τ).loc main_arg0)
/-- the activations, -/
abbrev a1 : Vec Ideal S8192x2816 .f32 := m ((c : Thread nD τ).loc main_arg1)
/-- and the weights. -/
abbrev a2 : Vec Ideal S2816x1024 .f32 := m ((c : Thread nD τ).loc main_arg2)

theorem V_v0 (i) : V m c main_v0 i = a1 m c i := by unfold V; after_results; rfl
theorem V_v1 (i) : V m c main_v1 i = a2 m c i := by unfold V; after_results; rfl
theorem V_x : V m c main_arg0 = a0 m c := by unfold V; after_results

theorem idx : ∀ t : Fin cfg0.N, (cfg0.win 0).index t = ![t.val, 0] ∧ (cfg0.win 1).index t = ![0, 0] ∧ (cfg0.win 2).index t = ![t.val, 0] ∧ (cfg0.win 3).index t = ![t.val, 0] := by decide +kernel

/-- What the kernel leaves in its output array is the reference's result. -/
theorem final : (dats m 0 c).arrAt 3 cfg0.N = val_main_v1 (F := Ideal) (a0 m c) (a1 m c) (a2 m c) := by
  refine (dats m 0 c).arrAt_eq_of_covers 3 _ (by decide +kernel) fun t hf y => ?_
  obtain ⟨a, b, rfl⟩ := idx_two (A := 1024) (B := 1024) y
  refine Eq.trans ?_ (congrArg _ (blk_eq (cfg0.win 3) rfl t (ix2 a b) (ix2 (row8 t.isLt a) b) ?_)).symm
  · show (dats m 0 c).after 3 t (ix2 a b) = _
    rw [after0_3]
    refine (congrFun (by frame_out [] : out0_3 (iblk m c 0 t) (iblk m c 1 t) (iblk m c 2 t) = k0_pay1 (iblk m c 0 t) (iblk m c 1 t) (iblk m c 2 t)) (ix2 a b)).trans ?_
    pointwise [k0_pay1]
    refine (add_comm _ _).trans (congrArg₂ (· + ·) ((congrArg (V m c main_arg0) (blk_eq (cfg0.win 2) rfl t _ _ ?_)).trans (congrFun (V_x m c) _))
      (Eq.trans (Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))) (val_main_v0_apply (a1 m c) (a2 m c) _).symm))
    · rw [(idx t).2.2.1]; exact two rfl (off rfl)
    · rw [(idx t).1]; exact two rfl (off rfl)
    · rw [(idx t).2.1]; exact two (off rfl) (off rfl)
  · rw [(idx t).2.2.2]; exact two rfl (off rfl)
end

/-- Over real arguments the kernel's product and the reference's are equal. -/
theorem algebraic : algebraic_Kernel9Ideal_Reference9Ideal := by
  intro m g m' g' hpre hargs
  refine ⟨fun c => val_main_v1 (F := Ideal) (a0 m c) (a1 m c) (a2 m c),
    (θ_run defs _ _).mono (fun r h c => ⟨(h c).1.trans (final m c), (h c).2⟩) (Value.run_blocks m g),
    (θ_run Reference9Ideal.defs _ _).mono (fun r h c => ⟨(h c).1.trans ((val_main_v1_eq _ _ _).trans ?_), (h c).2⟩) (Reference9Ideal.Value.run (F := Ideal) m' g')⟩
  rw [(hargs c).1, (hargs c).2.1, (hargs c).2.2]

end Cert.Kernel9Ideal.FfnDown

namespace Cert.Kernel10Ideal.ProjGate

open Gen Reference10Ideal.Read

section
variable (m : (ℓ : Loc nD τ sig) → Buf (Elt Ideal) ℓ) (c : Dev nD)

/-- The mixers' normalised input, -/
abbrev a0 : Vec Ideal S8192x1024 .f32 := m ((c : Thread nD τ).loc main_arg0)
/-- and the weights. -/
abbrev a1 : Vec Ideal S1024x3072 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val / 3, 0] ∧ (cfg0.win 1).index t = ![0, t.val % 3] ∧ (cfg0.win 2).index t = ![t.val / 3, t.val % 3] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 (show t.val / 3 < 8 from Nat.div_lt_of_lt_mul t.isLt) a) ⟨t.val % 3 * 1024 + b.val, by omega⟩) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) rfl
  · rw [(idx t).2.2]; exact two rfl rfl
end

/-- Over real arguments the kernel's product and the reference's are equal. -/
theorem algebraic : algebraic_Kernel10Ideal_Reference10Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference10Ideal.defs _ _).mono (fun r h c => ⟨(h c).1.trans ((val_main_v0_eq _ _).trans ?_), (h c).2⟩) (Reference10Ideal.Value.run (F := Ideal) m' g')⟩
  rw [(hargs c).1, (hargs c).2]

end Cert.Kernel10Ideal.ProjGate

namespace Cert.Kernel15Ideal.MixOut

open Gen Reference15Ideal.Read

section
variable (m : (ℓ : Loc nD τ sig) → Buf (Elt Ideal) ℓ) (c : Dev nD)

/-- The layer's input, -/
abbrev a0 : Vec Ideal S8192x1024 .f32 := m ((c : Thread nD τ).loc main_arg0)
/-- the merged mixers, -/
abbrev a1 : Vec Ideal S8192x1024 .f32 := m ((c : Thread nD τ).loc main_arg1)
/-- and the weights. -/
abbrev a2 : Vec Ideal S1024x1024 .f32 := m ((c : Thread nD τ).loc main_arg2)

theorem V_v0 (i) : V m c main_v0 i = a1 m c i := by unfold V; after_results; rfl
theorem V_v1 (i) : V m c main_v1 i = a2 m c i := by unfold V; after_results; rfl
theorem V_x : V m c main_arg0 = a0 m c := by unfold V; after_results

theorem idx : ∀ t : Fin cfg0.N, (cfg0.win 0).index t = ![t.val, 0] ∧ (cfg0.win 1).index t = ![0, 0] ∧ (cfg0.win 2).index t = ![t.val, 0] ∧ (cfg0.win 3).index t = ![t.val, 0] := by decide +kernel

/-- What the kernel leaves in its output array is the reference's result. -/
theorem final : (dats m 0 c).arrAt 3 cfg0.N = val_main_v1 (F := Ideal) (a0 m c) (a1 m c) (a2 m c) := by
  refine (dats m 0 c).arrAt_eq_of_covers 3 _ (by decide +kernel) fun t hf y => ?_
  obtain ⟨a, b, rfl⟩ := idx_two (A := 1024) (B := 1024) y
  refine Eq.trans ?_ (congrArg _ (blk_eq (cfg0.win 3) rfl t (ix2 a b) (ix2 (row8 t.isLt a) b) ?_)).symm
  · show (dats m 0 c).after 3 t (ix2 a b) = _
    rw [after0_3]
    refine (congrFun (by frame_out [] : out0_3 (iblk m c 0 t) (iblk m c 1 t) (iblk m c 2 t) = k0_pay1 (iblk m c 0 t) (iblk m c 1 t) (iblk m c 2 t)) (ix2 a b)).trans ?_
    pointwise [k0_pay1]
    refine (add_comm _ _).trans (congrArg₂ (· + ·) ((congrArg (V m c main_arg0) (blk_eq (cfg0.win 2) rfl t _ _ ?_)).trans (congrFun (V_x m c) _))
      (Eq.trans (Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))) (val_main_v0_apply (a1 m c) (a2 m c) _).symm))
    · rw [(idx t).2.2.1]; exact two rfl (off rfl)
    · rw [(idx t).1]; exact two rfl (off rfl)
    · rw [(idx t).2.1]; exact two (off rfl) (off rfl)
  · rw [(idx t).2.2.2]; exact two rfl (off rfl)
end

/-- Over real arguments the kernel's product and the reference's are equal. -/
theorem algebraic : algebraic_Kernel15Ideal_Reference15Ideal := by
  intro m g m' g' hpre hargs
  refine ⟨fun c => val_main_v1 (F := Ideal) (a0 m c) (a1 m c) (a2 m c),
    (θ_run defs _ _).mono (fun r h c => ⟨(h c).1.trans (final m c), (h c).2⟩) (Value.run_blocks m g),
    (θ_run Reference15Ideal.defs _ _).mono (fun r h c => ⟨(h c).1.trans ((val_main_v1_eq _ _ _).trans ?_), (h c).2⟩) (Reference15Ideal.Value.run (F := Ideal) m' g')⟩
  rw [(hargs c).1, (hargs c).2.1, (hargs c).2.2]

end Cert.Kernel15Ideal.MixOut

namespace Cert.Kernel19Ideal.ProjU

open Gen Reference19Ideal.Read

section
variable (m : (ℓ : Loc nD τ sig) → Buf (Elt Ideal) ℓ) (c : Dev nD)

/-- The input, -/
abbrev a0 : Vec Ideal S8192x1024 .f32 := m ((c : Thread nD τ).loc main_arg0)
/-- and the weights. -/
abbrev a1 : Vec Ideal S1024x512 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 512) y
  refine Eq.trans ?_ (congrArg _ (blk_eq (cfg0.win 2) rfl t (ix2 a b) (ix2 (row8 t.isLt a) b) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel19Ideal_Reference19Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference19Ideal.defs _ _).mono (fun r h c => ⟨(h c).1.trans ((val_main_v0_eq _ _).trans ?_), (h c).2⟩) (Reference19Ideal.Value.run (F := Ideal) m' g')⟩
  rw [(hargs c).1, (hargs c).2]

end Cert.Kernel19Ideal.ProjU

namespace Cert.Kernel20Ideal.OutProd

open Gen Reference20Ideal.Read

section
variable (m : (ℓ : Loc nD τ sig) → Buf (Elt Ideal) ℓ) (c : Dev nD)

/-- The branch's output, -/
abbrev a0 : Vec Ideal S8192x512 .f32 := m ((c : Thread nD τ).loc main_arg0)
/-- and the weights. -/
abbrev a1 : Vec Ideal S512x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 t.isLt a) b) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel20Ideal_Reference20Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference20Ideal.defs _ _).mono (fun r h c => ⟨(h c).1.trans ((val_main_v0_eq _ _).trans ?_), (h c).2⟩) (Reference20Ideal.Value.run (F := Ideal) m' g')⟩
  rw [(hargs c).1, (hargs c).2]

end Cert.Kernel20Ideal.OutProd

namespace Cert.Kernel21Ideal.ProjQkv

open Gen Reference21Ideal.Read

section
variable (m : (ℓ : Loc nD τ sig) → Buf (Elt Ideal) ℓ) (c : Dev nD)

/-- The input, -/
abbrev a0 : Vec Ideal S8192x1024 .f32 := m ((c : Thread nD τ).loc main_arg0)
/-- and the weights. -/
abbrev a1 : Vec Ideal S1024x768 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val / 2, 0] ∧ (cfg0.win 1).index t = ![0, t.val % 2] ∧ (cfg0.win 2).index t = ![t.val / 2, t.val % 2] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  have ht : t.val / 2 < 8 := Nat.div_lt_of_lt_mul t.isLt
  obtain ⟨a, b, rfl⟩ := idx_two (A := 1024) (B := 384) y
  refine Eq.trans ?_ (congrArg _ (blk_eq (cfg0.win 2) rfl t (ix2 a b) (ix2 (row8 ht a) ⟨t.val % 2 * 384 + b.val, by omega⟩) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) rfl
  · rw [(idx t).2.2]; exact two rfl rfl
end

/-- Over real arguments the kernel's product and the reference's are equal. -/
theorem algebraic : algebraic_Kernel21Ideal_Reference21Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference21Ideal.defs _ _).mono (fun r h c => ⟨(h c).1.trans ((val_main_v0_eq _ _).trans ?_), (h c).2⟩) (Reference21Ideal.Value.run (F := Ideal) m' g')⟩
  rw [(hargs c).1, (hargs c).2]

end Cert.Kernel21Ideal.ProjQkv

namespace Cert.Kernel22Ideal.AttnOut

open Gen Reference22Ideal.Read

section
variable (m : (ℓ : Loc nD τ sig) → Buf (Elt Ideal) ℓ) (c : Dev nD)

/-- The causal attention's output, each head padded to 128 columns, -/
abbrev a0 : Vec Ideal S8192x1024 .f32 := m ((c : Thread nD τ).loc main_arg0)
/-- and the weights. -/
abbrev a1 : Vec Ideal S1024x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 t.isLt a) b) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel22Ideal_Reference22Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference22Ideal.defs _ _).mono (fun r h c => ⟨(h c).1.trans ((val_main_v0_eq _ _).trans ?_), (h c).2⟩) (Reference22Ideal.Value.run (F := Ideal) m' g')⟩
  rw [(hargs c).1, (hargs c).2]

end Cert.Kernel22Ideal.AttnOut

namespace Cert.Kernel26Ideal.QProj

open Gen Reference26Ideal.Read

section
variable (m : (ℓ : Loc nD τ sig) → Buf (Elt Ideal) ℓ) (c : Dev nD)

/-- The latent queries, -/
abbrev a0 : Vec Ideal S8192x384 .f32 := m ((c : Thread nD τ).loc main_arg0)
/-- and the weights. -/
abbrev a1 : Vec Ideal S384x1024 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 1024) y
  refine Eq.trans ?_ (congrArg _ (blk_eq (cfg0.win 2) rfl t (ix2 a b) (ix2 (row8 t.isLt a) b) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel26Ideal_Reference26Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference26Ideal.defs _ _).mono (fun r h c => ⟨(h c).1.trans ((val_main_v0_eq _ _).trans ?_), (h c).2⟩) (Reference26Ideal.Value.run (F := Ideal) m' g')⟩
  rw [(hargs c).1, (hargs c).2]

end Cert.Kernel26Ideal.QProj

namespace Cert.Kernel29Ideal.GluProd

open Gen Reference29Ideal.Read

section
variable (m : (ℓ : Loc nD τ sig) → Buf (Elt Ideal) ℓ) (c : Dev nD)

/-- The branch's output, -/
abbrev a0 : Vec Ideal S8192x512 .f32 := m ((c : Thread nD τ).loc main_arg0)
/-- and the weights. -/
abbrev a1 : Vec Ideal S512x512 .f32 := m ((c : Thread nD τ).loc main_arg1)

theorem V_v0 (i) : V m c main_v0 i = a0 m c i := by unfold V; after_results; rfl
theorem V_v1 (i) : V m c main_v1 i = a1 m c i := by unfold V; after_results; rfl

theorem idx : ∀ t : Fin cfg0.N, (cfg0.win 0).index t = ![t.val, 0] ∧ (cfg0.win 1).index t = ![0, 0] ∧ (cfg0.win 2).index t = ![t.val, 0] := by decide +kernel

/-- What the kernel leaves in its output array is the reference's result. -/
theorem final : (dats m 0 c).arrAt 2 cfg0.N = val_main_v0 (F := Ideal) (a0 m c) (a1 m c) := by
  refine (dats m 0 c).arrAt_eq_of_covers 2 _ (by decide +kernel) fun t hf y => ?_
  obtain ⟨a, b, rfl⟩ := idx_two (A := 1024) (B := 512) y
  refine Eq.trans ?_ (congrArg _ (blk_eq (cfg0.win 2) rfl t (ix2 a b) (ix2 (row8 t.isLt a) b) ?_)).symm
  · refine Eq.trans ?_ (val_main_v0_apply (a0 m c) (a1 m c) _).symm
    show (dats m 0 c).after 2 t (ix2 a b) = _
    rw [after0_2]
    refine (congrFun (by frame_out [] : out0_2 (iblk m c 0 t) (iblk m c 1 t) = k0_pay1 (iblk m c 0 t) (iblk m c 1 t)) (ix2 a b)).trans ?_
    pointwise [k0_pay1]
    refine Finset.sum_congr rfl fun k _ => congrArg₂ (· * ·)
      ((congrArg (V m c main_v0) (blk_eq (cfg0.win 0) rfl t _ _ ?_)).trans (V_v0 m c _))
      ((congrArg (V m c main_v1) (blk_eq (cfg0.win 1) rfl t _ _ ?_)).trans (V_v1 m c _))
    · rw [(idx t).1]; exact two rfl (off rfl)
    · rw [(idx t).2.1]; exact two (off rfl) (off rfl)
  · rw [(idx t).2.2]; exact two rfl (off rfl)
end

/-- Over real arguments the kernel's product and the reference's are equal. -/
theorem algebraic : algebraic_Kernel29Ideal_Reference29Ideal := by
  intro m g m' g' hpre hargs
  refine ⟨fun c => val_main_v0 (F := Ideal) (a0 m c) (a1 m c),
    (θ_run defs _ _).mono (fun r h c => ⟨(h c).1.trans (final m c), (h c).2⟩) (Value.run_blocks m g),
    (θ_run Reference29Ideal.defs _ _).mono (fun r h c => ⟨(h c).1.trans ((val_main_v0_eq _ _).trans ?_), (h c).2⟩) (Reference29Ideal.Value.run (F := Ideal) m' g')⟩
  rw [(hargs c).1, (hargs c).2]

end Cert.Kernel29Ideal.GluProd

namespace Cert.Proof.Claims

/-! The host references declare no semaphore. -/

theorem frame_r8 : quiescent_Reference8Ideal := fun m ρ _ =>
  (θ_run Reference8Ideal.defs _ _).mono (fun r h => ⟨fun c => (h c).2, sem_eq_zero_of_no_sems (by decide) r.2⟩) (Reference8Ideal.Value.run (F := Ideal) m ρ)
theorem frame_r9 : quiescent_Reference9Ideal := fun m ρ _ =>
  (θ_run Reference9Ideal.defs _ _).mono (fun r h => ⟨fun c => (h c).2, sem_eq_zero_of_no_sems (by decide) r.2⟩) (Reference9Ideal.Value.run (F := Ideal) m ρ)
theorem frame_r10 : quiescent_Reference10Ideal := fun m ρ _ =>
  (θ_run Reference10Ideal.defs _ _).mono (fun r h => ⟨fun c => (h c).2, sem_eq_zero_of_no_sems (by decide) r.2⟩) (Reference10Ideal.Value.run (F := Ideal) m ρ)
theorem frame_r15 : quiescent_Reference15Ideal := fun m ρ _ =>
  (θ_run Reference15Ideal.defs _ _).mono (fun r h => ⟨fun c => (h c).2, sem_eq_zero_of_no_sems (by decide) r.2⟩) (Reference15Ideal.Value.run (F := Ideal) m ρ)
theorem frame_r19 : quiescent_Reference19Ideal := fun m ρ _ =>
  (θ_run Reference19Ideal.defs _ _).mono (fun r h => ⟨fun c => (h c).2, sem_eq_zero_of_no_sems (by decide) r.2⟩) (Reference19Ideal.Value.run (F := Ideal) m ρ)
theorem frame_r20 : quiescent_Reference20Ideal := fun m ρ _ =>
  (θ_run Reference20Ideal.defs _ _).mono (fun r h => ⟨fun c => (h c).2, sem_eq_zero_of_no_sems (by decide) r.2⟩) (Reference20Ideal.Value.run (F := Ideal) m ρ)
theorem frame_r21 : quiescent_Reference21Ideal := fun m ρ _ =>
  (θ_run Reference21Ideal.defs _ _).mono (fun r h => ⟨fun c => (h c).2, sem_eq_zero_of_no_sems (by decide) r.2⟩) (Reference21Ideal.Value.run (F := Ideal) m ρ)
theorem frame_r22 : quiescent_Reference22Ideal := fun m ρ _ =>
  (θ_run Reference22Ideal.defs _ _).mono (fun r h => ⟨fun c => (h c).2, sem_eq_zero_of_no_sems (by decide) r.2⟩) (Reference22Ideal.Value.run (F := Ideal) m ρ)
theorem frame_r26 : quiescent_Reference26Ideal := fun m ρ _ =>
  (θ_run Reference26Ideal.defs _ _).mono (fun r h => ⟨fun c => (h c).2, sem_eq_zero_of_no_sems (by decide) r.2⟩) (Reference26Ideal.Value.run (F := Ideal) m ρ)
theorem frame_r29 : quiescent_Reference29Ideal := fun m ρ _ =>
  (θ_run Reference29Ideal.defs _ _).mono (fun r h => ⟨fun c => (h c).2, sem_eq_zero_of_no_sems (by decide) r.2⟩) (Reference29Ideal.Value.run (F := Ideal) m ρ)

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Launch
public import proofs.«01_k».proof.Proof.Gen.Kernel11.Skeleton
public import proofs.«01_k».proof.Proof.Gen.Kernel11Ideal.Launch
public import proofs.«01_k».proof.Proof.Gen.Kernel11Ideal.Skeleton
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel12.Launch
public import proofs.«01_k».proof.Proof.Gen.Kernel12.Skeleton
public import proofs.«01_k».proof.Proof.Gen.Kernel12Ideal.Launch
public import proofs.«01_k».proof.Proof.Gen.Kernel12Ideal.Skeleton
public import proofs.«01_k».proof.Proof.Gen.Reference12Ideal.Run
public import proofs.«01_k».proof.Proof.Gen.Reference12Ideal.Read
public import proofs.«01_k».proof.Proof.Gen.Pre_finite12
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import Idealize.ShloMosaic.Adequacy
public import Idealize.ShloMosaic.Init
public import proofs.«01_k».proof.Proof.Gen.ReferenceIdeal.Run
public import proofs.«01_k».proof.Proof.Gen.ReferenceIdeal.Read
public import proofs.«01_k».proof.Proof.K.Frame
public import proofs.«01_k».proof.Proof.KI.Frame
public import proofs.«01_k».proof.Proof.Gen.Pre_finite
public import proofs.«01_k».proof.Proof.KI.Claims
public import proofs.«01_k».proof.Proof.Val.Algebraic
public import proofs.«01_k».proof.Proof.FVal.Claims
public import proofs.«01_k».proof.Proof.CVal.Claims
public import proofs.«01_k».proof.Proof.Prod.Dx
public import proofs.«01_k».proof.Proof.Prod.Dw
public import proofs.«01_k».proof.Proof.Prod.Fwd

@[expose] public section

noncomputable section

namespace Cert.Proof

open Idealize.ShloMosaic Idealize.SL.Sem

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Pre_finite.Gen.facts, Pre_finite11.Gen.facts, Pre_finite12.Gen.facts,
  Claims.frame_p, Claims.frame_pi, fun m g _ => Claims.frame_pi m g trivial, Claims.frame_ri, fun m g _ => Claims.frame_ri m g trivial,
  fun m g _ => Kernel2.Gen.frame m g, fun m g _ => Kernel2Ideal.Gen.frame m g, Claims.frame_r2,
  fun m g _ => Kernel3.Gen.frame m g, fun m g _ => Kernel3Ideal.Gen.frame m g, Claims.frame_r3,
  fun m g _ => Kernel4.Gen.frame m g, fun m g _ => Kernel4Ideal.Gen.frame m g, Claims.frame_r4,
  fun m g _ => Kernel5.Gen.frame m g, fun m g _ => Kernel5Ideal.Gen.frame m g, Claims.frame_r5,
  fun m g _ => Kernel6.Gen.frame m g, fun m g _ => Kernel6Ideal.Gen.frame m g, Claims.frame_r6,
  fun m g _ => Kernel7.Gen.frame m g, fun m g _ => Kernel7Ideal.Gen.frame m g, Claims.frame_r7,
  fun m g _ => Kernel8.Gen.frame m g, fun m g _ => Kernel8Ideal.Gen.frame m g, Claims.frame_r8,
  fun m g _ => Kernel9.Gen.frame m g, fun m g _ => Kernel9Ideal.Gen.frame m g, Claims.frame_r9,
  fun m g _ => Kernel10.Gen.frame m g, fun m g _ => Kernel10Ideal.Gen.frame m g, Claims.frame_r10,
  Claims11.frame_p, Claims11.frame_pi, fun m g _ => Claims11.frame_pi m g trivial, Claims11.frame_ri, fun m g _ => Claims11.frame_ri m g trivial,
  Claims12.frame_p, Claims12.frame_pi, fun m g _ => Claims12.frame_pi m g trivial, Claims12.frame_ri, fun m g _ => Claims12.frame_ri m g trivial,
  fun m g _ => Kernel13.Gen.frame m g, fun m g _ => Kernel13Ideal.Gen.frame m g, Claims.frame_r13,
  fun m g _ => Kernel14.Gen.frame m g, fun m g _ => Kernel14Ideal.Gen.frame m g, Claims.frame_r14,
  fun m g _ => Kernel15.Gen.frame m g, fun m g _ => Kernel15Ideal.Gen.frame m g, Claims.frame_r15,
  fun m g _ => Kernel16.Gen.frame m g, fun m g _ => Kernel16Ideal.Gen.frame m g, Claims.frame_r16,
  fun m g _ => Kernel17.Gen.frame m g, fun m g _ => Kernel17Ideal.Gen.frame m g, Claims.frame_r17,
  fun m g _ => Kernel18.Gen.frame m g, fun m g _ => Kernel18Ideal.Gen.frame m g, Claims.frame_r18,
  fun m g _ => Kernel19.Gen.frame m g, fun m g _ => Kernel19Ideal.Gen.frame m g, Claims.frame_r19,
  fun m g _ => Kernel20.Gen.frame m g, fun m g _ => Kernel20Ideal.Gen.frame m g, Claims.frame_r20,
  fun m g _ => Kernel21.Gen.frame m g, fun m g _ => Kernel21Ideal.Gen.frame m g, Claims.frame_r21,
  fun m g _ => Kernel22.Gen.frame m g, fun m g _ => Kernel22Ideal.Gen.frame m g, Claims.frame_r22,
  fun m g _ => Kernel23.Gen.frame m g, fun m g _ => Kernel23Ideal.Gen.frame m g, Claims.frame_r23,
  fun m g _ => Kernel24.Gen.frame m g, fun m g _ => Kernel24Ideal.Gen.frame m g, Claims.frame_r24,
  fun m g _ => Kernel25.Gen.frame m g, fun m g _ => Kernel25Ideal.Gen.frame m g, Claims.frame_r25,
  fun m g _ => Kernel26.Gen.frame m g, fun m g _ => Kernel26Ideal.Gen.frame m g, Claims.frame_r26,
  fun m g _ => Kernel27.Gen.frame m g, fun m g _ => Kernel27Ideal.Gen.frame m g, Claims.frame_r27,
  fun m g _ => Kernel28.Gen.frame m g, fun m g _ => Kernel28Ideal.Gen.frame m g, Claims.frame_r28,
  fun m g _ => Kernel29.Gen.frame m g, fun m g _ => Kernel29Ideal.Gen.frame m g, Claims.frame_r29,
  fun m g _ => Kernel30.Gen.frame m g, fun m g _ => Kernel30Ideal.Gen.frame m g, Claims.frame_r30,
  fun m g _ => Kernel31.Gen.frame m g, fun m g _ => Kernel31Ideal.Gen.frame m g, Claims.frame_r31,
  fun m g _ => Kernel32.Gen.frame m g, fun m g _ => Kernel32Ideal.Gen.frame m g, Claims.frame_r32,
  Claims.preserves, Claims.algebraic,
  trivial, Kernel2Ideal.UpDx.algebraic,
  trivial, Kernel3Ideal.UpDw.algebraic,
  trivial, Kernel4Ideal.DownDx.algebraic,
  trivial, Kernel5Ideal.DownDw.algebraic,
  trivial, Kernel6Ideal.ProjDx.algebraic,
  trivial, Kernel7Ideal.GateDw.algebraic,
  trivial, Kernel8Ideal.FfnUp.algebraic,
  trivial, Kernel9Ideal.FfnDown.algebraic,
  trivial, Kernel10Ideal.ProjGate.algebraic,
  Claims11.preserves, Claims11.algebraic,
  Claims12.preserves, Claims12.algebraic,
  trivial, Kernel13Ideal.MixDx.algebraic,
  trivial, Kernel14Ideal.MixDw.algebraic,
  trivial, Kernel15Ideal.MixOut.algebraic,
  trivial, Kernel16Ideal.DwU.algebraic,
  trivial, Kernel17Ideal.DwQkv.algebraic,
  trivial, Kernel18Ideal.DwO.algebraic,
  trivial, Kernel19Ideal.ProjU.algebraic,
  trivial, Kernel20Ideal.OutProd.algebraic,
  trivial, Kernel21Ideal.ProjQkv.algebraic,
  trivial, Kernel22Ideal.AttnOut.algebraic,
  trivial, Kernel23Ideal.S5Dx.algebraic,
  trivial, Kernel24Ideal.CrossDx.algebraic,
  trivial, Kernel25Ideal.AttnDx.algebraic,
  trivial, Kernel26Ideal.QProj.algebraic,
  trivial, Kernel27Ideal.QDx.algebraic,
  trivial, Kernel28Ideal.QDw.algebraic,
  trivial, Kernel29Ideal.GluProd.algebraic,
  trivial, Kernel30Ideal.GluDx.algebraic,
  trivial, Kernel31Ideal.GluDw.algebraic,
  trivial, Kernel32Ideal.KvDx.algebraic⟩

end Cert.Proof

end
